-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_cmp [hPre_finite_cmp : Cert.Pre_finite_cmp.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_cmp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_cmp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_cmp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_cmp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_cmp [hPre_finite_cmp : Cert.Pre_finite_cmp.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_cmp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_cmp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_cmp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_cmp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_cmp [hKernel4Ideal : Cert.Kernel4Ideal.Facts] [hPre_finite_cmp : Cert.Pre_finite_cmp.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_cmp m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_cmp [hReference4Ideal : Cert.Reference4Ideal.Facts] [hPre_finite_cmp : Cert.Pre_finite_cmp.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_cmp m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v44_0)) (v1 : (c : Dev Cert.Kernel3Ideal.nD) → Buf (Elt Ideal) ((c.tc : Thread Cert.Kernel3Ideal.nD Cert.Kernel3Ideal.τ).loc Cert.Kernel3Ideal.main_v44_1)) (v2 : (c : Dev Cert.Kernel3Ideal.nD) → Buf (Elt Ideal) ((c.tc : Thread Cert.Kernel3Ideal.nD Cert.Kernel3Ideal.τ).loc Cert.Kernel3Ideal.main_v44_2)) (v3 : (c : Dev Cert.Kernel3Ideal.nD) → Buf (Elt Ideal) ((c.tc : Thread Cert.Kernel3Ideal.nD Cert.Kernel3Ideal.τ).loc Cert.Kernel3Ideal.main_v44_3)) (v4 : (c : Dev Cert.Kernel3Ideal.nD) → Buf (Elt Ideal) ((c.tc : Thread Cert.Kernel3Ideal.nD Cert.Kernel3Ideal.τ).loc Cert.Kernel3Ideal.main_v44_4)) (v5 : (c : Dev Cert.Kernel3Ideal.nD) → Buf (Elt Ideal) ((c.tc : Thread Cert.Kernel3Ideal.nD Cert.Kernel3Ideal.τ).loc Cert.Kernel3Ideal.main_v44_5)) (v6 : (c : Dev Cert.Kernel3Ideal.nD) → Buf (Elt Ideal) ((c.tc : Thread Cert.Kernel3Ideal.nD Cert.Kernel3Ideal.τ).loc Cert.Kernel3Ideal.main_v44_6)) (v7 : (c : Dev Cert.Kernel3Ideal.nD) → Buf (Elt Ideal) ((c.tc : Thread Cert.Kernel3Ideal.nD Cert.Kernel3Ideal.τ).loc Cert.Kernel3Ideal.main_v44_7)) (v8 : (c : Dev Cert.Kernel3Ideal.nD) → Buf (Elt Ideal) ((c.tc : Thread Cert.Kernel3Ideal.nD Cert.Kernel3Ideal.τ).loc Cert.Kernel3Ideal.main_v44_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v44_0) = v0 c
          ∧ r.2.mem ((c.tc : Thread Cert.Kernel3Ideal.nD Cert.Kernel3Ideal.τ).loc Cert.Kernel3Ideal.main_v44_1) = v1 c
          ∧ r.2.mem ((c.tc : Thread Cert.Kernel3Ideal.nD Cert.Kernel3Ideal.τ).loc Cert.Kernel3Ideal.main_v44_2) = v2 c
          ∧ r.2.mem ((c.tc : Thread Cert.Kernel3Ideal.nD Cert.Kernel3Ideal.τ).loc Cert.Kernel3Ideal.main_v44_3) = v3 c
          ∧ r.2.mem ((c.tc : Thread Cert.Kernel3Ideal.nD Cert.Kernel3Ideal.τ).loc Cert.Kernel3Ideal.main_v44_4) = v4 c
          ∧ r.2.mem ((c.tc : Thread Cert.Kernel3Ideal.nD Cert.Kernel3Ideal.τ).loc Cert.Kernel3Ideal.main_v44_5) = v5 c
          ∧ r.2.mem ((c.tc : Thread Cert.Kernel3Ideal.nD Cert.Kernel3Ideal.τ).loc Cert.Kernel3Ideal.main_v44_6) = v6 c
          ∧ r.2.mem ((c.tc : Thread Cert.Kernel3Ideal.nD Cert.Kernel3Ideal.τ).loc Cert.Kernel3Ideal.main_v44_7) = v7 c
          ∧ r.2.mem ((c.tc : Thread Cert.Kernel3Ideal.nD Cert.Kernel3Ideal.τ).loc Cert.Kernel3Ideal.main_v44_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v107) = v0 c
          ∧ r.2.mem ((c.tc : Thread Cert.Reference3Ideal.nD Cert.Reference3Ideal.τ).loc Cert.Reference3Ideal.main_v108) = v1 c
          ∧ r.2.mem ((c.tc : Thread Cert.Reference3Ideal.nD Cert.Reference3Ideal.τ).loc Cert.Reference3Ideal.main_v109) = v2 c
          ∧ r.2.mem ((c.tc : Thread Cert.Reference3Ideal.nD Cert.Reference3Ideal.τ).loc Cert.Reference3Ideal.main_v110) = v3 c
          ∧ r.2.mem ((c.tc : Thread Cert.Reference3Ideal.nD Cert.Reference3Ideal.τ).loc Cert.Reference3Ideal.main_v111) = v4 c
          ∧ r.2.mem ((c.tc : Thread Cert.Reference3Ideal.nD Cert.Reference3Ideal.τ).loc Cert.Reference3Ideal.main_v112) = v5 c
          ∧ r.2.mem ((c.tc : Thread Cert.Reference3Ideal.nD Cert.Reference3Ideal.τ).loc Cert.Reference3Ideal.main_v114) = v6 c
          ∧ r.2.mem ((c.tc : Thread Cert.Reference3Ideal.nD Cert.Reference3Ideal.τ).loc Cert.Reference3Ideal.main_v116) = v7 c
          ∧ r.2.mem ((c.tc : Thread Cert.Reference3Ideal.nD Cert.Reference3Ideal.τ).loc Cert.Reference3Ideal.main_v89) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_cmp [hKernel4Ideal : Cert.Kernel4Ideal.Facts] [hReference4Ideal : Cert.Reference4Ideal.Facts] [hPre_finite_cmp : Cert.Pre_finite_cmp.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_cmp m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v113_0)) (v1 : (c : Dev Cert.Kernel4Ideal.nD) → Buf (Elt Ideal) ((c.tc : Thread Cert.Kernel4Ideal.nD Cert.Kernel4Ideal.τ).loc Cert.Kernel4Ideal.main_v113_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v113_0) = v0 c
          ∧ r.2.mem ((c.tc : Thread Cert.Kernel4Ideal.nD Cert.Kernel4Ideal.τ).loc Cert.Kernel4Ideal.main_v113_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_cmp : Cert.Pre_finite_cmp.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_finite_cmp (hKernel4Ideal := hKernel4Ideal) (hPre_finite_cmp := hPre_finite_cmp)
    ∧ quiescent_Reference4Ideal (hReference4Ideal := hReference4Ideal)
    ∧ quiescent_Reference4Ideal_pre_finite_cmp (hReference4Ideal := hReference4Ideal) (hPre_finite_cmp := hPre_finite_cmp)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_finite_cmp (hKernel4Ideal := hKernel4Ideal) (hReference4Ideal := hReference4Ideal) (hPre_finite_cmp := hPre_finite_cmp)
-- ==== Pre_finite.lean ====
abbrev S2x16384x1024 : Shape := ⟨3, ![2, 16384, 1024]⟩
abbrev S1024 : Shape := ⟨1, ![1024]⟩
abbrev S1024x2328 : Shape := ⟨2, ![1024, 2328]⟩
abbrev S64 : Shape := ⟨1, ![64]⟩
abbrev S3x64 : Shape := ⟨2, ![3, 64]⟩
abbrev S_ : Shape := ⟨0, ![]⟩

class Facts : Prop where
  bcast_S_S2x16384x1024 : S_.BroadcastsInDim S2x16384x1024 (![] : Fin 0 → Fin S2x16384x1024.rank)
  bcast_S_S1024 : S_.BroadcastsInDim S1024 (![] : Fin 0 → Fin S1024.rank)
  bcast_S_S1024x2328 : S_.BroadcastsInDim S1024x2328 (![] : Fin 0 → Fin S1024x2328.rank)

variable [Facts]

def fn {F : FTy → Type} [FloatOps F] (main_arg0 : FVec F S2x16384x1024 .f32) (main_arg1 : FVec F S1024 .f32) (main_arg2 : FVec F S1024x2328 .f32) (main_arg3 : FVec F S64 .f32) (main_arg4 : FVec F S3x64 .f32) : IVec S2x16384x1024 1 × IVec S1024 1 × IVec S1024x2328 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2328 .f32 := Host.absf main_arg2
  let main_cst_1 : FVec F S_ .f32 := constant S_ .f32 0x7F800000#32
  let main_v7 : FVec F S1024x2328 .f32 := broadcastInDim S1024x2328 ![] bcast_S_S1024x2328 main_cst_1
  let main_v8 : IVec S1024x2328 1 := cmpf .olt main_v6 main_v7
  (main_v2, main_v5, main_v8)
-- ==== Pre_finite_cmp.lean ====
abbrev S2x16384x2x2x64 : Shape := ⟨5, ![2, 16384, 2, 2, 64]⟩
abbrev S3x64 : Shape := ⟨2, ![3, 64]⟩
abbrev S2x32x64 : Shape := ⟨3, ![2, 32, 64]⟩
abbrev S2x2048x128 : Shape := ⟨3, ![2, 2048, 128]⟩
abbrev S2x128x64 : Shape := ⟨3, ![2, 128, 64]⟩
abbrev S_ : Shape := ⟨0, ![]⟩
abbrev S1x128x64 : Shape := ⟨3, ![1, 128, 64]⟩
abbrev S128x64 : Shape := ⟨2, ![128, 64]⟩

class Facts : Prop where
  bcast_S_S2x16384x2x2x64 : S_.BroadcastsInDim S2x16384x2x2x64 (![] : Fin 0 → Fin S2x16384x2x2x64.rank)
  bcast_S_S2x32x64 : S_.BroadcastsInDim S2x32x64 (![] : Fin 0 → Fin S2x32x64.rank)
  bcast_S_S2x2048x128 : S_.BroadcastsInDim S2x2048x128 (![] : Fin 0 → Fin S2x2048x128.rank)
  slices_S2x128x64_S1x128x64_0_0_0 : S2x128x64.Slices ![0, 0, 0] S1x128x64
  shapeCasts_S1x128x64_S128x64 : S1x128x64.ShapeCasts S128x64
  bcast_S_S128x64 : S_.BroadcastsInDim S128x64 (![] : Fin 0 → Fin S128x64.rank)

variable [Facts]

def fn {F : FTy → Type} [FloatOps F] (main_arg0 : FVec F S2x16384x2x2x64 .f32) (main_arg1 : FVec F S3x64 .f32) (main_arg2 : FVec F S2x32x64 .f32) (main_arg3 : FVec F S2x2048x128 .f32) (main_arg4 : FVec F S2x128x64 .f32) : IVec S2x16384x2x2x64 1 × IVec S2x32x64 1 × IVec S2x2048x128 1 × IVec S128x64 1 :=
  let main_v0 : FVec F S2x16384x2x2x64 .f32 := Host.absf main_arg0
  let main_cst : FVec F S_ .f32 := constant S_ .f32 0x7F800000#32
  let main_v1 : FVec F S2x16384x2x2x64 .f32 := broadcastInDim S2x16384x2x2x64 ![] bcast_S_S2x16384x2x2x64 main_cst
  let main_v2 : IVec S2x16384x2x2x64 1 := cmpf .olt main_v0 main_v1
  let main_v3 : FVec F S2x32x64 .f32 := Host.absf main_arg2
  let main_cst_0 : FVec F S_ .f32 := constant S_ .f32 0x7F800000#32
  let main_v4 : FVec F S2x32x64 .f32 := broadcastInDim S2x32x64 ![] bcast_S_S2x32x64 main_cst_0
  let main_v5 : IVec S2x32x64 1 := cmpf .olt main_v3 main_v4
  let main_v6 : FVec F S2x2048x128 .f32 := Host.absf main_arg3
  let main_cst_1 : FVec F S_ .f32 := constant S_ .f32 0x7F800000#32
  let main_v7 : FVec F S2x2048x128 .f32 := broadcastInDim S2x2048x128 ![] bcast_S_S2x2048x128 main_cst_1
  let main_v8 : IVec S2x2048x128 1 := cmpf .olt main_v6 main_v7
  let main_v9 : FVec F S1x128x64 .f32 := (extractStridedSlice S1x128x64 ![0, 0, 0] · slices_S2x128x64_S1x128x64_0_0_0) main_arg4
  let main_v10 : FVec F S128x64 .f32 := shapeCast S128x64 main_v9 shapeCasts_S1x128x64_S128x64
  let main_v11 : FVec F S128x64 .f32 := Host.absf main_v10
  let main_cst_2 : FVec F S_ .f32 := constant S_ .f32 0x7F800000#32
  let main_v12 : FVec F S128x64 .f32 := broadcastInDim S128x64 ![] bcast_S_S128x64 main_cst_2
  let main_v13 : IVec S128x64 1 := cmpf .olt main_v11 main_v12
  (main_v2, main_v5, main_v8, main_v13)
-- ==== Kernel.lean ====
abbrev S2x16384x512 : Shape := ⟨3, ![2, 16384, 512]⟩
abbrev S4x256 : Shape := ⟨2, ![4, 256]⟩
abbrev S256 : Shape := ⟨1, ![256]⟩
abbrev S8x32x32 : Shape := ⟨3, ![8, 32, 32]⟩
abbrev S31x256 : Shape := ⟨2, ![31, 256]⟩
abbrev S1024 : Shape := ⟨1, ![1024]⟩
abbrev S1x256 : Shape := ⟨2, ![1, 256]⟩
abbrev S8x8 : Shape := ⟨2, ![8, 8]⟩
abbrev S_ : Shape := ⟨0, ![]⟩
abbrev S8x32x1x32 : Shape := ⟨4, ![8, 32, 1, 32]⟩
abbrev S8x1x8x1 : Shape := ⟨4, ![8, 1, 8, 1]⟩
abbrev S8x32x8x32 : Shape := ⟨4, ![8, 32, 8, 32]⟩
abbrev S256x256 : Shape := ⟨2, ![256, 256]⟩
abbrev S2x16384x256 : Shape := ⟨3, ![2, 16384, 256]⟩
abbrev S1x512x512 : Shape := ⟨3, ![1, 512, 512]⟩
abbrev S1x512x256 : Shape := ⟨3, ![1, 512, 256]⟩
abbrev S528x256 : Shape := ⟨2, ![528, 256]⟩
abbrev S552x256 : Shape := ⟨2, ![552, 256]⟩
abbrev S8x256 : Shape := ⟨2, ![8, 256]⟩
abbrev S32x256 : Shape := ⟨2, ![32, 256]⟩
abbrev S512x256 : Shape := ⟨2, ![512, 256]⟩
abbrev S520x256 : Shape := ⟨2, ![520, 256]⟩
abbrev S512 : Shape := ⟨1, ![512]⟩
abbrev S512x1 : Shape := ⟨2, ![512, 1]⟩

abbrev nBuf : Space → Nat
  | .hbm => 55
  | .vmem => 24
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S4x256, .f32⟩
  | .hbm, ⟨3, _⟩ => ⟨S256, .f32⟩
  | .hbm, ⟨4, _⟩ => ⟨S8x32x32, .f32⟩
  | .hbm, ⟨5, _⟩ => ⟨S256, .f32⟩
  | .hbm, ⟨6, _⟩ => ⟨S8x32x32, .f32⟩
  | .hbm, ⟨7, _⟩ => ⟨S256, .f32⟩
  | .hbm, ⟨8, _⟩ => ⟨S256, .f32⟩
  | .hbm, ⟨9, _⟩ => ⟨S31x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S1024, .f32⟩
  | .hbm, ⟨14, _⟩ => ⟨S1x256, .f32⟩
  | .hbm, ⟨15, _⟩ => ⟨S8x8, .i32⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S8x8, .f32⟩
  | .hbm, ⟨22, _⟩ => ⟨S8x32x1x32, .f32⟩
  | .hbm, ⟨23, _⟩ => ⟨S8x1x8x1, .f32⟩
  | .hbm, ⟨24, _⟩ => ⟨S8x32x8x32, .f32⟩
  | .hbm, ⟨25, _⟩ => ⟨S8x32x8x32, .f32⟩
  | .hbm, ⟨26, _⟩ => ⟨S8x32x8x32, .f32⟩
  | .hbm, ⟨27, _⟩ => ⟨S256x256, .f32⟩
  | .hbm, ⟨28, _⟩ => ⟨S256x256, .bf16⟩
  | .hbm, ⟨29, _⟩ => ⟨S1x256, .f32⟩
  | .hbm, ⟨30, _⟩ => ⟨S8x8, .i32⟩
  | .hbm, ⟨31, _⟩ => ⟨S8x8, .i32⟩
  | .hbm, ⟨32, _⟩ => ⟨S_, .i32⟩
  | .hbm, ⟨33, _⟩ => ⟨S8x8, .i32⟩
  | .hbm, ⟨34, _⟩ => ⟨S8x8, .i32⟩
  | .hbm, ⟨35, _⟩ => ⟨S8x8, .i1⟩
  | .hbm, ⟨36, _⟩ => ⟨S8x8, .f32⟩
  | .hbm, ⟨37, _⟩ => ⟨S8x32x1x32, .f32⟩
  | .hbm, ⟨38, _⟩ => ⟨S8x1x8x1, .f32⟩
  | .hbm, ⟨39, _⟩ => ⟨S8x32x8x32, .f32⟩
  | .hbm, ⟨40, _⟩ => ⟨S8x32x8x32, .f32⟩
  | .hbm, ⟨41, _⟩ => ⟨S8x32x8x32, .f32⟩
  | .hbm, ⟨42, _⟩ => ⟨S256x256, .f32⟩
  | .hbm, ⟨43, _⟩ => ⟨S256x256, .bf16⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S2x16384x256, .bf16⟩
  | .hbm, ⟨54, _⟩ => ⟨S2x16384x256, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S4x256, .f32⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S31x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S528x256, .f32⟩
  | .local _ .vmem, ⟨22, _⟩ => ⟨S552x256, .f32⟩
  | .local _ .vmem, ⟨23, _⟩ => ⟨S8x256, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S31x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S2x16384x512 : Shape := ⟨3, ![2, 16384, 512]⟩
abbrev S4x256 : Shape := ⟨2, ![4, 256]⟩
abbrev S256 : Shape := ⟨1, ![256]⟩
abbrev S8x32x32 : Shape := ⟨3, ![8, 32, 32]⟩
abbrev S31x256 : Shape := ⟨2, ![31, 256]⟩
abbrev S1024 : Shape := ⟨1, ![1024]⟩
abbrev S2x16384x256 : Shape := ⟨3, ![2, 16384, 256]⟩
abbrev S_ : Shape := ⟨0, ![]⟩
abbrev S2x16387x256 : Shape := ⟨3, ![2, 16387, 256]⟩
abbrev S16384 : Shape := ⟨1, ![16384]⟩
abbrev S16384x1 : Shape := ⟨2, ![16384, 1]⟩
abbrev S4 : Shape := ⟨1, ![4]⟩
abbrev S1x4 : Shape := ⟨2, ![1, 4]⟩
abbrev S16384x4 : Shape := ⟨2, ![16384, 4]⟩
abbrev S16384x4x1 : Shape := ⟨3, ![16384, 4, 1]⟩
abbrev S2x16384x4x256 : Shape := ⟨4, ![2, 16384, 4, 256]⟩
abbrev S1x1x4x256 : Shape := ⟨4, ![1, 1, 4, 256]⟩
abbrev S1x1x256 : Shape := ⟨3, ![1, 1, 256]⟩
abbrev S2x16384x8x32 : Shape := ⟨4, ![2, 16384, 8, 32]⟩
abbrev S8x32x2x16384 : Shape := ⟨4, ![8, 32, 2, 16384]⟩
abbrev S2x256 : Shape := ⟨2, ![2, 256]⟩
abbrev S16384x2x256 : Shape := ⟨3, ![16384, 2, 256]⟩
abbrev S1x2x256 : Shape := ⟨3, ![1, 2, 256]⟩
abbrev S2x16414x256 : Shape := ⟨3, ![2, 16414, 256]⟩
abbrev S31 : Shape := ⟨1, ![31]⟩
abbrev S1x31 : Shape := ⟨2, ![1, 31]⟩
abbrev S16384x31 : Shape := ⟨2, ![16384, 31]⟩
abbrev S16384x31x1 : Shape := ⟨3, ![16384, 31, 1]⟩
abbrev S2x16384x31x256 : Shape := ⟨4, ![2, 16384, 31, 256]⟩
abbrev S1x1x31x256 : Shape := ⟨4, ![1, 1, 31, 256]⟩
abbrev S2x16384 : Shape := ⟨2, ![2, 16384]⟩
abbrev S2x16384x1 : Shape := ⟨3, ![2, 16384, 1]⟩

abbrev nBuf : Space → Nat
  | .hbm => 249
  | .vmem => 0
  | .smem => 0
  | _ => 0

abbrev hbmTy0_0 (i : Nat) : BufTy := match i % 128 with
  | 0 => ⟨S2x16384x512, .f32⟩
  | 1 => ⟨S2x16384x512, .f32⟩
  | 2 => ⟨S4x256, .f32⟩
  | 3 => ⟨S256, .f32⟩
  | 4 => ⟨S8x32x32, .f32⟩
  | 5 => ⟨S256, .f32⟩
  | 6 => ⟨S8x32x32, .f32⟩
  | 7 => ⟨S256, .f32⟩
  | 8 => ⟨S256, .f32⟩
  | 9 => ⟨S31x256, .f32⟩
  | 10 => ⟨S256, .f32⟩
  | 11 => ⟨S256, .f32⟩
  | 12 => ⟨S256, .f32⟩
  | 13 => ⟨S1024, .f32⟩
  | 14 => ⟨S2x16384x256, .f32⟩
  | 15 => ⟨S_, .i32⟩
  | 16 => ⟨S_, .f32⟩
  | 17 => ⟨S2x16387x256, .f32⟩
  | 18 => ⟨S16384, .i32⟩
  | 19 => ⟨S16384x1, .i32⟩
  | 20 => ⟨S4, .i32⟩
  | 21 => ⟨S1x4, .i32⟩
  | 22 => ⟨S16384x4, .i32⟩
  | 23 => ⟨S16384x4, .i32⟩
  | 24 => ⟨S16384x4, .i32⟩
  | 25 => ⟨S16384x4x1, .i32⟩
  | 26 => ⟨S2x16384x4x256, .f32⟩
  | 27 => ⟨S1x1x4x256, .f32⟩
  | 28 => ⟨S2x16384x4x256, .f32⟩
  | 29 => ⟨S2x16384x4x256, .f32⟩
  | 30 => ⟨S_, .f32⟩
  | 31 => ⟨S2x16384x256, .f32⟩
  | 32 => ⟨S1x1x256, .f32⟩
  | 33 => ⟨S2x16384x256, .f32⟩
  | 34 => ⟨S2x16384x256, .f32⟩
  | 35 => ⟨S2x16384x8x32, .f32⟩
  | 36 => ⟨S8x32x2x16384, .f32⟩
  | 37 => ⟨S2x16384x8x32, .f32⟩
  | 38 => ⟨S2x16384x256, .f32⟩
  | 39 => ⟨S1x1x256, .f32⟩
  | 40 => ⟨S2x16384x256, .f32⟩
  | 41 => ⟨S2x16384x256, .f32⟩
  | 42 => ⟨S2x16384x256, .f32⟩
  | 43 => ⟨S2x16384x256, .f32⟩
  | 44 => ⟨S_, .f32⟩
  | 45 => ⟨S2x16384x256, .f32⟩
  | 46 => ⟨S2x16384x256, .f32⟩
  | 47 => ⟨S_, .f32⟩
  | 48 => ⟨S2x16384x256, .f32⟩
  | 49 => ⟨S2x16384x256, .f32⟩
  | 50 => ⟨S8x32x2x16384, .f32⟩
  | 51 => ⟨S2x16384x8x32, .f32⟩
  | 52 => ⟨S2x16384x256, .f32⟩
  | 53 => ⟨S1x1x256, .f32⟩
  | 54 => ⟨S2x16384x256, .f32⟩
  | 55 => ⟨S2x16384x256, .f32⟩
  | 56 => ⟨S2x16384x256, .f32⟩
  | 57 => ⟨S2x16384x256, .f32⟩
  | 58 => ⟨S_, .f32⟩
  | 59 => ⟨S2x16384x256, .f32⟩
  | 60 => ⟨S2x16384x256, .f32⟩
  | 61 => ⟨S_, .f32⟩
  | 62 => ⟨S2x16384x256, .f32⟩
  | 63 => ⟨S2x16384x256, .f32⟩
  | 64 => ⟨S_, .f32⟩
  | 65 => ⟨S2x16384x256, .f32⟩
  | 66 => ⟨S2x16384x256, .f32⟩
  | 67 => ⟨S256, .f32⟩
  | 68 => ⟨S_, .f32⟩
  | 69 => ⟨S256, .f32⟩
  | 70 => ⟨S256, .f32⟩
  | 71 => ⟨S256, .f32⟩
  | 72 => ⟨S256, .f32⟩
  | 73 => ⟨S256, .i1⟩
  | 74 => ⟨S256, .f32⟩
  | 75 => ⟨S256, .f32⟩
  | 76 => ⟨S256, .f32⟩
  | 77 => ⟨S256, .f32⟩
  | 78 => ⟨S256, .f32⟩
  | 79 => ⟨S256, .f32⟩
  | 80 => ⟨S256, .f32⟩
  | 81 => ⟨S256, .f32⟩
  | 82 => ⟨S1x1x256, .f32⟩
  | 83 => ⟨S2x16384x256, .f32⟩
  | 84 => ⟨S2x16384x256, .f32⟩
  | 85 => ⟨S2x16384x256, .f32⟩
  | 86 => ⟨S2x16384x256, .f32⟩
  | 87 => ⟨S_, .f32⟩
  | 88 => ⟨S2x16384x256, .f32⟩
  | 89 => ⟨S2x16384x256, .f32⟩
  | 90 => ⟨S2x16384x256, .f32⟩
  | 91 => ⟨S2x16384x256, .f32⟩
  | 92 => ⟨S2x16384x256, .f32⟩
  | 93 => ⟨S2x16384x256, .f32⟩
  | 94 => ⟨S_, .f32⟩
  | 95 => ⟨S2x256, .f32⟩
  | 96 => ⟨S16384x2x256, .f32⟩
  | 97 => ⟨S16384x2x256, .f32⟩
  | 98 => ⟨S_, .f32⟩
  | 99 => ⟨S16384x2x256, .f32⟩
  | 100 => ⟨S_, .i32⟩
  | 101 => ⟨S16384x2x256, .f32⟩
  | 102 => ⟨S16384x2x256, .f32⟩
  | 103 => ⟨S_, .i32⟩
  | 104 => ⟨S2x256, .f32⟩
  | 105 => ⟨S16384x2x256, .f32⟩
  | 106 => ⟨S_, .i32⟩
  | 107 => ⟨S_, .i1⟩
  | 108 => ⟨S_, .i32⟩
  | 109 => ⟨S_, .i32⟩
  | 110 => ⟨S1x2x256, .f32⟩
  | 111 => ⟨S2x256, .f32⟩
  | 112 => ⟨S_, .i32⟩
  | 113 => ⟨S_, .i32⟩
  | 114 => ⟨S1x2x256, .f32⟩
  | 115 => ⟨S2x256, .f32⟩
  | 116 => ⟨S2x256, .f32⟩
  | 117 => ⟨S2x256, .f32⟩
  | 118 => ⟨S1x2x256, .f32⟩
  | 119 => ⟨S_, .i32⟩
  | 120 => ⟨S_, .i32⟩
  | 121 => ⟨S16384x2x256, .f32⟩
  | 122 => ⟨S_, .i32⟩
  | 123 => ⟨S_, .i32⟩
  | 124 => ⟨S2x16384x256, .f32⟩
  | 125 => ⟨S2x16384x256, .f32⟩
  | 126 => ⟨S2x16384x256, .f32⟩
  | 127 => ⟨S2x16384x256, .f32⟩
  | _ => ⟨S2x16384x512, .f32⟩

abbrev hbmTy0_1 (i : Nat) : BufTy := match i % 128 with
  | 0 => ⟨S_, .f32⟩
  | 1 => ⟨S2x16384x256, .f32⟩
  | 2 => ⟨S2x16384x256, .f32⟩
  | 3 => ⟨S2x16384x256, .f32⟩
  | 4 => ⟨S_, .f32⟩
  | 5 => ⟨S2x16384x256, .f32⟩
  | 6 => ⟨S2x16384x256, .f32⟩
  | 7 => ⟨S2x16384x256, .f32⟩
  | 8 => ⟨S_, .f32⟩
  | 9 => ⟨S2x16384x256, .f32⟩
  | 10 => ⟨S2x16384x256, .f32⟩
  | 11 => ⟨S_, .f32⟩
  | 12 => ⟨S2x16384x256, .f32⟩
  | 13 => ⟨S2x16384x256, .f32⟩
  | 14 => ⟨S2x16384x256, .f32⟩
  | 15 => ⟨S2x16384x256, .f32⟩
  | 16 => ⟨S2x16384x256, .f32⟩
  | 17 => ⟨S2x16384x256, .f32⟩
  | 18 => ⟨S2x16384x256, .f32⟩
  | 19 => ⟨S2x16384x256, .f32⟩
  | 20 => ⟨S_, .f32⟩
  | 21 => ⟨S2x16384x256, .f32⟩
  | 22 => ⟨S2x16384x256, .f32⟩
  | 23 => ⟨S_, .f32⟩
  | 24 => ⟨S2x16384x256, .f32⟩
  | 25 => ⟨S2x16384x256, .f32⟩
  | 26 => ⟨S2x16384x256, .f32⟩
  | 27 => ⟨S_, .i32⟩
  | 28 => ⟨S_, .f32⟩
  | 29 => ⟨S2x16414x256, .f32⟩
  | 30 => ⟨S16384, .i32⟩
  | 31 => ⟨S16384x1, .i32⟩
  | 32 => ⟨S31, .i32⟩
  | 33 => ⟨S1x31, .i32⟩
  | 34 => ⟨S16384x31, .i32⟩
  | 35 => ⟨S16384x31, .i32⟩
  | 36 => ⟨S16384x31, .i32⟩
  | 37 => ⟨S16384x31x1, .i32⟩
  | 38 => ⟨S2x16384x31x256, .f32⟩
  | 39 => ⟨S1x1x31x256, .f32⟩
  | 40 => ⟨S2x16384x31x256, .f32⟩
  | 41 => ⟨S2x16384x31x256, .f32⟩
  | 42 => ⟨S_, .f32⟩
  | 43 => ⟨S2x16384x256, .f32⟩
  | 44 => ⟨S1x1x256, .f32⟩
  | 45 => ⟨S2x16384x256, .f32⟩
  | 46 => ⟨S2x16384x256, .f32⟩
  | 47 => ⟨S_, .f32⟩
  | 48 => ⟨S2x16384, .f32⟩
  | 49 => ⟨S2x16384x1, .f32⟩
  | 50 => ⟨S_, .f32⟩
  | 51 => ⟨S2x16384x1, .f32⟩
  | 52 => ⟨S2x16384x1, .f32⟩
  | 53 => ⟨S2x16384x256, .f32⟩
  | 54 => ⟨S2x16384x256, .f32⟩
  | 55 => ⟨S2x16384x256, .f32⟩
  | 56 => ⟨S_, .f32⟩
  | 57 => ⟨S2x16384, .f32⟩
  | 58 => ⟨S2x16384x1, .f32⟩
  | 59 => ⟨S_, .f32⟩
  | 60 => ⟨S2x16384x1, .f32⟩
  | 61 => ⟨S2x16384x1, .f32⟩
  | 62 => ⟨S2x16384x256, .f32⟩
  | 63 => ⟨S2x16384x256, .f32⟩
  | 64 => ⟨S_, .f32⟩
  | 65 => ⟨S2x16384x1, .f32⟩
  | 66 => ⟨S2x16384x1, .f32⟩
  | 67 => ⟨S2x16384x1, .f32⟩
  | 68 => ⟨S2x16384x256, .f32⟩
  | 69 => ⟨S2x16384x256, .f32⟩
  | 70 => ⟨S1x1x256, .f32⟩
  | 71 => ⟨S2x16384x256, .f32⟩
  | 72 => ⟨S2x16384x256, .f32⟩
  | 73 => ⟨S1x1x256, .f32⟩
  | 74 => ⟨S2x16384x256, .f32⟩
  | 75 => ⟨S2x16384x256, .f32⟩
  | 76 => ⟨S2x16384x256, .f32⟩
  | 77 => ⟨S2x16384x256, .f32⟩
  | 78 => ⟨S_, .f32⟩
  | 79 => ⟨S2x16384x256, .f32⟩
  | 80 => ⟨S2x16384x256, .f32⟩
  | 81 => ⟨S_, .f32⟩
  | 82 => ⟨S2x16384x256, .f32⟩
  | 83 => ⟨S2x16384x256, .f32⟩
  | 84 => ⟨S2x16384x256, .f32⟩
  | 85 => ⟨S256, .f32⟩
  | 86 => ⟨S2x16384x256, .f32⟩
  | 87 => ⟨S_, .f32⟩
  | 88 => ⟨S2x16384, .f32⟩
  | 89 => ⟨S2x16384x1, .f32⟩
  | 90 => ⟨S_, .f32⟩
  | 91 => ⟨S2x16384x1, .f32⟩
  | 92 => ⟨S2x16384x1, .f32⟩
  | 93 => ⟨S_, .f32⟩
  | 94 => ⟨S2x16384x1, .f32⟩
  | 95 => ⟨S2x16384x1, .f32⟩
  | 96 => ⟨S2x16384x1, .f32⟩
  | 97 => ⟨S2x16384x256, .f32⟩
  | 98 => ⟨S2x16384x256, .f32⟩
  | 99 => ⟨S1x1x256, .f32⟩
  | 100 => ⟨S2x16384x256, .f32⟩
  | 101 => ⟨S2x16384x256, .f32⟩
  | 102 => ⟨S2x16384x256, .bf16⟩
  | 103 => ⟨S256, .f32⟩
  | 104 => ⟨S2x16384x256, .f32⟩
  | 105 => ⟨S_, .f32⟩
  | 106 => ⟨S2x16384, .f32⟩
  | 107 => ⟨S2x16384x1, .f32⟩
  | 108 => ⟨S_, .f32⟩
  | 109 => ⟨S2x16384x1, .f32⟩
  | 110 => ⟨S2x16384x1, .f32⟩
  | 111 => ⟨S_, .f32⟩
  | 112 => ⟨S2x16384x1, .f32⟩
  | 113 => ⟨S2x16384x1, .f32⟩
  | 114 => ⟨S2x16384x1, .f32⟩
  | 115 => ⟨S2x16384x256, .f32⟩
  | 116 => ⟨S2x16384x256, .f32⟩
  | 117 => ⟨S1x1x256, .f32⟩
  | 118 => ⟨S2x16384x256, .f32⟩
  | 119 => ⟨S2x16384x256, .f32⟩
  | 120 => ⟨S2x16384x256, .bf16⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_2 : Ref sig .tc := ⟨.hbm, 58, rfl⟩
abbrev main_v38 : Ref sig .tc := ⟨.hbm, 59, rfl⟩
abbrev main_v39 : Ref sig .tc := ⟨.hbm, 60, rfl⟩
abbrev main_cst_3 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_5 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_6 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_7 : Ref sig .tc := ⟨.hbm, 98, rfl⟩
abbrev main_v60 : Ref sig .tc := ⟨.hbm, 99, rfl⟩
abbrev main_c_8 : Ref sig .tc := ⟨.hbm, 100, rfl⟩
abbrev main_v61_0 : Ref sig .tc := ⟨.hbm, 101, rfl⟩
abbrev main_v61_1 : Ref sig .tc := ⟨.hbm, 102, rfl⟩
abbrev main_v61_2 : Ref sig .tc := ⟨.hbm, 103, rfl⟩
abbrev main_v61_3 : Ref sig .tc := ⟨.hbm, 104, rfl⟩
abbrev main_v61_4 : Ref sig .tc := ⟨.hbm, 105, rfl⟩
abbrev main_while0c_c_32 : Ref sig .tc := ⟨.hbm, 106, rfl⟩
abbrev main_while0c_v158 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_call3_v0 : Ref sig .tc := ⟨.hbm, 110, rfl⟩
abbrev main_while0b_v158 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_v0 : Ref sig .tc := ⟨.hbm, 114, rfl⟩
abbrev main_while0b_v159 : Ref sig .tc := ⟨.hbm, 115, rfl⟩
abbrev main_while0b_v160 : Ref sig .tc := ⟨.hbm, 116, rfl⟩
abbrev main_while0b_v161 : Ref sig .tc := ⟨.hbm, 117, rfl⟩
abbrev main_while0b_call5_v0 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_v162 : Ref sig .tc := ⟨.hbm, 121, rfl⟩
abbrev main_while0b_c_32 : Ref sig .tc := ⟨.hbm, 122, rfl⟩
abbrev main_while0b_v163 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_cst_9 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_10 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_cst_11 : Ref sig .tc := ⟨.hbm, 136, rfl⟩
abbrev main_v72 : Ref sig .tc := ⟨.hbm, 137, rfl⟩
abbrev main_v73 : Ref sig .tc := ⟨.hbm, 138, rfl⟩
abbrev main_cst_12 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_cst_13 : Ref sig .tc := ⟨.hbm, 148, rfl⟩
abbrev main_v82 : Ref sig .tc := ⟨.hbm, 149, rfl⟩
abbrev main_v83 : Ref sig .tc := ⟨.hbm, 150, rfl⟩
abbrev main_cst_14 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_c_15 : Ref sig .tc := ⟨.hbm, 155, rfl⟩
abbrev main_call6_v0 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_call7_v0 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_cst_16 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_cst_17 : Ref sig .tc := ⟨.hbm, 175, rfl⟩
abbrev main_v103 : Ref sig .tc := ⟨.hbm, 176, rfl⟩
abbrev main_v104 : Ref sig .tc := ⟨.hbm, 177, rfl⟩
abbrev main_cst_18 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_cst_19 : Ref sig .tc := ⟨.hbm, 184, rfl⟩
abbrev main_v110 : Ref sig .tc := ⟨.hbm, 185, rfl⟩
abbrev main_v111 : Ref sig .tc := ⟨.hbm, 186, rfl⟩
abbrev main_cst_20 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_cst_21 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_call8_v0 : Ref sig .tc := ⟨.hbm, 204, rfl⟩
abbrev main_call8_v1 : Ref sig .tc := ⟨.hbm, 205, rfl⟩
abbrev main_call8_cst : Ref sig .tc := ⟨.hbm, 206, rfl⟩
abbrev main_call8_v2 : Ref sig .tc := ⟨.hbm, 207, rfl⟩
abbrev main_call8_v3 : Ref sig .tc := ⟨.hbm, 208, rfl⟩
abbrev main_call8_cst_0 : Ref sig .tc := ⟨.hbm, 209, rfl⟩
abbrev main_call8_v4 : Ref sig .tc := ⟨.hbm, 210, rfl⟩
abbrev main_call8_v5 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_cst_22 : Ref sig .tc := ⟨.hbm, 215, rfl⟩
abbrev main_v130 : Ref sig .tc := ⟨.hbm, 216, rfl⟩
abbrev main_v131 : Ref sig .tc := ⟨.hbm, 217, rfl⟩
abbrev main_cst_23 : Ref sig .tc := ⟨.hbm, 218, rfl⟩
abbrev main_v132 : Ref sig .tc := ⟨.hbm, 219, rfl⟩
abbrev main_v133 : Ref sig .tc := ⟨.hbm, 220, rfl⟩
abbrev main_cst_24 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_cst_25 : Ref sig .tc := ⟨.hbm, 233, rfl⟩
abbrev main_v145 : Ref sig .tc := ⟨.hbm, 234, rfl⟩
abbrev main_v146 : Ref sig .tc := ⟨.hbm, 235, rfl⟩
abbrev main_cst_26 : Ref sig .tc := ⟨.hbm, 236, rfl⟩
abbrev main_v147 : Ref sig .tc := ⟨.hbm, 237, rfl⟩
abbrev main_v148 : Ref sig .tc := ⟨.hbm, 238, rfl⟩
abbrev main_cst_27 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S2x16384x1024 : Shape := ⟨3, ![2, 16384, 1024]⟩
abbrev S2x16384x512 : Shape := ⟨3, ![2, 16384, 512]⟩
abbrev S2x16384x256 : Shape := ⟨3, ![2, 16384, 256]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S32768x256 : Shape := ⟨2, ![32768, 256]⟩
abbrev S512 : Shape := ⟨1, ![512]⟩
abbrev S1x512 : Shape := ⟨2, ![1, 512]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512x1 : Shape := ⟨2, ![512, 1]⟩
abbrev S256x1024 : Shape := ⟨2, ![256, 1024]⟩

abbrev nBuf : Space → Nat
  | .hbm => 20
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x256, .bf16⟩
  | .hbm, ⟨3, _⟩ => ⟨S2x16384x256, .bf16⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S32768x1024, .f32⟩
  | .hbm, ⟨10, _⟩ => ⟨S32768x512, .f32⟩
  | .hbm, ⟨11, _⟩ => ⟨S32768x256, .bf16⟩
  | .hbm, ⟨12, _⟩ => ⟨S32768x256, .bf16⟩
  | .hbm, ⟨13, _⟩ => ⟨S512, .f32⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S512x1024, .f32⟩
  | .local _ .vmem, ⟨14, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x16384x1024 : Shape := ⟨3, ![2, 16384, 1024]⟩
abbrev S2x16384x512 : Shape := ⟨3, ![2, 16384, 512]⟩
abbrev S2x16384x256 : Shape := ⟨3, ![2, 16384, 256]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S512 : Shape := ⟨1, ![512]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S1x1x1024 : Shape := ⟨3, ![1, 1, 1024]⟩
abbrev S2x16384x4096 : Shape := ⟨3, ![2, 16384, 4096]⟩
abbrev S32768x1024 : Shape := ⟨2, ![32768, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x256, .bf16⟩
  | .hbm, ⟨3, _⟩ => ⟨S2x16384x256, .bf16⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S512, .f32⟩
  | .hbm, ⟨10, _⟩ => ⟨S2x16384x512, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x512, .f32⟩
  | .hbm, ⟨22, _⟩ => ⟨S2x16384x512, .f32⟩
  | .hbm, ⟨23, _⟩ => ⟨S1x1x512, .f32⟩
  | .hbm, ⟨24, _⟩ => ⟨S2x16384x512, .f32⟩
  | .hbm, ⟨25, _⟩ => ⟨S2x16384x512, .f32⟩
  | .hbm, ⟨26, _⟩ => ⟨S2x16384x256, .f32⟩
  | .hbm, ⟨27, _⟩ => ⟨S2x16384x256, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S_, .f32⟩
  | .hbm, ⟨33, _⟩ => ⟨S2x16384, .f32⟩
  | .hbm, ⟨34, _⟩ => ⟨S2x16384x1, .f32⟩
  | .hbm, ⟨35, _⟩ => ⟨S_, .f32⟩
  | .hbm, ⟨36, _⟩ => ⟨S2x16384x1, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S2x16384x1, .f32⟩
  | .hbm, ⟨42, _⟩ => ⟨S2x16384x1024, .f32⟩
  | .hbm, ⟨43, _⟩ => ⟨S2x16384x1024, .f32⟩
  | .hbm, ⟨44, _⟩ => ⟨S1x1x1024, .f32⟩
  | .hbm, ⟨45, _⟩ => ⟨S2x16384x1024, .f32⟩
  | .hbm, ⟨46, _⟩ => ⟨S2x16384x1024, .f32⟩
  | .hbm, ⟨47, _⟩ => ⟨S2x16384x4096, .f32⟩
  | .hbm, ⟨48, _⟩ => ⟨S_, .f32⟩
  | .hbm, ⟨49, _⟩ => ⟨S2x16384x4096, .f32⟩
  | .hbm, ⟨50, _⟩ => ⟨S2x16384x4096, .f32⟩
  | .hbm, ⟨51, _⟩ => ⟨S2x16384x4096, .f32⟩
  | .hbm, ⟨52, _⟩ => ⟨S2x16384x1024, .f32⟩
  | .hbm, ⟨53, _⟩ => ⟨S2x16384x1024, .f32⟩
  | .hbm, ⟨54, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x2328 : Shape := ⟨2, ![1024, 2328]⟩
abbrev S64 : Shape := ⟨1, ![64]⟩
abbrev S3x64 : Shape := ⟨2, ![3, 64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S_ : Shape := ⟨0, ![]⟩
abbrev S2x64 : Shape := ⟨2, ![2, 64]⟩
abbrev S128 : Shape := ⟨1, ![128]⟩
abbrev S256 : Shape := ⟨1, ![256]⟩
abbrev S1x256 : Shape := ⟨2, ![1, 256]⟩
abbrev S32768x1024 : Shape := ⟨2, ![32768, 1024]⟩
abbrev S1x1024 : Shape := ⟨2, ![1, 1024]⟩
abbrev S1024x128 : Shape := ⟨2, ![1024, 128]⟩
abbrev S1024x24 : Shape := ⟨2, ![1024, 24]⟩
abbrev S1024x512 : Shape := ⟨2, ![1024, 512]⟩
abbrev S1024x1024 : Shape := ⟨2, ![1024, 1024]⟩
abbrev S1024x2432 : Shape := ⟨2, ![1024, 2432]⟩
abbrev S256x1 : Shape := ⟨2, ![256, 1]⟩
abbrev S256x256 : Shape := ⟨2, ![256, 256]⟩
abbrev S32768x512 : Shape := ⟨2, ![32768, 512]⟩
abbrev S2048x4096 : Shape := ⟨2, ![2048, 4096]⟩
abbrev S2x2x16384x128 : Shape := ⟨4, ![2, 2, 16384, 128]⟩
abbrev S2x2x128x80x128 : Shape := ⟨5, ![2, 2, 128, 80, 128]⟩
abbrev S2x32x16384 : Shape := ⟨3, ![2, 32, 16384]⟩
abbrev S512x1024 : Shape := ⟨2, ![512, 1024]⟩
abbrev S512x512 : Shape := ⟨2, ![512, 512]⟩
abbrev S32x4096 : Shape := ⟨2, ![32, 4096]⟩
abbrev S1x2x512x128 : Shape := ⟨4, ![1, 2, 512, 128]⟩
abbrev S1x2x4x80x128 : Shape := ⟨5, ![1, 2, 4, 80, 128]⟩
abbrev S1x32x512 : Shape := ⟨3, ![1, 32, 512]⟩
abbrev S2x512x128 : Shape := ⟨3, ![2, 512, 128]⟩
abbrev S512x1 : Shape := ⟨2, ![512, 1]⟩
abbrev S512x256 : Shape := ⟨2, ![512, 256]⟩
abbrev S1024x256 : Shape := ⟨2, ![1024, 256]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩
abbrev S1x1x512x128 : Shape := ⟨4, ![1, 1, 512, 128]⟩
abbrev S256x512 : Shape := ⟨2, ![256, 512]⟩
abbrev S16x128 : Shape := ⟨2, ![16, 128]⟩
abbrev S64x128 : Shape := ⟨2, ![64, 128]⟩
abbrev S1x1x1x64x128 : Shape := ⟨5, ![1, 1, 1, 64, 128]⟩
abbrev S1x1x1x16x128 : Shape := ⟨5, ![1, 1, 1, 16, 128]⟩
abbrev S128x512 : Shape := ⟨2, ![128, 512]⟩
abbrev S32x512 : Shape := ⟨2, ![32, 512]⟩

abbrev nBuf : Space → Nat
  | .hbm => 63
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2328, .f32⟩
  | .hbm, ⟨3, _⟩ => ⟨S64, .f32⟩
  | .hbm, ⟨4, _⟩ => ⟨S3x64, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S1x512, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S256, .f32⟩
  | .hbm, ⟨23, _⟩ => ⟨S1x256, .f32⟩
  | .hbm, ⟨24, _⟩ => ⟨S32768x1024, .f32⟩
  | .hbm, ⟨25, _⟩ => ⟨S1x1024, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S1024x24, .f32⟩
  | .hbm, ⟨33, _⟩ => ⟨S_, .i32⟩
  | .hbm, ⟨34, _⟩ => ⟨S_, .f32⟩
  | .hbm, ⟨35, _⟩ => ⟨S1024x128, .f32⟩
  | .hbm, ⟨36, _⟩ => ⟨S1024x512, .f32⟩
  | .hbm, ⟨37, _⟩ => ⟨S1024x1024, .f32⟩
  | .hbm, ⟨38, _⟩ => ⟨S1024x2432, .f32⟩
  | .hbm, ⟨39, _⟩ => ⟨S1024x2432, .bf16⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S256x1, .i32⟩
  | .hbm, ⟨45, _⟩ => ⟨S1x256, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S256x256, .f32⟩
  | .hbm, ⟨50, _⟩ => ⟨S_, .f32⟩
  | .hbm, ⟨51, _⟩ => ⟨S256x256, .f32⟩
  | .hbm, ⟨52, _⟩ => ⟨S256x256, .f32⟩
  | .hbm, ⟨53, _⟩ => ⟨S256x256, .bf16⟩
  | .hbm, ⟨54, _⟩ => ⟨S32768x512, .bf16⟩
  | .hbm, ⟨55, _⟩ => ⟨S2048x4096, .bf16⟩
  | .hbm, ⟨56, _⟩ => ⟨S2x2x16384x128, .bf16⟩
  | .hbm, ⟨57, _⟩ => ⟨S2x2x16384x128, .bf16⟩
  | .hbm, ⟨58, _⟩ => ⟨S2x2x128x80x128, .bf16⟩
  | .hbm, ⟨59, _⟩ => ⟨S2x2x128x80x128, .bf16⟩
  | .hbm, ⟨60, _⟩ => ⟨S32768x512, .f32⟩
  | .hbm, ⟨61, _⟩ => ⟨S32768x512, .f32⟩
  | .hbm, ⟨62, _⟩ => ⟨S2x32x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S256x256, .bf16⟩
  | .local _ .vmem, ⟨5, _⟩ => ⟨S1x512, .f32⟩
  | .local _ .vmem, ⟨6, _⟩ => ⟨S1x256, .f32⟩
  | .local _ .vmem, ⟨7, _⟩ => ⟨S512x512, .bf16⟩
  | .local _ .vmem, ⟨8, _⟩ => ⟨S512x512, .bf16⟩
  | .local _ .vmem, ⟨9, _⟩ => ⟨S32x4096, .bf16⟩
  | .local _ .vmem, ⟨10, _⟩ => ⟨S32x4096, .bf16⟩
  | .local _ .vmem, ⟨11, _⟩ => ⟨S1x2x512x128, .bf16⟩
  | .local _ .vmem, ⟨12, _⟩ => ⟨S1x2x512x128, .bf16⟩
  | .local _ .vmem, ⟨13, _⟩ => ⟨S1x2x512x128, .bf16⟩
  | .local _ .vmem, ⟨14, _⟩ => ⟨S1x2x512x128, .bf16⟩
  | .local _ .vmem, ⟨15, _⟩ => ⟨S1x2x4x80x128, .bf16⟩
  | .local _ .vmem, ⟨16, _⟩ => ⟨S1x2x4x80x128, .bf16⟩
  | .local _ .vmem, ⟨17, _⟩ => ⟨S1x2x4x80x128, .bf16⟩
  | .local _ .vmem, ⟨18, _⟩ => ⟨S1x2x4x80x128, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S1x32x512, .f32⟩
  | .local _ .vmem, ⟨24, _⟩ => ⟨S1x32x512, .f32⟩
  | .local _ .vmem, ⟨25, _⟩ => ⟨S2x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_call0_v0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_1 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev main_v44_3 : Ref sig .tc := ⟨.hbm, 57, rfl⟩
abbrev main_v44_4 : Ref sig .tc := ⟨.hbm, 58, rfl⟩
abbrev main_v44_5 : Ref sig .tc := ⟨.hbm, 59, rfl⟩
abbrev main_v44_6 : Ref sig .tc := ⟨.hbm, 60, rfl⟩
abbrev main_v44_7 : Ref sig .tc := ⟨.hbm, 61, rfl⟩
abbrev main_v44_8 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_11 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x4x80x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x4x80x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S2x16384x1024 : Shape := ⟨3, ![2, 16384, 1024]⟩
abbrev S1024 : Shape := ⟨1, ![1024]⟩
abbrev S1024x2328 : Shape := ⟨2, ![1024, 2328]⟩
abbrev S64 : Shape := ⟨1, ![64]⟩
abbrev S3x64 : Shape := ⟨2, ![3, 64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2328 : Shape := ⟨3, ![2, 16384, 2328]⟩
abbrev S2x16384x512 : Shape := ⟨3, ![2, 16384, 512]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S2x16384x768 : Shape := ⟨3, ![2, 16384, 768]⟩
abbrev S2x16384x6x2x64 : Shape := ⟨5, ![2, 16384, 6, 2, 64]⟩
abbrev S2x16384x1x2x64 : Shape := ⟨5, ![2, 16384, 1, 2, 64]⟩
abbrev S2x16384x2x64 : Shape := ⟨4, ![2, 16384, 2, 64]⟩
abbrev S1x64 : Shape := ⟨2, ![1, 64]⟩
abbrev S2x16384x2 : Shape := ⟨3, ![2, 16384, 2]⟩
abbrev S2x16384x2x1 : Shape := ⟨4, ![2, 16384, 2, 1]⟩
abbrev S2x2x16384x64 : Shape := ⟨4, ![2, 2, 16384, 64]⟩
abbrev S64x64 : Shape := ⟨2, ![64, 64]⟩
abbrev S64x1x64 : Shape := ⟨3, ![64, 1, 64]⟩
abbrev S2x2x4x64x64x64 : Shape := ⟨6, ![2, 2, 4, 64, 64, 64]⟩
abbrev S2x2x16384x128 : Shape := ⟨4, ![2, 2, 16384, 128]⟩
abbrev S2x16384x24 : Shape := ⟨3, ![2, 16384, 24]⟩
abbrev S2x16384x32 : Shape := ⟨3, ![2, 16384, 32]⟩
abbrev S2x32x16384 : Shape := ⟨3, ![2, 32, 16384]⟩
abbrev S32768x512 : Shape := ⟨2, ![32768, 512]⟩
abbrev S2x16384x2x2x64 : Shape := ⟨5, ![2, 16384, 2, 2, 64]⟩
abbrev S2048x4096 : Shape := ⟨2, ![2048, 4096]⟩
abbrev S2x128x128x2x64 : Shape := ⟨5, ![2, 128, 128, 2, 64]⟩
abbrev S2x2x128x64x128 : Shape := ⟨5, ![2, 2, 128, 64, 128]⟩
abbrev S2x2x128x1x128 : Shape := ⟨5, ![2, 2, 128, 1, 128]⟩
abbrev S2x2x128x15x128 : Shape := ⟨5, ![2, 2, 128, 15, 128]⟩
abbrev S2x2x128x80x128 : Shape := ⟨5, ![2, 2, 128, 80, 128]⟩

abbrev nBuf : Space → Nat
  | .hbm => 145
  | .vmem => 0
  | .smem => 0
  | _ => 0

abbrev hbmTy0_0 (i : Nat) : BufTy := match i % 128 with
  | 0 => ⟨S2x16384x1024, .f32⟩
  | 1 => ⟨S1024, .f32⟩
  | 2 => ⟨S1024x2328, .f32⟩
  | 3 => ⟨S64, .f32⟩
  | 4 => ⟨S3x64, .f32⟩
  | 5 => ⟨S2x16384x1024, .f32⟩
  | 6 => ⟨S_, .f32⟩
  | 7 => ⟨S2x16384, .f32⟩
  | 8 => ⟨S2x16384x1, .f32⟩
  | 9 => ⟨S_, .f32⟩
  | 10 => ⟨S2x16384x1, .f32⟩
  | 11 => ⟨S2x16384x1, .f32⟩
  | 12 => ⟨S_, .f32⟩
  | 13 => ⟨S2x16384x1, .f32⟩
  | 14 => ⟨S2x16384x1, .f32⟩
  | 15 => ⟨S2x16384x1, .f32⟩
  | 16 => ⟨S2x16384x1024, .f32⟩
  | 17 => ⟨S2x16384x1024, .f32⟩
  | 18 => ⟨S1x1x1024, .f32⟩
  | 19 => ⟨S2x16384x1024, .f32⟩
  | 20 => ⟨S2x16384x1024, .f32⟩
  | 21 => ⟨S2x16384x2328, .f32⟩
  | 22 => ⟨S2x16384x512, .f32⟩
  | 23 => ⟨S2x16384x8x64, .f32⟩
  | 24 => ⟨S2x16384x8x64, .f32⟩
  | 25 => ⟨S_, .f32⟩
  | 26 => ⟨S2x16384x8, .f32⟩
  | 27 => ⟨S2x16384x8x1, .f32⟩
  | 28 => ⟨S_, .f32⟩
  | 29 => ⟨S2x16384x8x1, .f32⟩
  | 30 => ⟨S2x16384x8x1, .f32⟩
  | 31 => ⟨S_, .f32⟩
  | 32 => ⟨S2x16384x8x1, .f32⟩
  | 33 => ⟨S2x16384x8x1, .f32⟩
  | 34 => ⟨S2x16384x8x1, .f32⟩
  | 35 => ⟨S2x16384x8x64, .f32⟩
  | 36 => ⟨S2x16384x8x64, .f32⟩
  | 37 => ⟨S1x1x1x64, .f32⟩
  | 38 => ⟨S2x16384x8x64, .f32⟩
  | 39 => ⟨S2x16384x8x64, .f32⟩
  | 40 => ⟨S_, .f32⟩
  | 41 => ⟨S2x16384x8x64, .f32⟩
  | 42 => ⟨S2x16384x8x64, .f32⟩
  | 43 => ⟨S2x16384x768, .f32⟩
  | 44 => ⟨S2x16384x6x2x64, .f32⟩
  | 45 => ⟨S2x16384x1x2x64, .f32⟩
  | 46 => ⟨S2x16384x2x64, .f32⟩
  | 47 => ⟨S1x64, .f32⟩
  | 48 => ⟨S64, .f32⟩
  | 49 => ⟨S2x16384x2x64, .f32⟩
  | 50 => ⟨S_, .f32⟩
  | 51 => ⟨S2x16384x2, .f32⟩
  | 52 => ⟨S2x16384x2x1, .f32⟩
  | 53 => ⟨S_, .f32⟩
  | 54 => ⟨S2x16384x2x1, .f32⟩
  | 55 => ⟨S2x16384x2x1, .f32⟩
  | 56 => ⟨S_, .f32⟩
  | 57 => ⟨S2x16384x2x1, .f32⟩
  | 58 => ⟨S2x16384x2x1, .f32⟩
  | 59 => ⟨S2x16384x2x1, .f32⟩
  | 60 => ⟨S2x16384x2x64, .f32⟩
  | 61 => ⟨S2x16384x2x64, .f32⟩
  | 62 => ⟨S1x1x1x64, .f32⟩
  | 63 => ⟨S2x16384x2x64, .f32⟩
  | 64 => ⟨S2x16384x2x64, .f32⟩
  | 65 => ⟨S2x2x16384x64, .f32⟩
  | 66 => ⟨S2x16384x1x2x64, .f32⟩
  | 67 => ⟨S2x16384x2x64, .f32⟩
  | 68 => ⟨S1x64, .f32⟩
  | 69 => ⟨S64, .f32⟩
  | 70 => ⟨S2x16384x2x64, .f32⟩
  | 71 => ⟨S_, .f32⟩
  | 72 => ⟨S2x16384x2, .f32⟩
  | 73 => ⟨S2x16384x2x1, .f32⟩
  | 74 => ⟨S_, .f32⟩
  | 75 => ⟨S2x16384x2x1, .f32⟩
  | 76 => ⟨S2x16384x2x1, .f32⟩
  | 77 => ⟨S_, .f32⟩
  | 78 => ⟨S2x16384x2x1, .f32⟩
  | 79 => ⟨S2x16384x2x1, .f32⟩
  | 80 => ⟨S2x16384x2x1, .f32⟩
  | 81 => ⟨S2x16384x2x64, .f32⟩
  | 82 => ⟨S2x16384x2x64, .f32⟩
  | 83 => ⟨S1x1x1x64, .f32⟩
  | 84 => ⟨S2x16384x2x64, .f32⟩
  | 85 => ⟨S2x16384x2x64, .f32⟩
  | 86 => ⟨S2x2x16384x64, .f32⟩
  | 87 => ⟨S64x64, .i32⟩
  | 88 => ⟨S64x64, .i32⟩
  | 89 => ⟨S_, .i32⟩
  | 90 => ⟨S64x64, .i32⟩
  | 91 => ⟨S64x64, .i32⟩
  | 92 => ⟨S64x64, .i1⟩
  | 93 => ⟨S64x64, .f32⟩
  | 94 => ⟨S64x1x64, .f32⟩
  | 95 => ⟨S2x2x4x64x64x64, .f32⟩
  | 96 => ⟨S2x2x16384x64, .f32⟩
  | 97 => ⟨S2x2x16384x128, .f32⟩
  | 98 => ⟨S_, .f32⟩
  | 99 => ⟨S2x2x16384x64, .f32⟩
  | 100 => ⟨S2x2x16384x128, .f32⟩
  | 101 => ⟨S2x16384x24, .f32⟩
  | 102 => ⟨S2x16384x24, .f32⟩
  | 103 => ⟨S2x16384x24, .f32⟩
  | 104 => ⟨S_, .f32⟩
  | 105 => ⟨S2x16384x24, .f32⟩
  | 106 => ⟨S2x16384x24, .f32⟩
  | 107 => ⟨S_, .f32⟩
  | 108 => ⟨S2x16384x24, .f32⟩
  | 109 => ⟨S2x16384x24, .f32⟩
  | 110 => ⟨S_, .f32⟩
  | 111 => ⟨S_, .f32⟩
  | 112 => ⟨S2x16384x32, .f32⟩
  | 113 => ⟨S2x32x16384, .f32⟩
  | 114 => ⟨S32768x512, .f32⟩
  | 115 => ⟨S2x16384x2x2x64, .f32⟩
  | 116 => ⟨S2048x4096, .f32⟩
  | 117 => ⟨S2x16384x1x2x64, .f32⟩
  | 118 => ⟨S2x16384x2x64, .f32⟩
  | 119 => ⟨S2x128x128x2x64, .f32⟩
  | 120 => ⟨S2x2x128x64x128, .f32⟩
  | 121 => ⟨S_, .f32⟩
  | 122 => ⟨S2x2x128x1x128, .f32⟩
  | 123 => ⟨S_, .f32⟩
  | 124 => ⟨S2x2x128x15x128, .f32⟩
  | 125 => ⟨S2x2x128x80x128, .f32⟩
  | 126 => ⟨S2x16384x1x2x64, .f32⟩
  | 127 => ⟨S2x16384x2x64, .f32⟩
  | _ => ⟨S2x16384x1024, .f32⟩

abbrev hbmTy0_1 (i : Nat) : BufTy := match i % 128 with
  | 0 => ⟨S2x128x128x2x64, .f32⟩
  | 1 => ⟨S2x2x128x64x128, .f32⟩
  | 2 => ⟨S_, .f32⟩
  | 3 => ⟨S2x2x128x1x128, .f32⟩
  | 4 => ⟨S_, .f32⟩
  | 5 => ⟨S2x2x128x15x128, .f32⟩
  | 6 => ⟨S2x2x128x80x128, .f32⟩
  | 7 => ⟨S32768x512, .bf16⟩
  | 8 => ⟨S2048x4096, .bf16⟩
  | 9 => ⟨S2x2x16384x128, .bf16⟩
  | 10 => ⟨S2x2x16384x128, .bf16⟩
  | 11 => ⟨S2x2x128x80x128, .bf16⟩
  | 12 => ⟨S2x2x128x80x128, .bf16⟩
  | 13 => ⟨S2x16384x512, .f32⟩
  | 14 => ⟨S32768x512, .f32⟩
  | 15 => ⟨S2x16384x512, .f32⟩
  | 16 => ⟨S32768x512, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_13 : Ref sig .tc := ⟨.hbm, 104, rfl⟩
abbrev main_v84 : Ref sig .tc := ⟨.hbm, 105, rfl⟩
abbrev main_v85 : Ref sig .tc := ⟨.hbm, 106, rfl⟩
abbrev main_cst_14 : Ref sig .tc := ⟨.hbm, 107, rfl⟩
abbrev main_v86 : Ref sig .tc := ⟨.hbm, 108, rfl⟩
abbrev main_v87 : Ref sig .tc := ⟨.hbm, 109, rfl⟩
abbrev main_cst_15 : Ref sig .tc := ⟨.hbm, 110, rfl⟩
abbrev main_call0_v0 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_16 : Ref sig .tc := ⟨.hbm, 121, rfl⟩
abbrev main_v97 : Ref sig .tc := ⟨.hbm, 122, rfl⟩
abbrev main_cst_17 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_18 : Ref sig .tc := ⟨.hbm, 130, rfl⟩
abbrev main_v104 : Ref sig .tc := ⟨.hbm, 131, rfl⟩
abbrev main_cst_19 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩

abbrev nD : Nat := 1
abbrev τ : Topo := Topo.v7x

variable {F : FTy → Type} [FloatOps F]
-- ==== Kernel4.lean ====
abbrev S2x16384x2x2x64 : Shape := ⟨5, ![2, 16384, 2, 2, 64]⟩
abbrev S3x64 : Shape := ⟨2, ![3, 64]⟩
abbrev S2x32x64 : Shape := ⟨3, ![2, 32, 64]⟩
abbrev S2x2048x128 : Shape := ⟨3, ![2, 2048, 128]⟩
abbrev S2x128x64 : Shape := ⟨3, ![2, 128, 64]⟩
abbrev S4 : Shape := ⟨1, ![4]⟩
abbrev S4x4 : Shape := ⟨2, ![4, 4]⟩
abbrev S_ : Shape := ⟨0, ![]⟩
abbrev S2x2x16x64x128 : Shape := ⟨5, ![2, 2, 16, 64, 128]⟩
abbrev S1x4x1x1 : Shape := ⟨4, ![1, 4, 1, 1]⟩
abbrev S1x1x16x64x128 : Shape := ⟨5, ![1, 1, 16, 64, 128]⟩
abbrev S16x64x128 : Shape := ⟨3, ![16, 64, 128]⟩
abbrev S16x1x64x128 : Shape := ⟨4, ![16, 1, 64, 128]⟩
abbrev S16x4x64x128 : Shape := ⟨4, ![16, 4, 64, 128]⟩
abbrev S4096x128 : Shape := ⟨2, ![4096, 128]⟩
abbrev S4096x1024 : Shape := ⟨2, ![4096, 1024]⟩
abbrev S2x2x16x64 : Shape := ⟨4, ![2, 2, 16, 64]⟩
abbrev S4x1 : Shape := ⟨2, ![4, 1]⟩
abbrev S4x2x16x64 : Shape := ⟨4, ![4, 2, 16, 64]⟩
abbrev S2x16x4x64 : Shape := ⟨4, ![2, 16, 4, 64]⟩
abbrev S2x4096 : Shape := ⟨2, ![2, 4096]⟩
abbrev S8x4096 : Shape := ⟨2, ![8, 4096]⟩
abbrev S4x128x64 : Shape := ⟨3, ![4, 128, 64]⟩
abbrev S4x128x1x64 : Shape := ⟨4, ![4, 128, 1, 64]⟩
abbrev S4x1x4x1 : Shape := ⟨4, ![4, 1, 4, 1]⟩
abbrev S4x128x4x64 : Shape := ⟨4, ![4, 128, 4, 64]⟩
abbrev S512x256 : Shape := ⟨2, ![512, 256]⟩
abbrev S2x1024x4096 : Shape := ⟨3, ![2, 1024, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S64 : Shape := ⟨1, ![64]⟩
abbrev S2x64 : Shape := ⟨2, ![2, 64]⟩
abbrev S2x2x1024x128 : Shape := ⟨4, ![2, 2, 1024, 128]⟩
abbrev S2x2x64x1024 : Shape := ⟨4, ![2, 2, 64, 1024]⟩
abbrev S1x1024x4096 : Shape := ⟨3, ![1, 1024, 4096]⟩
abbrev S1x2x1024x128 : Shape := ⟨4, ![1, 2, 1024, 128]⟩
abbrev S1x2x64x1024 : Shape := ⟨4, ![1, 2, 64, 1024]⟩
abbrev S1024x4096 : Shape := ⟨2, ![1024, 4096]⟩
abbrev S1024x1024 : Shape := ⟨2, ![1024, 1024]⟩
abbrev S8x1024 : Shape := ⟨2, ![8, 1024]⟩
abbrev S1x512 : Shape := ⟨2, ![1, 512]⟩
abbrev S1024x512 : Shape := ⟨2, ![1024, 512]⟩
abbrev S1024x256 : Shape := ⟨2, ![1024, 256]⟩
abbrev S1024x128 : Shape := ⟨2, ![1024, 128]⟩
abbrev S1x1x1024x128 : Shape := ⟨4, ![1, 1, 1024, 128]⟩
abbrev S128x1024 : Shape := ⟨2, ![128, 1024]⟩
abbrev S64x1024 : Shape := ⟨2, ![64, 1024]⟩
abbrev S1x1x64x1024 : Shape := ⟨4, ![1, 1, 64, 1024]⟩

abbrev nBuf : Space → Nat
  | .hbm => 178
  | .vmem => 11
  | .smem => 0
  | _ => 0

abbrev hbmTy0_0 (i : Nat) : BufTy := match i % 128 with
  | 0 => ⟨S2x16384x2x2x64, .f32⟩
  | 1 => ⟨S3x64, .f32⟩
  | 2 => ⟨S2x32x64, .f32⟩
  | 3 => ⟨S2x2048x128, .f32⟩
  | 4 => ⟨S2x128x64, .f32⟩
  | 5 => ⟨S4, .i32⟩
  | 6 => ⟨S4x4, .i32⟩
  | 7 => ⟨S4x4, .i32⟩
  | 8 => ⟨S_, .i32⟩
  | 9 => ⟨S4x4, .i32⟩
  | 10 => ⟨S4x4, .i32⟩
  | 11 => ⟨S4x4, .i1⟩
  | 12 => ⟨S4x4, .f32⟩
  | 13 => ⟨S2x2x16x64x128, .f32⟩
  | 14 => ⟨S4, .i32⟩
  | 15 => ⟨S1x4x1x1, .i32⟩
  | 16 => ⟨S_, .i32⟩
  | 17 => ⟨S1x4x1x1, .i32⟩
  | 18 => ⟨S1x4x1x1, .i1⟩
  | 19 => ⟨S1x1x16x64x128, .f32⟩
  | 20 => ⟨S16x64x128, .f32⟩
  | 21 => ⟨S16x1x64x128, .f32⟩
  | 22 => ⟨S_, .f32⟩
  | 23 => ⟨S_, .f32⟩
  | 24 => ⟨S16x4x64x128, .i1⟩
  | 25 => ⟨S16x4x64x128, .f32⟩
  | 26 => ⟨S16x4x64x128, .f32⟩
  | 27 => ⟨S16x4x64x128, .f32⟩
  | 28 => ⟨S4096x128, .f32⟩
  | 29 => ⟨S_, .i32⟩
  | 30 => ⟨S1x4x1x1, .i32⟩
  | 31 => ⟨S1x4x1x1, .i1⟩
  | 32 => ⟨S1x1x16x64x128, .f32⟩
  | 33 => ⟨S16x64x128, .f32⟩
  | 34 => ⟨S16x1x64x128, .f32⟩
  | 35 => ⟨S_, .f32⟩
  | 36 => ⟨S_, .f32⟩
  | 37 => ⟨S16x4x64x128, .i1⟩
  | 38 => ⟨S16x4x64x128, .f32⟩
  | 39 => ⟨S16x4x64x128, .f32⟩
  | 40 => ⟨S16x4x64x128, .f32⟩
  | 41 => ⟨S4096x128, .f32⟩
  | 42 => ⟨S_, .i32⟩
  | 43 => ⟨S1x4x1x1, .i32⟩
  | 44 => ⟨S1x4x1x1, .i1⟩
  | 45 => ⟨S1x1x16x64x128, .f32⟩
  | 46 => ⟨S16x64x128, .f32⟩
  | 47 => ⟨S16x1x64x128, .f32⟩
  | 48 => ⟨S_, .f32⟩
  | 49 => ⟨S_, .f32⟩
  | 50 => ⟨S16x4x64x128, .i1⟩
  | 51 => ⟨S16x4x64x128, .f32⟩
  | 52 => ⟨S16x4x64x128, .f32⟩
  | 53 => ⟨S16x4x64x128, .f32⟩
  | 54 => ⟨S4096x128, .f32⟩
  | 55 => ⟨S_, .i32⟩
  | 56 => ⟨S1x4x1x1, .i32⟩
  | 57 => ⟨S1x4x1x1, .i1⟩
  | 58 => ⟨S1x1x16x64x128, .f32⟩
  | 59 => ⟨S16x64x128, .f32⟩
  | 60 => ⟨S16x1x64x128, .f32⟩
  | 61 => ⟨S_, .f32⟩
  | 62 => ⟨S_, .f32⟩
  | 63 => ⟨S16x4x64x128, .i1⟩
  | 64 => ⟨S16x4x64x128, .f32⟩
  | 65 => ⟨S16x4x64x128, .f32⟩
  | 66 => ⟨S16x4x64x128, .f32⟩
  | 67 => ⟨S4096x128, .f32⟩
  | 68 => ⟨S_, .i32⟩
  | 69 => ⟨S1x4x1x1, .i32⟩
  | 70 => ⟨S1x4x1x1, .i1⟩
  | 71 => ⟨S1x1x16x64x128, .f32⟩
  | 72 => ⟨S16x64x128, .f32⟩
  | 73 => ⟨S16x1x64x128, .f32⟩
  | 74 => ⟨S_, .f32⟩
  | 75 => ⟨S_, .f32⟩
  | 76 => ⟨S16x4x64x128, .i1⟩
  | 77 => ⟨S16x4x64x128, .f32⟩
  | 78 => ⟨S16x4x64x128, .f32⟩
  | 79 => ⟨S16x4x64x128, .f32⟩
  | 80 => ⟨S4096x128, .f32⟩
  | 81 => ⟨S_, .i32⟩
  | 82 => ⟨S1x4x1x1, .i32⟩
  | 83 => ⟨S1x4x1x1, .i1⟩
  | 84 => ⟨S1x1x16x64x128, .f32⟩
  | 85 => ⟨S16x64x128, .f32⟩
  | 86 => ⟨S16x1x64x128, .f32⟩
  | 87 => ⟨S_, .f32⟩
  | 88 => ⟨S_, .f32⟩
  | 89 => ⟨S16x4x64x128, .i1⟩
  | 90 => ⟨S16x4x64x128, .f32⟩
  | 91 => ⟨S16x4x64x128, .f32⟩
  | 92 => ⟨S16x4x64x128, .f32⟩
  | 93 => ⟨S4096x128, .f32⟩
  | 94 => ⟨S_, .i32⟩
  | 95 => ⟨S1x4x1x1, .i32⟩
  | 96 => ⟨S1x4x1x1, .i1⟩
  | 97 => ⟨S1x1x16x64x128, .f32⟩
  | 98 => ⟨S16x64x128, .f32⟩
  | 99 => ⟨S16x1x64x128, .f32⟩
  | 100 => ⟨S_, .f32⟩
  | 101 => ⟨S_, .f32⟩
  | 102 => ⟨S16x4x64x128, .i1⟩
  | 103 => ⟨S16x4x64x128, .f32⟩
  | 104 => ⟨S16x4x64x128, .f32⟩
  | 105 => ⟨S16x4x64x128, .f32⟩
  | 106 => ⟨S4096x128, .f32⟩
  | 107 => ⟨S_, .i32⟩
  | 108 => ⟨S1x4x1x1, .i32⟩
  | 109 => ⟨S1x4x1x1, .i1⟩
  | 110 => ⟨S1x1x16x64x128, .f32⟩
  | 111 => ⟨S16x64x128, .f32⟩
  | 112 => ⟨S16x1x64x128, .f32⟩
  | 113 => ⟨S_, .f32⟩
  | 114 => ⟨S_, .f32⟩
  | 115 => ⟨S16x4x64x128, .i1⟩
  | 116 => ⟨S16x4x64x128, .f32⟩
  | 117 => ⟨S16x4x64x128, .f32⟩
  | 118 => ⟨S16x4x64x128, .f32⟩
  | 119 => ⟨S4096x128, .f32⟩
  | 120 => ⟨S4096x1024, .f32⟩
  | 121 => ⟨S2x2x16x64, .f32⟩
  | 122 => ⟨S_, .i32⟩
  | 123 => ⟨S4, .i32⟩
  | 124 => ⟨S4, .i1⟩
  | 125 => ⟨S_, .i32⟩
  | 126 => ⟨S4, .i32⟩
  | 127 => ⟨S4, .i32⟩
  | _ => ⟨S2x16384x2x2x64, .f32⟩

abbrev hbmTy0_1 (i : Nat) : BufTy := match i % 128 with
  | 0 => ⟨S4, .i32⟩
  | 1 => ⟨S4x1, .i32⟩
  | 2 => ⟨S4x2x16x64, .f32⟩
  | 3 => ⟨S2x16x4x64, .f32⟩
  | 4 => ⟨S2x4096, .f32⟩
  | 5 => ⟨S_, .i32⟩
  | 6 => ⟨S_, .f32⟩
  | 7 => ⟨S8x4096, .f32⟩
  | 8 => ⟨S_, .i32⟩
  | 9 => ⟨S4, .i32⟩
  | 10 => ⟨S4, .i1⟩
  | 11 => ⟨S_, .i32⟩
  | 12 => ⟨S4, .i32⟩
  | 13 => ⟨S4, .i32⟩
  | 14 => ⟨S4, .i32⟩
  | 15 => ⟨S4x1, .i32⟩
  | 16 => ⟨S4x128x64, .f32⟩
  | 17 => ⟨S4x128x1x64, .f32⟩
  | 18 => ⟨S4x1x4x1, .f32⟩
  | 19 => ⟨S4x128x4x64, .f32⟩
  | 20 => ⟨S4x128x4x64, .f32⟩
  | 21 => ⟨S4x128x4x64, .f32⟩
  | 22 => ⟨S512x256, .f32⟩
  | 23 => ⟨S8x4096, .bf16⟩
  | 24 => ⟨S4096x1024, .bf16⟩
  | 25 => ⟨S512x256, .bf16⟩
  | 26 => ⟨S2x1024x4096, .f32⟩
  | 27 => ⟨S2x1024x4096, .bf16⟩
  | 28 => ⟨S128, .i32⟩
  | 29 => ⟨S_, .i32⟩
  | 30 => ⟨S128, .i32⟩
  | 31 => ⟨S128, .i32⟩
  | 32 => ⟨S128x1, .i32⟩
  | 33 => ⟨S1x128, .i32⟩
  | 34 => ⟨S128x128, .i32⟩
  | 35 => ⟨S128x128, .i32⟩
  | 36 => ⟨S128x128, .i1⟩
  | 37 => ⟨S128x128, .f32⟩
  | 38 => ⟨S_, .f32⟩
  | 39 => ⟨S128x128, .f32⟩
  | 40 => ⟨S128x128, .f32⟩
  | 41 => ⟨S128x128, .bf16⟩
  | 42 => ⟨S1x64, .f32⟩
  | 43 => ⟨S64, .f32⟩
  | 44 => ⟨S1x64, .f32⟩
  | 45 => ⟨S2x64, .f32⟩
  | 46 => ⟨S128, .f32⟩
  | 47 => ⟨S1x128, .f32⟩
  | 48 => ⟨S2x2x1024x128, .bf16⟩
  | 49 => ⟨S2x2x64x1024, .bf16⟩
  | _ => ⟨S2x16384x2x2x64, .f32⟩

abbrev hbmTy (i : Nat) : BufTy := match i / 128 with
  | 0 => hbmTy0_0 i
  | 1 => hbmTy0_1 i
  | _ => ⟨S2x16384x2x2x64, .f32⟩

abbrev bufTy : (tb : Table) → Fin (tcTables nBuf tb) → BufTy
  | .hbm, ⟨i, _⟩ => hbmTy i
  | .local _ .vmem, ⟨0, _⟩ => ⟨S1x1024x4096, .bf16⟩
  | .local _ .vmem, ⟨1, _⟩ => ⟨S1x1024x4096, .bf16⟩
  | .local _ .vmem, ⟨2, _⟩ => ⟨S8x4096, .bf16⟩
  | .local _ .vmem, ⟨3, _⟩ => ⟨S4096x1024, .bf16⟩
  | .local _ .vmem, ⟨4, _⟩ => ⟨S512x256, .bf16⟩
  | .local _ .vmem, ⟨5, _⟩ => ⟨S128x128, .bf16⟩
  | .local _ .vmem, ⟨6, _⟩ => ⟨S1x128, .f32⟩
  | .local _ .vmem, ⟨7, _⟩ => ⟨S1x2x1024x128, .bf16⟩
  | .local _ .vmem, ⟨8, _⟩ => ⟨S1x2x1024x128, .bf16⟩
  | .local _ .vmem, ⟨9, _⟩ => ⟨S1x2x64x1024, .bf16⟩
  | .local _ .vmem, ⟨10, _⟩ => ⟨S1x2x64x1024, .bf16⟩
  | _, _ => ⟨S2x16384x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_v42 : Ref sig .tc := ⟨.hbm, 79, rfl⟩
abbrev main_v43 : Ref sig .tc := ⟨.hbm, 80, rfl⟩
abbrev main_c_10 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_v49 : Ref sig .tc := ⟨.hbm, 92, rfl⟩
abbrev main_v50 : Ref sig .tc := ⟨.hbm, 93, rfl⟩
abbrev main_c_12 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_13 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_call6_v3 : Ref sig .tc := ⟨.hbm, 104, rfl⟩
abbrev main_v56 : Ref sig .tc := ⟨.hbm, 105, rfl⟩
abbrev main_v57 : Ref sig .tc := ⟨.hbm, 106, rfl⟩
abbrev main_c_14 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_15 : Ref sig .tc := ⟨.hbm, 113, rfl⟩
abbrev main_call7_v0 : Ref sig .tc := ⟨.hbm, 114, rfl⟩
abbrev main_call7_v1 : Ref sig .tc := ⟨.hbm, 115, rfl⟩
abbrev main_call7_v2 : Ref sig .tc := ⟨.hbm, 116, rfl⟩
abbrev main_call7_v3 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_c_16 : Ref sig .tc := ⟨.hbm, 122, rfl⟩
abbrev main_v67 : Ref sig .tc := ⟨.hbm, 123, rfl⟩
abbrev main_v68 : Ref sig .tc := ⟨.hbm, 124, rfl⟩
abbrev main_c_17 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_18 : Ref sig .tc := ⟨.hbm, 133, rfl⟩
abbrev main_call8_v0 : Ref sig .tc := ⟨.hbm, 134, rfl⟩
abbrev main_v76 : Ref sig .tc := ⟨.hbm, 135, rfl⟩
abbrev main_c_19 : Ref sig .tc := ⟨.hbm, 136, rfl⟩
abbrev main_v77 : Ref sig .tc := ⟨.hbm, 137, rfl⟩
abbrev main_v78 : Ref sig .tc := ⟨.hbm, 138, rfl⟩
abbrev main_c_20 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_c_21 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_22 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113_0 : Ref sig .tc := ⟨.hbm, 176, rfl⟩
abbrev main_v113_1 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2x16384x2x2x64 : Shape := ⟨5, ![2, 16384, 2, 2, 64]⟩
abbrev S3x64 : Shape := ⟨2, ![3, 64]⟩
abbrev S2x32x64 : Shape := ⟨3, ![2, 32, 64]⟩
abbrev S2x2048x128 : Shape := ⟨3, ![2, 2048, 128]⟩
abbrev S2x128x64 : Shape := ⟨3, ![2, 128, 64]⟩
abbrev S2x16384x1x2x64 : Shape := ⟨5, ![2, 16384, 1, 2, 64]⟩
abbrev S2x16384x2x64 : Shape := ⟨4, ![2, 16384, 2, 64]⟩
abbrev S1x32x64 : Shape := ⟨3, ![1, 32, 64]⟩
abbrev S32x64 : Shape := ⟨2, ![32, 64]⟩
abbrev S1x2048x128 : Shape := ⟨3, ![1, 2048, 128]⟩
abbrev S2048x128 : Shape := ⟨2, ![2048, 128]⟩
abbrev S1x128x64 : Shape := ⟨3, ![1, 128, 64]⟩
abbrev S128x64 : Shape := ⟨2, ![128, 64]⟩
abbrev S2x1024x16x2x64 : Shape := ⟨5, ![2, 1024, 16, 2, 64]⟩
abbrev S2x1023x16x2x64 : Shape := ⟨5, ![2, 1023, 16, 2, 64]⟩
abbrev S2x1x16x2x64 : Shape := ⟨5, ![2, 1, 16, 2, 64]⟩
abbrev S2x1024x32x2x64 : Shape := ⟨5, ![2, 1024, 32, 2, 64]⟩
abbrev S1x1x32x1x64 : Shape := ⟨5, ![1, 1, 32, 1, 64]⟩
abbrev S2x1024x2x32x64 : Shape := ⟨5, ![2, 1024, 2, 32, 64]⟩
abbrev S2x1024x2x2048 : Shape := ⟨4, ![2, 1024, 2, 2048]⟩
abbrev S2x1024x2x128 : Shape := ⟨4, ![2, 1024, 2, 128]⟩
abbrev S_ : Shape := ⟨0, ![]⟩
abbrev S2x1024x2x64 : Shape := ⟨4, ![2, 1024, 2, 64]⟩
abbrev S1x64 : Shape := ⟨2, ![1, 64]⟩
abbrev S64 : Shape := ⟨1, ![64]⟩
abbrev S2x1024x2 : Shape := ⟨3, ![2, 1024, 2]⟩
abbrev S2x1024x2x1 : Shape := ⟨4, ![2, 1024, 2, 1]⟩
abbrev S1x1x1x64 : Shape := ⟨4, ![1, 1, 1, 64]⟩
abbrev S2x2x1024x64 : Shape := ⟨4, ![2, 2, 1024, 64]⟩
abbrev S2x2x64x1024 : Shape := ⟨4, ![2, 2, 64, 1024]⟩
abbrev S2x2x1024x128 : Shape := ⟨4, ![2, 2, 1024, 128]⟩

abbrev nBuf : Space → Nat
  | .hbm => 104
  | .vmem => 0
  | .smem => 0
  | _ => 0

abbrev bufTy : (tb : Table) → Fin (tcTables nBuf tb) → BufTy
  | .hbm, ⟨0, _⟩ => ⟨S2x16384x2x2x64, .f32⟩
  | .hbm, ⟨1, _⟩ => ⟨S3x64, .f32⟩
  | .hbm, ⟨2, _⟩ => ⟨S2x32x64, .f32⟩
  | .hbm, ⟨3, _⟩ => ⟨S2x2048x128, .f32⟩
  | .hbm, ⟨4, _⟩ => ⟨S2x128x64, .f32⟩
  | .hbm, ⟨5, _⟩ => ⟨S2x16384x1x2x64, .f32⟩
  | .hbm, ⟨6, _⟩ => ⟨S2x16384x2x64, .f32⟩
  | .hbm, ⟨7, _⟩ => ⟨S1x32x64, .f32⟩
  | .hbm, ⟨8, _⟩ => ⟨S32x64, .f32⟩
  | .hbm, ⟨9, _⟩ => ⟨S1x2048x128, .f32⟩
  | .hbm, ⟨10, _⟩ => ⟨S2048x128, .f32⟩
  | .hbm, ⟨11, _⟩ => ⟨S1x128x64, .f32⟩
  | .hbm, ⟨12, _⟩ => ⟨S128x64, .f32⟩
  | .hbm, ⟨13, _⟩ => ⟨S2x1024x16x2x64, .f32⟩
  | .hbm, ⟨14, _⟩ => ⟨S2x1023x16x2x64, .f32⟩
  | .hbm, ⟨15, _⟩ => ⟨S2x1x16x2x64, .f32⟩
  | .hbm, ⟨16, _⟩ => ⟨S2x1024x16x2x64, .f32⟩
  | .hbm, ⟨17, _⟩ => ⟨S2x1024x32x2x64, .f32⟩
  | .hbm, ⟨18, _⟩ => ⟨S1x1x32x1x64, .f32⟩
  | .hbm, ⟨19, _⟩ => ⟨S2x1024x32x2x64, .f32⟩
  | .hbm, ⟨20, _⟩ => ⟨S2x1024x32x2x64, .f32⟩
  | .hbm, ⟨21, _⟩ => ⟨S2x1024x2x32x64, .f32⟩
  | .hbm, ⟨22, _⟩ => ⟨S2x1024x2x2048, .f32⟩
  | .hbm, ⟨23, _⟩ => ⟨S2x1024x2x128, .f32⟩
  | .hbm, ⟨24, _⟩ => ⟨S2x1024x2x128, .f32⟩
  | .hbm, ⟨25, _⟩ => ⟨S2x1024x2x128, .f32⟩
  | .hbm, ⟨26, _⟩ => ⟨S_, .f32⟩
  | .hbm, ⟨27, _⟩ => ⟨S2x1024x2x128, .f32⟩
  | .hbm, ⟨28, _⟩ => ⟨S2x1024x2x128, .f32⟩
  | .hbm, ⟨29, _⟩ => ⟨S2x1024x2x128, .f32⟩
  | .hbm, ⟨30, _⟩ => ⟨S_, .f32⟩
  | .hbm, ⟨31, _⟩ => ⟨S2x1024x2x128, .f32⟩
  | .hbm, ⟨32, _⟩ => ⟨S2x1024x2x128, .f32⟩
  | .hbm, ⟨33, _⟩ => ⟨S2x1024x2x128, .f32⟩
  | .hbm, ⟨34, _⟩ => ⟨S_, .f32⟩
  | .hbm, ⟨35, _⟩ => ⟨S2x1024x2x128, .f32⟩
  | .hbm, ⟨36, _⟩ => ⟨S2x1024x2x128, .f32⟩
  | .hbm, ⟨37, _⟩ => ⟨S_, .f32⟩
  | .hbm, ⟨38, _⟩ => ⟨S2x1024x2x128, .f32⟩
  | .hbm, ⟨39, _⟩ => ⟨S2x1024x2x128, .f32⟩
  | .hbm, ⟨40, _⟩ => ⟨S2x1024x2x128, .f32⟩
  | .hbm, ⟨41, _⟩ => ⟨S2x1024x2x64, .f32⟩
  | .hbm, ⟨42, _⟩ => ⟨S1x64, .f32⟩
  | .hbm, ⟨43, _⟩ => ⟨S64, .f32⟩
  | .hbm, ⟨44, _⟩ => ⟨S2x1024x2x64, .f32⟩
  | .hbm, ⟨45, _⟩ => ⟨S_, .f32⟩
  | .hbm, ⟨46, _⟩ => ⟨S2x1024x2, .f32⟩
  | .hbm, ⟨47, _⟩ => ⟨S2x1024x2x1, .f32⟩
  | .hbm, ⟨48, _⟩ => ⟨S_, .f32⟩
  | .hbm, ⟨49, _⟩ => ⟨S2x1024x2x1, .f32⟩
  | .hbm, ⟨50, _⟩ => ⟨S2x1024x2x1, .f32⟩
  | .hbm, ⟨51, _⟩ => ⟨S_, .f32⟩
  | .hbm, ⟨52, _⟩ => ⟨S2x1024x2x1, .f32⟩
  | .hbm, ⟨53, _⟩ => ⟨S2x1024x2x1, .f32⟩
  | .hbm, ⟨54, _⟩ => ⟨S2x1024x2x1, .f32⟩
  | .hbm, ⟨55, _⟩ => ⟨S2x1024x2x64, .f32⟩
  | .hbm, ⟨56, _⟩ => ⟨S2x1024x2x64, .f32⟩
  | .hbm, ⟨57, _⟩ => ⟨S1x1x1x64, .f32⟩
  | .hbm, ⟨58, _⟩ => ⟨S2x1024x2x64, .f32⟩
  | .hbm, ⟨59, _⟩ => ⟨S2x1024x2x64, .f32⟩
  | .hbm, ⟨60, _⟩ => ⟨S2x2x1024x64, .f32⟩
  | .hbm, ⟨61, _⟩ => ⟨S2x16384x1x2x64, .f32⟩
  | .hbm, ⟨62, _⟩ => ⟨S2x16384x2x64, .f32⟩
  | .hbm, ⟨63, _⟩ => ⟨S1x32x64, .f32⟩
  | .hbm, ⟨64, _⟩ => ⟨S32x64, .f32⟩
  | .hbm, ⟨65, _⟩ => ⟨S1x2048x128, .f32⟩
  | .hbm, ⟨66, _⟩ => ⟨S2048x128, .f32⟩
  | .hbm, ⟨67, _⟩ => ⟨S1x128x64, .f32⟩
  | .hbm, ⟨68, _⟩ => ⟨S128x64, .f32⟩
  | .hbm, ⟨69, _⟩ => ⟨S2x1024x16x2x64, .f32⟩
  | .hbm, ⟨70, _⟩ => ⟨S2x1023x16x2x64, .f32⟩
  | .hbm, ⟨71, _⟩ => ⟨S2x1x16x2x64, .f32⟩
  | .hbm, ⟨72, _⟩ => ⟨S2x1024x16x2x64, .f32⟩
  | .hbm, ⟨73, _⟩ => ⟨S2x1024x32x2x64, .f32⟩
  | .hbm, ⟨74, _⟩ => ⟨S1x1x32x1x64, .f32⟩
  | .hbm, ⟨75, _⟩ => ⟨S2x1024x32x2x64, .f32⟩
  | .hbm, ⟨76, _⟩ => ⟨S2x1024x32x2x64, .f32⟩
  | .hbm, ⟨77, _⟩ => ⟨S2x1024x2x32x64, .f32⟩
  | .hbm, ⟨78, _⟩ => ⟨S2x1024x2x2048, .f32⟩
  | .hbm, ⟨79, _⟩ => ⟨S2x1024x2x128, .f32⟩
  | .hbm, ⟨80, _⟩ => ⟨S2x1024x2x128, .f32⟩
  | .hbm, ⟨81, _⟩ => ⟨S2x1024x2x128, .f32⟩
  | .hbm, ⟨82, _⟩ => ⟨S_, .f32⟩
  | .hbm, ⟨83, _⟩ => ⟨S2x1024x2x128, .f32⟩
  | .hbm, ⟨84, _⟩ => ⟨S2x1024x2x128, .f32⟩
  | .hbm, ⟨85, _⟩ => ⟨S2x1024x2x128, .f32⟩
  | .hbm, ⟨86, _⟩ => ⟨S_, .f32⟩
  | .hbm, ⟨87, _⟩ => ⟨S2x1024x2x128, .f32⟩
  | .hbm, ⟨88, _⟩ => ⟨S2x1024x2x128, .f32⟩
  | .hbm, ⟨89, _⟩ => ⟨S2x1024x2x128, .f32⟩
  | .hbm, ⟨90, _⟩ => ⟨S_, .f32⟩
  | .hbm, ⟨91, _⟩ => ⟨S2x1024x2x128, .f32⟩
  | .hbm, ⟨92, _⟩ => ⟨S2x1024x2x128, .f32⟩
  | .hbm, ⟨93, _⟩ => ⟨S_, .f32⟩
  | .hbm, ⟨94, _⟩ => ⟨S2x1024x2x128, .f32⟩
  | .hbm, ⟨95, _⟩ => ⟨S2x1024x2x128, .f32⟩
  | .hbm, ⟨96, _⟩ => ⟨S2x1024x2x128, .f32⟩
  | .hbm, ⟨97, _⟩ => ⟨S2x1024x2x64, .f32⟩
  | .hbm, ⟨98, _⟩ => ⟨S2x2x64x1024, .f32⟩
  | .hbm, ⟨99, _⟩ => ⟨S_, .f32⟩
  | .hbm, ⟨100, _⟩ => ⟨S2x2x1024x64, .f32⟩
  | .hbm, ⟨101, _⟩ => ⟨S2x2x1024x128, .f32⟩
  | .hbm, ⟨102, _⟩ => ⟨S2x2x1024x128, .bf16⟩
  | .hbm, ⟨103, _⟩ => ⟨S2x2x64x1024, .bf16⟩
  | _, _ => ⟨S2x16384x2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_6 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_7 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_8 : Ref sig .tc := ⟨.hbm, 90, rfl⟩
abbrev main_v76 : Ref sig .tc := ⟨.hbm, 91, rfl⟩
abbrev main_v77 : Ref sig .tc := ⟨.hbm, 92, rfl⟩
abbrev main_cst_9 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_10 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩

abbrev nD : Nat := 1
abbrev τ : Topo := Topo.v7x

variable {F : FTy → Type} [FloatOps F]
-- ==== Proof.Spec.lean ====
/- What both programs compute, row by row: the two causal convolutions, the gates, the recurrence and the two normalised
   outputs, over the extended reals. Neither program's tiling appears here. -/
module

public import Idealize.ShloMosaic.Lib.Pipeline.ValueKit

@[expose] public section

noncomputable section

namespace Cert.Mix
open Idealize.ShloMosaic

/-! ## Sequences read some steps late -/

/-- The sequence `f` read `d` steps late: 0 before its first step (and past its last). -/
def late (f : Fin 16384 → EReal) (d n : ℕ) : EReal := if h : d ≤ n ∧ n - d < 16384 then f ⟨n - d, h.2⟩ else 0

theorem late_add (f : Fin 16384 → EReal) (d n e : ℕ) : late f (d + e) (n + e) = late f d n := by
  unfold late
  by_cases h : d ≤ n ∧ n - d < 16384
  · rw [dif_pos h, dif_pos (by omega)]
    congr 2; omega
  · rw [dif_neg h, dif_neg (by omega)]

/-- The four-tap causal convolution at step `n`. -/
def conv4 (f : Fin 16384 → EReal) (w : Fin 4 → EReal) (b : EReal) (n : ℕ) : EReal := ∑ k : Fin 4, w k * late f 3 (n + k) + b
/-- The thirty-one-tap causal convolution at step `n`. -/
def conv31 (f : Fin 16384 → EReal) (w : Fin 31 → EReal) (b : EReal) (n : ℕ) : EReal := ∑ k : Fin 31, w k * late f 30 (n + k) + b

/-! ## The gates -/

/-- A gate's argument: channel `j`'s block of 32 channels against its column of the block-diagonal weight, plus the bias. -/
def pre (row : Fin 256 → EReal) (W : Fin 8 → Fin 32 → Fin 32 → EReal) (b : Fin 256 → EReal) (j : Fin 256) : EReal :=
  ∑ x : Fin 32, W ⟨j / 32, by omega⟩ x ⟨j % 32, by omega⟩ * row ⟨j / 32 * 32 + x, by omega⟩ + b j
/-- The softplus of `-l`. -/
def sp (l : EReal) : EReal := max (-l) 0 + Ideal.log1p (Ideal.exp (-(FloatOps.absf (F := Ideal) (φ := .f32) (-l))))
/-- The logarithm of the decay. -/
def la (p l : EReal) : EReal := Ideal.ofBits .f32 3238002688#32 * Ideal.logistic p * sp l
/-- The decay. -/
def dec (p l : EReal) : EReal := Ideal.exp (la p l)
/-- The recurrence's input. -/
def inp (x q p l : EReal) : EReal :=
  x * Ideal.logistic q * Ideal.sqrt (-(Ideal.exp (Ideal.ofBits .f32 1073741824#32 * la p l) - 1))

theorem ofBits_m8 : Ideal.ofBits .f32 3238002688#32 = ((-8 : ℝ) : EReal) := by
  simp [Ideal.ofBits, Ideal.ieee, -EReal.coe_mul, -EReal.coe_neg]; norm_num
theorem ofBits_2 : Ideal.ofBits .f32 1073741824#32 = ((2 : ℝ) : EReal) := by
  simp [Ideal.ofBits, Ideal.ieee, -EReal.coe_mul, -EReal.coe_neg]; norm_num

theorem exp_nonneg (x : EReal) : 0 ≤ Ideal.exp x := by
  induction x with
  | bot => exact le_refl _
  | top => exact le_top
  | coe r => exact EReal.coe_nonneg.mpr (Real.exp_pos r).le
theorem exp_ne_top {x : EReal} (h : x ≤ 0) : Ideal.exp x ≠ ⊤ := by
  induction x with
  | bot => exact EReal.zero_ne_top
  | top => simp at h
  | coe r => exact EReal.coe_ne_top _
theorem log1p_nonneg {x : EReal} (h : 0 ≤ x) : 0 ≤ Ideal.log1p x := by
  unfold Ideal.log1p
  induction x with
  | bot => simp at h
  | top => rw [show (1 : EReal) + ⊤ = ⊤ from rfl]; exact le_top
  | coe r =>
    have hr : (0 : ℝ) ≤ r := EReal.coe_nonneg.mp h
    rw [show (1 : EReal) + (r : EReal) = ((1 + r : ℝ) : EReal) by push_cast; rfl]
    show (0 : EReal) ≤ if (1 + r : ℝ) ≤ 0 then ⊥ else ((Real.log (1 + r) : ℝ) : EReal)
    rw [if_neg (by linarith)]
    exact EReal.coe_nonneg.mpr (Real.log_nonneg (by linarith))
theorem logistic_nonneg (x : EReal) : 0 ≤ Ideal.logistic x := by
  unfold Ideal.logistic Ideal.div
  have h1 : (0 : EReal) ≤ 1 + Ideal.exp (-x) := add_nonneg zero_le_one (exp_nonneg _)
  split
  · rw [if_pos zero_lt_one]; exact le_top
  · rw [one_mul]; exact EReal.inv_nonneg_of_nonneg h1
theorem sp_nonneg (l : EReal) : 0 ≤ sp l := add_nonneg (le_max_right _ _) (log1p_nonneg (exp_nonneg _))
theorem la_nonpos (p l : EReal) : la p l ≤ 0 := by
  unfold la
  rw [mul_assoc, ofBits_m8]
  exact EReal.mul_nonpos_iff.mpr (Or.inr ⟨EReal.coe_nonpos.mpr (by norm_num), mul_nonneg (logistic_nonneg p) (sp_nonneg l)⟩)
theorem dec_nonneg (p l : EReal) : 0 ≤ dec p l := exp_nonneg _
theorem dec_ne_top (p l : EReal) : dec p l ≠ ⊤ := exp_ne_top (la_nonpos p l)

/-- `-tanh L · (e^L e^L + 1) = -(e^{2L} - 1)` for every logarithm `L` of a decay. -/
theorem tanh_exp {L : EReal} (h : L ≤ 0) :
    (0 - Ideal.tanh L) * (Ideal.exp L * Ideal.exp L + 1) = -(Ideal.exp (Ideal.ofBits .f32 1073741824#32 * L) - 1) := by
  rw [ofBits_2]
  induction L with
  | bot =>
    rw [EReal.coe_mul_bot_of_pos (by norm_num)]
    show (0 - (-1 : EReal)) * (0 * 0 + 1) = -(0 - 1)
    norm_num
  | top => simp at h
  | coe r =>
    rw [← EReal.coe_mul]
    show (0 - ((Real.tanh r : ℝ) : EReal)) * (((Real.exp r : ℝ) : EReal) * ((Real.exp r : ℝ) : EReal) + 1)
      = -(((Real.exp (2 * r) : ℝ) : EReal) - 1)
    have : (0 - Real.tanh r) * (Real.exp r * Real.exp r + 1) = -(Real.exp (2 * r) - 1) := by
      rw [Real.tanh_eq_sinh_div_cosh, Real.sinh_eq, Real.cosh_eq, two_mul, Real.exp_add, Real.exp_neg]
      have := Real.exp_pos r
      field_simp
      ring
    exact_mod_cast congrArg (fun x : ℝ => (x : EReal)) this

/-! ## The recurrence -/

/-- The hidden state after `n` steps, from 0. -/
def hid (a u : ℕ → EReal) : ℕ → EReal
  | 0 => 0
  | n + 1 => a n * hid a u n + u n

/-! ## The two output rows -/

/-- The tanh form of GELU. -/
def gelu (g : EReal) : EReal := g * (Ideal.ofBits .f32 1056964608#32 * (1 + Ideal.tanh (Ideal.ofBits .f32 1061962282#32 *
  (g + Ideal.ofBits .f32 1027024659#32 * (g * g * g)))))
/-- The root mean square norm of a row, at channel `j`, times the channel's weight. -/
def rms (y : Fin 256 → EReal) (w : EReal) (j : Fin 256) : EReal :=
  y j * Ideal.rsqrt (Ideal.div (∑ x, y x * y x) (Ideal.ofBits .f32 1132462080#32) + Ideal.ofBits .f32 897988541#32) * w
/-- The mean of a row. -/
def mean (y : Fin 256 → EReal) : EReal := Ideal.div (∑ x, y x) (Ideal.ofBits .f32 1132462080#32)
/-- The layer norm of a row, at channel `j`. -/
def lnorm (y g b : Fin 256 → EReal) (j : Fin 256) : EReal :=
  (y j - mean y) * Ideal.rsqrt (mean (fun x => (y x - mean y) * (y x - mean y)) + Ideal.ofBits .f32 897988541#32) * g j + b j
/-- `x` times its logistic function. -/
def silu (x : EReal) : EReal := x * Ideal.logistic x

/-! ## One batch of each mixer -/

/-- The arrays of the recurrent mixer, one batch. -/
structure Lru where
  z : Fin 16384 → Fin 512 → EReal
  w : Fin 4 → Fin 256 → EReal
  b : Fin 256 → EReal
  wa : Fin 8 → Fin 32 → Fin 32 → EReal
  ba : Fin 256 → EReal
  wx : Fin 8 → Fin 32 → Fin 32 → EReal
  bx : Fin 256 → EReal
  lam : Fin 256 → EReal

namespace Lru
variable (P : Lru)
/-- The convolved row at step `n`. -/
def x (n : ℕ) (j : Fin 256) : EReal := conv4 (fun s => P.z s ⟨j, by omega⟩) (fun k => P.w k j) (P.b j) n
/-- Channel `j`'s decay at step `n`. -/
def a (j : Fin 256) (n : ℕ) : EReal := dec (pre (P.x n) P.wa P.ba j) (P.lam j)
/-- Channel `j`'s input at step `n`. -/
def u (j : Fin 256) (n : ℕ) : EReal := inp (P.x n j) (pre (P.x n) P.wx P.bx j) (pre (P.x n) P.wa P.ba j) (P.lam j)
/-- Channel `j`'s state after `n` steps. -/
def h (j : Fin 256) (n : ℕ) : EReal := hid (P.a j) (P.u j) n
/-- The mixer's normalised output at step `n`, channel `j`. -/
def out (g : Fin 256 → EReal) (n : Fin 16384) (j : Fin 256) : EReal :=
  rms (fun x => P.h x (n + 1) * gelu (P.z n ⟨256 + x, by omega⟩)) (g j) j
end Lru

/-- The arrays of the convolutional mixer, one batch. -/
structure Cvm where
  z : Fin 16384 → Fin 512 → EReal
  w : Fin 31 → Fin 256 → EReal
  b : Fin 256 → EReal
  g : Fin 256 → EReal
  h : Fin 256 → EReal

namespace Cvm
variable (P : Cvm)
/-- The gated input of channel `j`. -/
def y (j : Fin 256) (s : Fin 16384) : EReal := P.z s ⟨j, by omega⟩ * Ideal.logistic (P.z s ⟨256 + j, by omega⟩)
/-- The convolved row at step `n`. -/
def c (n : ℕ) (j : Fin 256) : EReal := conv31 (P.y j) (fun k => P.w k j) (P.b j) n
/-- The mixer's normalised output at step `n`, channel `j`. -/
def out (g : Fin 256 → EReal) (n : Fin 16384) (j : Fin 256) : EReal := rms (fun x => silu (lnorm (P.c n) P.g P.h x)) (g j) j
end Cvm
end Cert.Mix
end
-- ==== Proof.Scan.lean ====
/- The doubling scan: composing the affine steps of a recurrence pairwise, then in fours, and so on, gives the composition of
   all of them. -/
module

public import proofs.«01_k».proof.Proof.Spec

@[expose] public section

noncomputable section

namespace Cert.Mix
open Idealize.ShloMosaic

/-- `n` steps of the recurrence from time `s` and state `h`. -/
def run (a u : ℕ → EReal) (s : ℕ) : ℕ → EReal → EReal
  | 0, h => h
  | n + 1, h => a (s + n) * run a u s n h + u (s + n)

theorem run_add (a u : ℕ → EReal) (s e : ℕ) (h : EReal) : ∀ d, run a u s (e + d) h = run a u (s + e) d (run a u s e h)
  | 0 => rfl
  | d + 1 => by
    rw [← Nat.add_assoc]
    show a (s + (e + d)) * run a u s (e + d) h + u (s + (e + d)) = a (s + e + d) * run a u (s + e) d (run a u s e h) + u (s + e + d)
    rw [run_add a u s e h d, ← Nat.add_assoc]

theorem hid_add (a u : ℕ → EReal) (s : ℕ) : ∀ n, hid a u (s + n) = run a u s n (hid a u s)
  | 0 => rfl
  | n + 1 => by
    show a (s + n) * hid a u (s + n) + u (s + n) = a (s + n) * run a u s n (hid a u s) + u (s + n)
    rw [hid_add a u s n]

/-- `A i`, `U i` compose the last `d` steps up to time `s + i` (fewer at the block's start). -/
def Scanned (a u : ℕ → EReal) (s d : ℕ) (A U : Fin 512 → EReal) : Prop :=
  ∀ i : Fin 512, 0 ≤ A i ∧ A i ≠ ⊤ ∧ ∀ h, run a u (s + (i + 1 - min d (i + 1))) (min d (i + 1)) h = A i * h + U i

theorem scanned_one {a u : ℕ → EReal} (h0 : ∀ n, 0 ≤ a n) (ht : ∀ n, a n ≠ ⊤) (s : ℕ) (A U : Fin 512 → EReal)
    (hA : ∀ i : Fin 512, A i = a (s + i)) (hU : ∀ i : Fin 512, U i = u (s + i)) : Scanned a u s 1 A U := by
  intro i
  refine ⟨by rw [hA]; exact h0 _, by rw [hA]; exact ht _, fun h => ?_⟩
  rw [Nat.min_eq_left (by omega), hA, hU, show (i : ℕ) + 1 - 1 = i from rfl]
  rfl

theorem mul_ne_top {x y : EReal} (hx : 0 ≤ x) (hx' : x ≠ ⊤) (hy : 0 ≤ y) (hy' : y ≠ ⊤) : x * y ≠ ⊤ := by
  lift x to ℝ using ⟨hx', fun h => by rw [h] at hx; exact absurd hx (by simp)⟩
  lift y to ℝ using ⟨hy', fun h => by rw [h] at hy; exact absurd hy (by simp)⟩
  rw [← EReal.coe_mul]; exact EReal.coe_ne_top _

theorem scanned_double {a u : ℕ → EReal} {s d : ℕ} {A U : Fin 512 → EReal} (hS : Scanned a u s d A U) (A' U' : Fin 512 → EReal)
    (hA : ∀ i : Fin 512, A' i = A i * (if d ≤ i.val then A ⟨(i + 512 - d) % 512, Nat.mod_lt _ (by norm_num)⟩ else 1))
    (hU : ∀ i : Fin 512, U' i = A i * (if d ≤ i.val then U ⟨(i + 512 - d) % 512, Nat.mod_lt _ (by norm_num)⟩ else 0) + U i) :
    Scanned a u s (d + d) A' U' := by
  intro i
  obtain ⟨p, t, e⟩ := hS i
  rw [hA, hU]
  by_cases hd : d ≤ i.val
  · rw [if_pos hd, if_pos hd]
    have hi : (⟨(i + 512 - d) % 512, Nat.mod_lt _ (by norm_num)⟩ : Fin 512) = ⟨i - d, by omega⟩ := by
      apply Fin.ext; show (i.val + 512 - d) % 512 = i.val - d
      rw [show i.val + 512 - d = (i.val - d) + 512 by omega, Nat.add_mod_right, Nat.mod_eq_of_lt (by omega)]
    rw [hi]
    obtain ⟨p', t', e'⟩ := hS ⟨i - d, by omega⟩
    refine ⟨mul_nonneg p p', mul_ne_top p t p' t', fun h => ?_⟩
    have e1 := e' h
    have e2 := e (A ⟨i - d, by omega⟩ * h + U ⟨i - d, by omega⟩)
    rw [show min (d + d) (i.val + 1) = min d (i.val - d + 1) + d by omega, run_add,
      show s + (i.val + 1 - (min d (i.val - d + 1) + d)) = s + (i.val - d + 1 - min d (i.val - d + 1)) by omega, e1,
      show s + (i.val - d + 1 - min d (i.val - d + 1)) + min d (i.val - d + 1) = s + (i.val + 1 - min d (i.val + 1)) by omega]
    rw [show min d (i.val + 1) = d by omega] at e2 ⊢
    rw [e2, EReal.left_distrib_of_nonneg_of_ne_top p t, mul_assoc, add_assoc]
  · rw [if_neg hd, if_neg hd, mul_one, mul_zero, zero_add]
    refine ⟨p, t, fun h => ?_⟩
    have e1 := e h
    rw [show min d (i.val + 1) = min (d + d) (i.val + 1) by omega] at e1
    exact e1

/-- After every step of the block is composed: the state at row `i` is the affine map of the state before the block. -/
theorem scanned_hid {a u : ℕ → EReal} {s : ℕ} {A U : Fin 512 → EReal} (hS : Scanned a u s 512 A U) (i : Fin 512) :
    A i * hid a u s + U i = hid a u (s + i + 1) := by
  have e := (hS i).2.2 (hid a u s)
  rw [show min 512 (i.val + 1) = i.val + 1 by omega, Nat.sub_self, Nat.add_zero] at e
  rw [← e, Nat.add_assoc, hid_add]

end Cert.Mix
end
-- ==== Proof.KernelScan.lean ====
/- The kernel's tile of the recurrence: nine doubling stages over 512 rows, each reading the stage before some rows up, give
   the hidden state of every row from the one before the tile. -/
module

public import proofs.«01_k».proof.Proof.Gen.KernelIdeal.Value
public import Idealize.ShloMosaic.Lib.Pipeline.ValueKit
public import Idealize.ShloMosaic.Lib.StableHlo.Predicate
public import proofs.«01_k».proof.Proof.Scan

@[expose] public section

set_option maxRecDepth 16384

noncomputable section

namespace Cert.KernelIdeal.ValueProof
open Idealize.ShloMosaic.StableHlo Cert.KernelIdeal Cert.KernelIdeal.Gen Cert.KernelIdeal.Value Idealize.ShloMosaic Idealize.ShloMosaic.TcCoe Idealize.SL.Sem Cert.Mix

/-- The row number of every entry of a tile. -/
def rowIx : IVec S512x256 32 := iota Kind.tc S512x256 32 [0] iota_S512x256_d0_w32
/-- A stage of `d` rows: `x` read `d` rows up, and `z` in the first `d` rows. -/
def shiftR (d z : BitVec 32) (x : FVec Ideal S512x256 .f32) : FVec Ideal S512x256 .f32 :=
  select (cmpi .sge rowIx (broadcast S512x256 d)) (dynamicRotate 0 d none x rotates_S512x256_d0) (broadcast S512x256 (Scalar.ofBits (F := Ideal) .f32 z))
/-- The decays after a stage of `d` rows. -/
def nxtA (d : BitVec 32) (a : FVec Ideal S512x256 .f32) : FVec Ideal S512x256 .f32 := mulf a (shiftR d 0x3F800000#32 a)
/-- The inputs after a stage of `d` rows. -/
def nxtU (d : BitVec 32) (a u : FVec Ideal S512x256 .f32) : FVec Ideal S512x256 .f32 := addf (mulf a (shiftR d 0x00000000#32 u)) u

theorem sge_pick {n : Fin 512} {d : ℕ} (hd : d < 512) (x y : EReal) :
    Scalar.select (IntOp.cmpi .sge (BitVec.ofNat 32 n) (BitVec.ofNat 32 d)) x y = if d ≤ n.val then x else y := by
  have h : (IntOp.cmpi .sge (BitVec.ofNat 32 n) (BitVec.ofNat 32 d) = 1#1) ↔ d ≤ n.val := by
    rw [StableHlo.Predicate.sge_iff_toNat] <;> simp <;> omega
  by_cases hc : d ≤ n.val
  · rw [if_pos hc, h.mpr hc]; rfl
  · rw [if_neg hc]
    have : IntOp.cmpi .sge (BitVec.ofNat 32 n) (BitVec.ofNat 32 d) = 0#1 := by
      have := mt h.mp hc
      revert this
      generalize IntOp.cmpi .sge (BitVec.ofNat 32 n) (BitVec.ofNat 32 d) = b
      revert b; decide
    rw [this]; rfl

theorem nxtA_1 (a : FVec Ideal S512x256 .f32) (i : Fin 512) (j : Fin 256) : nxtA 1#32 a (ix2 i j) =
    (a (ix2 i j) * (if 1 ≤ i.val then a (ix2 ⟨(i + 512 - 1) % 512, Nat.mod_lt _ (by norm_num)⟩ j) else 1) : EReal) := by
  pointwise [nxtA, shiftR, rowIx]; rw [sge_pick (by norm_num)]
theorem nxtU_1 (a u : FVec Ideal S512x256 .f32) (i : Fin 512) (j : Fin 256) : nxtU 1#32 a u (ix2 i j) =
    (a (ix2 i j) * (if 1 ≤ i.val then u (ix2 ⟨(i + 512 - 1) % 512, Nat.mod_lt _ (by norm_num)⟩ j) else 0) + u (ix2 i j) : EReal) := by
  pointwise [nxtU, shiftR, rowIx]; rw [sge_pick (by norm_num)]; simp only [mul_ite, mul_zero]

theorem nxtA_2 (a : FVec Ideal S512x256 .f32) (i : Fin 512) (j : Fin 256) : nxtA 2#32 a (ix2 i j) =
    (a (ix2 i j) * (if 2 ≤ i.val then a (ix2 ⟨(i + 512 - 2) % 512, Nat.mod_lt _ (by norm_num)⟩ j) else 1) : EReal) := by
  pointwise [nxtA, shiftR, rowIx]; rw [sge_pick (by norm_num)]
theorem nxtU_2 (a u : FVec Ideal S512x256 .f32) (i : Fin 512) (j : Fin 256) : nxtU 2#32 a u (ix2 i j) =
    (a (ix2 i j) * (if 2 ≤ i.val then u (ix2 ⟨(i + 512 - 2) % 512, Nat.mod_lt _ (by norm_num)⟩ j) else 0) + u (ix2 i j) : EReal) := by
  pointwise [nxtU, shiftR, rowIx]; rw [sge_pick (by norm_num)]; simp only [mul_ite, mul_zero]

theorem nxtA_4 (a : FVec Ideal S512x256 .f32) (i : Fin 512) (j : Fin 256) : nxtA 4#32 a (ix2 i j) =
    (a (ix2 i j) * (if 4 ≤ i.val then a (ix2 ⟨(i + 512 - 4) % 512, Nat.mod_lt _ (by norm_num)⟩ j) else 1) : EReal) := by
  pointwise [nxtA, shiftR, rowIx]; rw [sge_pick (by norm_num)]
theorem nxtU_4 (a u : FVec Ideal S512x256 .f32) (i : Fin 512) (j : Fin 256) : nxtU 4#32 a u (ix2 i j) =
    (a (ix2 i j) * (if 4 ≤ i.val then u (ix2 ⟨(i + 512 - 4) % 512, Nat.mod_lt _ (by norm_num)⟩ j) else 0) + u (ix2 i j) : EReal) := by
  pointwise [nxtU, shiftR, rowIx]; rw [sge_pick (by norm_num)]; simp only [mul_ite, mul_zero]

theorem nxtA_8 (a : FVec Ideal S512x256 .f32) (i : Fin 512) (j : Fin 256) : nxtA 8#32 a (ix2 i j) =
    (a (ix2 i j) * (if 8 ≤ i.val then a (ix2 ⟨(i + 512 - 8) % 512, Nat.mod_lt _ (by norm_num)⟩ j) else 1) : EReal) := by
  pointwise [nxtA, shiftR, rowIx]; rw [sge_pick (by norm_num)]
theorem nxtU_8 (a u : FVec Ideal S512x256 .f32) (i : Fin 512) (j : Fin 256) : nxtU 8#32 a u (ix2 i j) =
    (a (ix2 i j) * (if 8 ≤ i.val then u (ix2 ⟨(i + 512 - 8) % 512, Nat.mod_lt _ (by norm_num)⟩ j) else 0) + u (ix2 i j) : EReal) := by
  pointwise [nxtU, shiftR, rowIx]; rw [sge_pick (by norm_num)]; simp only [mul_ite, mul_zero]

theorem nxtA_16 (a : FVec Ideal S512x256 .f32) (i : Fin 512) (j : Fin 256) : nxtA 16#32 a (ix2 i j) =
    (a (ix2 i j) * (if 16 ≤ i.val then a (ix2 ⟨(i + 512 - 16) % 512, Nat.mod_lt _ (by norm_num)⟩ j) else 1) : EReal) := by
  pointwise [nxtA, shiftR, rowIx]; rw [sge_pick (by norm_num)]
theorem nxtU_16 (a u : FVec Ideal S512x256 .f32) (i : Fin 512) (j : Fin 256) : nxtU 16#32 a u (ix2 i j) =
    (a (ix2 i j) * (if 16 ≤ i.val then u (ix2 ⟨(i + 512 - 16) % 512, Nat.mod_lt _ (by norm_num)⟩ j) else 0) + u (ix2 i j) : EReal) := by
  pointwise [nxtU, shiftR, rowIx]; rw [sge_pick (by norm_num)]; simp only [mul_ite, mul_zero]

theorem nxtA_32 (a : FVec Ideal S512x256 .f32) (i : Fin 512) (j : Fin 256) : nxtA 32#32 a (ix2 i j) =
    (a (ix2 i j) * (if 32 ≤ i.val then a (ix2 ⟨(i + 512 - 32) % 512, Nat.mod_lt _ (by norm_num)⟩ j) else 1) : EReal) := by
  pointwise [nxtA, shiftR, rowIx]; rw [sge_pick (by norm_num)]
theorem nxtU_32 (a u : FVec Ideal S512x256 .f32) (i : Fin 512) (j : Fin 256) : nxtU 32#32 a u (ix2 i j) =
    (a (ix2 i j) * (if 32 ≤ i.val then u (ix2 ⟨(i + 512 - 32) % 512, Nat.mod_lt _ (by norm_num)⟩ j) else 0) + u (ix2 i j) : EReal) := by
  pointwise [nxtU, shiftR, rowIx]; rw [sge_pick (by norm_num)]; simp only [mul_ite, mul_zero]

theorem nxtA_64 (a : FVec Ideal S512x256 .f32) (i : Fin 512) (j : Fin 256) : nxtA 64#32 a (ix2 i j) =
    (a (ix2 i j) * (if 64 ≤ i.val then a (ix2 ⟨(i + 512 - 64) % 512, Nat.mod_lt _ (by norm_num)⟩ j) else 1) : EReal) := by
  pointwise [nxtA, shiftR, rowIx]; rw [sge_pick (by norm_num)]
theorem nxtU_64 (a u : FVec Ideal S512x256 .f32) (i : Fin 512) (j : Fin 256) : nxtU 64#32 a u (ix2 i j) =
    (a (ix2 i j) * (if 64 ≤ i.val then u (ix2 ⟨(i + 512 - 64) % 512, Nat.mod_lt _ (by norm_num)⟩ j) else 0) + u (ix2 i j) : EReal) := by
  pointwise [nxtU, shiftR, rowIx]; rw [sge_pick (by norm_num)]; simp only [mul_ite, mul_zero]

theorem nxtA_128 (a : FVec Ideal S512x256 .f32) (i : Fin 512) (j : Fin 256) : nxtA 128#32 a (ix2 i j) =
    (a (ix2 i j) * (if 128 ≤ i.val then a (ix2 ⟨(i + 512 - 128) % 512, Nat.mod_lt _ (by norm_num)⟩ j) else 1) : EReal) := by
  pointwise [nxtA, shiftR, rowIx]; rw [sge_pick (by norm_num)]
theorem nxtU_128 (a u : FVec Ideal S512x256 .f32) (i : Fin 512) (j : Fin 256) : nxtU 128#32 a u (ix2 i j) =
    (a (ix2 i j) * (if 128 ≤ i.val then u (ix2 ⟨(i + 512 - 128) % 512, Nat.mod_lt _ (by norm_num)⟩ j) else 0) + u (ix2 i j) : EReal) := by
  pointwise [nxtU, shiftR, rowIx]; rw [sge_pick (by norm_num)]; simp only [mul_ite, mul_zero]

theorem nxtA_256 (a : FVec Ideal S512x256 .f32) (i : Fin 512) (j : Fin 256) : nxtA 256#32 a (ix2 i j) =
    (a (ix2 i j) * (if 256 ≤ i.val then a (ix2 ⟨(i + 512 - 256) % 512, Nat.mod_lt _ (by norm_num)⟩ j) else 1) : EReal) := by
  pointwise [nxtA, shiftR, rowIx]; rw [sge_pick (by norm_num)]
theorem nxtU_256 (a u : FVec Ideal S512x256 .f32) (i : Fin 512) (j : Fin 256) : nxtU 256#32 a u (ix2 i j) =
    (a (ix2 i j) * (if 256 ≤ i.val then u (ix2 ⟨(i + 512 - 256) % 512, Nat.mod_lt _ (by norm_num)⟩ j) else 0) + u (ix2 i j) : EReal) := by
  pointwise [nxtU, shiftR, rowIx]; rw [sge_pick (by norm_num)]; simp only [mul_ite, mul_zero]

/-- The decays after the first stages, up to `n` of them. -/
def stA (a : FVec Ideal S512x256 .f32) : ℕ → FVec Ideal S512x256 .f32
  | 0 => a
  | n + 1 => nxtA (BitVec.ofNat 32 (2 ^ n)) (stA a n)
/-- The inputs after the first stages, up to `n` of them. -/
def stU (a u : FVec Ideal S512x256 .f32) : ℕ → FVec Ideal S512x256 .f32
  | 0 => u
  | n + 1 => nxtU (BitVec.ofNat 32 (2 ^ n)) (stA a n) (stU a u n)

/-- The recurrence's input in the kernel, before the stages. -/
def u0 (x g q : FVec Ideal S512x256 .f32) (nl : FVec Ideal S1x256 .f32) : FVec Ideal S512x256 .f32 :=
  mulf (mulf x q) (sqrt (mulf (subf (broadcast S512x256 (Scalar.ofBits (F := Ideal) .f32 0x00000000#32)) (tanh (k0_pay17 g nl (FloatOps.ofBits FTy.f32 0#32))))
    (addf (mulf (k0_pay18 g nl (FloatOps.ofBits FTy.f32 0#32)) (k0_pay18 g nl (FloatOps.ofBits FTy.f32 0#32))) (broadcast S512x256 (Scalar.ofBits (F := Ideal) .f32 0x3F800000#32)))))

/-- The hidden states of a tile, from its gates and the state before it. -/
def hTile (x g q : FVec Ideal S512x256 .f32) (nl : FVec Ideal S1x256 .f32) (h : Vec Ideal S1x256 .f32) : FVec Ideal S512x256 .f32 :=
  let IO := iota Kind.tc S512x256 32 [0] iota_S512x256_d0_w32
  let u2 := k0_pay22 x g q nl (FloatOps.ofBits FTy.f32 0#32)
  let a2 := k0_pay23 g nl (FloatOps.ofBits FTy.f32 0#32)
  k0_pay35 IO (k0_pay29 IO u2 a2) (k0_pay30 IO a2) (k0_pay31 IO) (k0_pay32 IO a2) (k0_pay33 IO u2 a2) k0_pay34 h

theorem hTile_eq (x g q : FVec Ideal S512x256 .f32) (nl : FVec Ideal S1x256 .f32) (h : Vec Ideal S1x256 .f32) :
    hTile x g q nl h = addf (mulf (stA (k0_pay18 g nl (FloatOps.ofBits FTy.f32 0#32)) 9) (broadcastTo S512x256 h broadcasts_S1x256_S512x256))
      (stU (k0_pay18 g nl (FloatOps.ofBits FTy.f32 0#32)) (u0 x g q nl) 9) := by
  rfl

theorem hTile_scan (x g q : FVec Ideal S512x256 .f32) (nl : FVec Ideal S1x256 .f32) (h : Vec Ideal S1x256 .f32) (a u : ℕ → EReal) (s : ℕ) (j : Fin 256)
    (h0 : ∀ n, 0 ≤ a n) (ht : ∀ n, a n ≠ ⊤)
    (hA : ∀ i : Fin 512, k0_pay18 g nl (FloatOps.ofBits FTy.f32 0#32) (ix2 i j) = (a (s + i) : EReal))
    (hU : ∀ i : Fin 512, u0 x g q nl (ix2 i j) = (u (s + i) : EReal))
    (hh : h (ix2 0 j) = (hid a u s : EReal)) (i : Fin 512) : hTile x g q nl h (ix2 i j) = (hid a u (s + i + 1) : EReal) := by
  rw [hTile_eq]
  have S0 := scanned_one h0 ht s _ _ hA hU
  have S1 := scanned_double S0 (fun i => stA (k0_pay18 g nl (FloatOps.ofBits FTy.f32 0#32)) 1 (ix2 i j))
    (fun i => stU (k0_pay18 g nl (FloatOps.ofBits FTy.f32 0#32)) (u0 x g q nl) 1 (ix2 i j)) (fun i => nxtA_1 _ i j) (fun i => nxtU_1 _ _ i j)
  have S2 := scanned_double S1 (fun i => stA (k0_pay18 g nl (FloatOps.ofBits FTy.f32 0#32)) 2 (ix2 i j))
    (fun i => stU (k0_pay18 g nl (FloatOps.ofBits FTy.f32 0#32)) (u0 x g q nl) 2 (ix2 i j)) (fun i => nxtA_2 _ i j) (fun i => nxtU_2 _ _ i j)
  have S3 := scanned_double S2 (fun i => stA (k0_pay18 g nl (FloatOps.ofBits FTy.f32 0#32)) 3 (ix2 i j))
    (fun i => stU (k0_pay18 g nl (FloatOps.ofBits FTy.f32 0#32)) (u0 x g q nl) 3 (ix2 i j)) (fun i => nxtA_4 _ i j) (fun i => nxtU_4 _ _ i j)
  have S4 := scanned_double S3 (fun i => stA (k0_pay18 g nl (FloatOps.ofBits FTy.f32 0#32)) 4 (ix2 i j))
    (fun i => stU (k0_pay18 g nl (FloatOps.ofBits FTy.f32 0#32)) (u0 x g q nl) 4 (ix2 i j)) (fun i => nxtA_8 _ i j) (fun i => nxtU_8 _ _ i j)
  have S5 := scanned_double S4 (fun i => stA (k0_pay18 g nl (FloatOps.ofBits FTy.f32 0#32)) 5 (ix2 i j))
    (fun i => stU (k0_pay18 g nl (FloatOps.ofBits FTy.f32 0#32)) (u0 x g q nl) 5 (ix2 i j)) (fun i => nxtA_16 _ i j) (fun i => nxtU_16 _ _ i j)
  have S6 := scanned_double S5 (fun i => stA (k0_pay18 g nl (FloatOps.ofBits FTy.f32 0#32)) 6 (ix2 i j))
    (fun i => stU (k0_pay18 g nl (FloatOps.ofBits FTy.f32 0#32)) (u0 x g q nl) 6 (ix2 i j)) (fun i => nxtA_32 _ i j) (fun i => nxtU_32 _ _ i j)
  have S7 := scanned_double S6 (fun i => stA (k0_pay18 g nl (FloatOps.ofBits FTy.f32 0#32)) 7 (ix2 i j))
    (fun i => stU (k0_pay18 g nl (FloatOps.ofBits FTy.f32 0#32)) (u0 x g q nl) 7 (ix2 i j)) (fun i => nxtA_64 _ i j) (fun i => nxtU_64 _ _ i j)
  have S8 := scanned_double S7 (fun i => stA (k0_pay18 g nl (FloatOps.ofBits FTy.f32 0#32)) 8 (ix2 i j))
    (fun i => stU (k0_pay18 g nl (FloatOps.ofBits FTy.f32 0#32)) (u0 x g q nl) 8 (ix2 i j)) (fun i => nxtA_128 _ i j) (fun i => nxtU_128 _ _ i j)
  have S9 := scanned_double S8 (fun i => stA (k0_pay18 g nl (FloatOps.ofBits FTy.f32 0#32)) 9 (ix2 i j))
    (fun i => stU (k0_pay18 g nl (FloatOps.ofBits FTy.f32 0#32)) (u0 x g q nl) 9 (ix2 i j)) (fun i => nxtA_256 _ i j) (fun i => nxtU_256 _ _ i j)
  have e := scanned_hid S9 i
  rw [← hh] at e
  rw [← e]
  generalize stA _ 9 = A
  generalize stU _ _ 9 = U
  pointwise []

/-- The kernel's convolved tile before the gates, from the taps, the bias and the buffer. -/
def xTile (x2 : Vec Ideal S4x256 .f32) (x3 : Vec Ideal S1x256 .f32) (buf : Vec Ideal S528x256 .f32) : FVec Ideal S512x256 .f32 :=
  k0_pay11 (k0_pay9 x3 (View.ld x2 (Rect.unit ![3, 0] ![1, 256] inb_S4x256_S1x256_3_0)) (View.ld buf (Rect.unit ![8, 0] ![520, 256] inb_S528x256_S520x256_8_0)) (View.ld x2 (Rect.unit ![0, 0] ![1, 256] inb_S4x256_S1x256_0_0)) (View.ld buf (Rect.unit ![0, 0] ![520, 256] inb_S528x256_S520x256_0_0))) (k0_pay10 (View.ld x2 (Rect.unit ![1, 0] ![1, 256] inb_S4x256_S1x256_1_0)) (View.ld buf (Rect.unit ![0, 0] ![520, 256] inb_S528x256_S520x256_0_0))) (View.ld x2 (Rect.unit ![2, 0] ![1, 256] inb_S4x256_S1x256_2_0)) (View.ld buf (Rect.unit ![0, 0] ![520, 256] inb_S528x256_S520x256_0_0))
/-- A gate of the tile. -/
def gTile (x2 : Vec Ideal S4x256 .f32) (x3 : Vec Ideal S1x256 .f32) (buf : Vec Ideal S528x256 .f32) (w : Vec Ideal S256x256 .bf16) (b : Vec Ideal S1x256 .f32) : FVec Ideal S512x256 .f32 :=
  k0_pay14 (k0_pay9 x3 (View.ld x2 (Rect.unit ![3, 0] ![1, 256] inb_S4x256_S1x256_3_0)) (View.ld buf (Rect.unit ![8, 0] ![520, 256] inb_S528x256_S520x256_8_0)) (View.ld x2 (Rect.unit ![0, 0] ![1, 256] inb_S4x256_S1x256_0_0)) (View.ld buf (Rect.unit ![0, 0] ![520, 256] inb_S528x256_S520x256_0_0))) (k0_pay10 (View.ld x2 (Rect.unit ![1, 0] ![1, 256] inb_S4x256_S1x256_1_0)) (View.ld buf (Rect.unit ![0, 0] ![520, 256] inb_S528x256_S520x256_0_0))) (View.ld x2 (Rect.unit ![2, 0] ![1, 256] inb_S4x256_S1x256_2_0)) (View.ld buf (Rect.unit ![0, 0] ![520, 256] inb_S528x256_S520x256_0_0)) w b

theorem buf_rot (buf : Vec Ideal S528x256 .f32) (f : Fin 16384 → EReal) (s : ℕ) (j : Fin 256)
    (hb : ∀ p : Fin 520, buf (ix2 ⟨p, by omega⟩ j) = late f 8 (s + p)) (i : Fin 512) (k : ℕ) (hk : k < 4) (n : Fin 528) (hn : n.val = i + 5 + k) :
    buf (ix2 n j) = late f 3 (s + i + k) := by
  have e := hb ⟨i + 5 + k, by omega⟩
  rw [show n = ⟨i + 5 + k, by omega⟩ from Fin.ext hn]
  rw [show (⟨(⟨i + 5 + k, by omega⟩ : Fin 520).val, by omega⟩ : Fin 528) = ⟨i + 5 + k, by omega⟩ from rfl] at e
  rw [e, ← late_add f 3 (s + i + k) 5]
  congr 1; show s + (i.val + 5 + k) = _; omega

theorem xTile_at (x2 : Vec Ideal S4x256 .f32) (x3 : Vec Ideal S1x256 .f32) (buf : Vec Ideal S528x256 .f32) (f : Fin 16384 → EReal) (s : ℕ) (j : Fin 256)
    (hb : ∀ p : Fin 520, buf (ix2 ⟨p, by omega⟩ j) = late f 8 (s + p)) (i : Fin 512) :
    xTile x2 x3 buf (ix2 i j) = conv4 f (fun k => x2 (ix2 k j)) (x3 (ix2 0 j)) (s + i) := by
  pointwise [xTile, k0_pay11, k0_pay9, k0_pay10]
  rw [buf_rot buf f s j hb i 3 (by omega) ⟨8 + i, _⟩ (by show 8 + i.val = _; omega),
    buf_rot buf f s j hb i 0 (by omega) ⟨(i + 520 - 515) % 520, _⟩ (by show (i.val + 520 - 515) % 520 = _; omega),
    buf_rot buf f s j hb i 1 (by omega) ⟨(i + 520 - 514) % 520, _⟩ (by show (i.val + 520 - 514) % 520 = _; omega),
    buf_rot buf f s j hb i 2 (by omega) ⟨(i + 520 - 513) % 520, _⟩ (by show (i.val + 520 - 513) % 520 = _; omega)]
  unfold conv4
  rw [Fin.sum_univ_four]
  show _ = x2 (ix2 0 j) * late f 3 (s + i + 0) + x2 (ix2 1 j) * late f 3 (s + i + 1) + x2 (ix2 2 j) * late f 3 (s + i + 2) + x2 (ix2 3 j) * late f 3 (s + i + 3) + x3 (ix2 0 j)
  abel
theorem gTile_at (x2 : Vec Ideal S4x256 .f32) (x3 : Vec Ideal S1x256 .f32) (buf : Vec Ideal S528x256 .f32) (w : Vec Ideal S256x256 .bf16) (b : Vec Ideal S1x256 .f32) (i : Fin 512) (j : Fin 256) :
    gTile x2 x3 buf w b (ix2 i j) = Ideal.logistic (∑ x : Fin 256, xTile x2 x3 buf (ix2 i x) * w (ix2 x j) + b (ix2 0 j)) := by
  pointwise [gTile, k0_pay14, k0_pay13]
  rfl
theorem dec_at (g : FVec Ideal S512x256 .f32) (x8 : Vec Ideal S1x256 .f32) (i : Fin 512) (j : Fin 256) (p : EReal) (hp : g (ix2 i j) = Ideal.logistic p) :
    k0_pay18 g (k0_pay16 x8) (FloatOps.ofBits FTy.f32 0#32) (ix2 i j) = dec p (x8 (ix2 0 j)) := by
  pointwise [k0_pay18, k0_pay17, k0_pay16]
  rw [hp]
  unfold dec la sp
  simp only [zero_sub]
theorem u0_at (x g q : FVec Ideal S512x256 .f32) (x8 : Vec Ideal S1x256 .f32) (i : Fin 512) (j : Fin 256) (p p' : EReal) (hp : g (ix2 i j) = Ideal.logistic p) (hq : q (ix2 i j) = Ideal.logistic p') :
    u0 x g q (k0_pay16 x8) (ix2 i j) = inp (x (ix2 i j)) p' p (x8 (ix2 0 j)) := by
  pointwise [u0, k0_pay18, k0_pay17, k0_pay16]
  rw [hp, hq]
  have h := tanh_exp (la_nonpos p (x8 (ix2 0 j)))
  unfold inp
  rw [← h]
  unfold la sp
  simp only [zero_sub]
end Cert.KernelIdeal.ValueProof
end
-- ==== Proof.KernelRows.lean ====
/- The kernel's two output tiles, row by row. -/
module

public import proofs.«01_k».proof.Proof.KernelScan

@[expose] public section

set_option maxRecDepth 16384

noncomputable section

namespace Cert.KernelIdeal.ValueProof
open Idealize.ShloMosaic.StableHlo Cert.KernelIdeal Cert.KernelIdeal.Gen Cert.KernelIdeal.Value Idealize.ShloMosaic Idealize.ShloMosaic.TcCoe Idealize.SL.Sem Cert.Mix

/-- The first output's tile, from the gate half of the input tile, the hidden states and the norm's weight. -/
theorem yl_at (x0 : Vec Ideal S1x512x512 .f32) (h : FVec Ideal S512x256 .f32) (x13 : Vec Ideal S1x256 .f32) (i : Fin 512) (j : Fin 256) :
    (k0_pay38 (k0_pay7 (View.ld x0 (Rect.unit ![0, 0, 256] ![1, 512, 256] inb_S1x512x512_S1x512x256_0_0_256))) h x13 (ix3 0 i j) : EReal) =
      rms (fun x => h (ix2 i x) * gelu (x0 (ix3 0 i ⟨256 + x, by omega⟩))) (x13 (ix2 0 j)) j := by
  pointwise [k0_pay38, k0_pay7]
  have e : ∀ g t : EReal, Ideal.ofBits FTy.f32 1056964608#32 * g * t = g * (Ideal.ofBits FTy.f32 1056964608#32 * t) := fun g t => by
    rw [mul_comm (Ideal.ofBits FTy.f32 1056964608#32) g, mul_assoc]
  simp only [e]
  rfl

/-- The gated convolution input: the halves of the input tile. -/
theorem glu_at (x1 : Vec Ideal S1x512x512 .f32) (i : Fin 512) (j : Fin 256) :
    (k0_pay40 (k0_pay39 (View.ld x1 (Rect.unit ![0, 0, 0] ![1, 512, 256] inb_S1x512x512_S1x512x256_0_0_0))) (View.ld x1 (Rect.unit ![0, 0, 256] ![1, 512, 256] inb_S1x512x512_S1x512x256_0_0_256)) (ix2 i j) : EReal) =
      x1 (ix3 0 i ⟨j, by omega⟩) * Ideal.logistic (x1 (ix3 0 i ⟨256 + j, by omega⟩)) := by
  pointwise [k0_pay40, k0_pay39]

/-- The second output's tile. -/
def cTile (x9 : Vec Ideal S31x256 .f32) (x10 x11 x12 x14 : Vec Ideal S1x256 .f32) (buf : Vec Ideal S552x256 .f32) : FVec Ideal S1x512x256 .bf16 :=
  k0_pay1 (k0_pay51 (k0_pay48 (k0_pay47 (k0_pay45 (k0_pay43 (k0_pay41 x10 (View.ld x9 (Rect.unit ![6, 0] ![1, 256] inb_S31x256_S1x256_6_0)) (View.ld buf (Rect.unit ![8, 0] ![520, 256] inb_S552x256_S520x256_8_0)) (View.ld x9 (Rect.unit ![14, 0] ![1, 256] inb_S31x256_S1x256_14_0)) (View.ld buf (Rect.unit ![16, 0] ![520, 256] inb_S552x256_S520x256_16_0)) (View.ld x9 (Rect.unit ![22, 0] ![1, 256] inb_S31x256_S1x256_22_0)) (View.ld buf (Rect.unit ![24, 0] ![520, 256] inb_S552x256_S520x256_24_0)) (View.ld x9 (Rect.unit ![30, 0] ![1, 256] inb_S31x256_S1x256_30_0)) (View.ld buf (Rect.unit ![32, 0] ![520, 256] inb_S552x256_S520x256_32_0))) (View.ld buf (Rect.unit ![8, 0] ![520, 256] inb_S552x256_S520x256_8_0)) (k0_pay42 (View.ld x9 (Rect.unit ![7, 0] ![1, 256] inb_S31x256_S1x256_7_0))) (View.ld x9 (Rect.unit ![15, 0] ![1, 256] inb_S31x256_S1x256_15_0)) (View.ld buf (Rect.unit ![16, 0] ![520, 256] inb_S552x256_S520x256_16_0)) (View.ld x9 (Rect.unit ![23, 0] ![1, 256] inb_S31x256_S1x256_23_0)) (View.ld buf (Rect.unit ![24, 0] ![520, 256] inb_S552x256_S520x256_24_0))) (k0_pay44 (View.ld x9 (Rect.unit ![0, 0] ![1, 256] inb_S31x256_S1x256_0_0)) (View.ld buf (Rect.unit ![0, 0] ![520, 256] inb_S552x256_S520x256_0_0)) (View.ld x9 (Rect.unit ![8, 0] ![1, 256] inb_S31x256_S1x256_8_0)) (View.ld buf (Rect.unit ![8, 0] ![520, 256] inb_S552x256_S520x256_8_0)) (View.ld x9 (Rect.unit ![16, 0] ![1, 256] inb_S31x256_S1x256_16_0)) (View.ld buf (Rect.unit ![16, 0] ![520, 256] inb_S552x256_S520x256_16_0)) (View.ld x9 (Rect.unit ![24, 0] ![1, 256] inb_S31x256_S1x256_24_0)) (View.ld buf (Rect.unit ![24, 0] ![520, 256] inb_S552x256_S520x256_24_0))) (View.ld x9 (Rect.unit ![1, 0] ![1, 256] inb_S31x256_S1x256_1_0)) (View.ld buf (Rect.unit ![0, 0] ![520, 256] inb_S552x256_S520x256_0_0)) (View.ld x9 (Rect.unit ![9, 0] ![1, 256] inb_S31x256_S1x256_9_0)) (View.ld buf (Rect.unit ![8, 0] ![520, 256] inb_S552x256_S520x256_8_0)) (View.ld x9 (Rect.unit ![17, 0] ![1, 256] inb_S31x256_S1x256_17_0)) (View.ld buf (Rect.unit ![16, 0] ![520, 256] inb_S552x256_S520x256_16_0)) (View.ld x9 (Rect.unit ![25, 0] ![1, 256] inb_S31x256_S1x256_25_0)) (View.ld buf (Rect.unit ![24, 0] ![520, 256] inb_S552x256_S520x256_24_0))) (k0_pay46 (View.ld x9 (Rect.unit ![2, 0] ![1, 256] inb_S31x256_S1x256_2_0)) (View.ld buf (Rect.unit ![0, 0] ![520, 256] inb_S552x256_S520x256_0_0)) (View.ld x9 (Rect.unit ![10, 0] ![1, 256] inb_S31x256_S1x256_10_0)) (View.ld buf (Rect.unit ![8, 0] ![520, 256] inb_S552x256_S520x256_8_0))) (View.ld x9 (Rect.unit ![18, 0] ![1, 256] inb_S31x256_S1x256_18_0)) (View.ld buf (Rect.unit ![16, 0] ![520, 256] inb_S552x256_S520x256_16_0)) (View.ld x9 (Rect.unit ![26, 0] ![1, 256] inb_S31x256_S1x256_26_0)) (View.ld buf (Rect.unit ![24, 0] ![520, 256] inb_S552x256_S520x256_24_0)) (View.ld x9 (Rect.unit ![3, 0] ![1, 256] inb_S31x256_S1x256_3_0)) (View.ld buf (Rect.unit ![0, 0] ![520, 256] inb_S552x256_S520x256_0_0)) (View.ld x9 (Rect.unit ![11, 0] ![1, 256] inb_S31x256_S1x256_11_0)) (View.ld buf (Rect.unit ![8, 0] ![520, 256] inb_S552x256_S520x256_8_0)) (View.ld x9 (Rect.unit ![19, 0] ![1, 256] inb_S31x256_S1x256_19_0)) (View.ld buf (Rect.unit ![16, 0] ![520, 256] inb_S552x256_S520x256_16_0)) (View.ld x9 (Rect.unit ![27, 0] ![1, 256] inb_S31x256_S1x256_27_0)) (View.ld buf (Rect.unit ![24, 0] ![520, 256] inb_S552x256_S520x256_24_0))) (View.ld x9 (Rect.unit ![4, 0] ![1, 256] inb_S31x256_S1x256_4_0)) (View.ld buf (Rect.unit ![0, 0] ![520, 256] inb_S552x256_S520x256_0_0)) (View.ld x9 (Rect.unit ![12, 0] ![1, 256] inb_S31x256_S1x256_12_0)) (View.ld buf (Rect.unit ![8, 0] ![520, 256] inb_S552x256_S520x256_8_0)) (View.ld x9 (Rect.unit ![20, 0] ![1, 256] inb_S31x256_S1x256_20_0)) (View.ld buf (Rect.unit ![16, 0] ![520, 256] inb_S552x256_S520x256_16_0)) (View.ld x9 (Rect.unit ![28, 0] ![1, 256] inb_S31x256_S1x256_28_0)) (View.ld buf (Rect.unit ![24, 0] ![520, 256] inb_S552x256_S520x256_24_0))) (k0_pay49 (View.ld x9 (Rect.unit ![5, 0] ![1, 256] inb_S31x256_S1x256_5_0)) (View.ld buf (Rect.unit ![0, 0] ![520, 256] inb_S552x256_S520x256_0_0)) (View.ld x9 (Rect.unit ![13, 0] ![1, 256] inb_S31x256_S1x256_13_0)) (View.ld buf (Rect.unit ![8, 0] ![520, 256] inb_S552x256_S520x256_8_0))) (View.ld x9 (Rect.unit ![21, 0] ![1, 256] inb_S31x256_S1x256_21_0)) (View.ld buf (Rect.unit ![16, 0] ![520, 256] inb_S552x256_S520x256_16_0)) (View.ld x9 (Rect.unit ![29, 0] ![1, 256] inb_S31x256_S1x256_29_0)) (View.ld buf (Rect.unit ![24, 0] ![520, 256] inb_S552x256_S520x256_24_0)) x11 x12) (k0_pay52 (k0_pay48 (k0_pay47 (k0_pay45 (k0_pay43 (k0_pay41 x10 (View.ld x9 (Rect.unit ![6, 0] ![1, 256] inb_S31x256_S1x256_6_0)) (View.ld buf (Rect.unit ![8, 0] ![520, 256] inb_S552x256_S520x256_8_0)) (View.ld x9 (Rect.unit ![14, 0] ![1, 256] inb_S31x256_S1x256_14_0)) (View.ld buf (Rect.unit ![16, 0] ![520, 256] inb_S552x256_S520x256_16_0)) (View.ld x9 (Rect.unit ![22, 0] ![1, 256] inb_S31x256_S1x256_22_0)) (View.ld buf (Rect.unit ![24, 0] ![520, 256] inb_S552x256_S520x256_24_0)) (View.ld x9 (Rect.unit ![30, 0] ![1, 256] inb_S31x256_S1x256_30_0)) (View.ld buf (Rect.unit ![32, 0] ![520, 256] inb_S552x256_S520x256_32_0))) (View.ld buf (Rect.unit ![8, 0] ![520, 256] inb_S552x256_S520x256_8_0)) (k0_pay42 (View.ld x9 (Rect.unit ![7, 0] ![1, 256] inb_S31x256_S1x256_7_0))) (View.ld x9 (Rect.unit ![15, 0] ![1, 256] inb_S31x256_S1x256_15_0)) (View.ld buf (Rect.unit ![16, 0] ![520, 256] inb_S552x256_S520x256_16_0)) (View.ld x9 (Rect.unit ![23, 0] ![1, 256] inb_S31x256_S1x256_23_0)) (View.ld buf (Rect.unit ![24, 0] ![520, 256] inb_S552x256_S520x256_24_0))) (k0_pay44 (View.ld x9 (Rect.unit ![0, 0] ![1, 256] inb_S31x256_S1x256_0_0)) (View.ld buf (Rect.unit ![0, 0] ![520, 256] inb_S552x256_S520x256_0_0)) (View.ld x9 (Rect.unit ![8, 0] ![1, 256] inb_S31x256_S1x256_8_0)) (View.ld buf (Rect.unit ![8, 0] ![520, 256] inb_S552x256_S520x256_8_0)) (View.ld x9 (Rect.unit ![16, 0] ![1, 256] inb_S31x256_S1x256_16_0)) (View.ld buf (Rect.unit ![16, 0] ![520, 256] inb_S552x256_S520x256_16_0)) (View.ld x9 (Rect.unit ![24, 0] ![1, 256] inb_S31x256_S1x256_24_0)) (View.ld buf (Rect.unit ![24, 0] ![520, 256] inb_S552x256_S520x256_24_0))) (View.ld x9 (Rect.unit ![1, 0] ![1, 256] inb_S31x256_S1x256_1_0)) (View.ld buf (Rect.unit ![0, 0] ![520, 256] inb_S552x256_S520x256_0_0)) (View.ld x9 (Rect.unit ![9, 0] ![1, 256] inb_S31x256_S1x256_9_0)) (View.ld buf (Rect.unit ![8, 0] ![520, 256] inb_S552x256_S520x256_8_0)) (View.ld x9 (Rect.unit ![17, 0] ![1, 256] inb_S31x256_S1x256_17_0)) (View.ld buf (Rect.unit ![16, 0] ![520, 256] inb_S552x256_S520x256_16_0)) (View.ld x9 (Rect.unit ![25, 0] ![1, 256] inb_S31x256_S1x256_25_0)) (View.ld buf (Rect.unit ![24, 0] ![520, 256] inb_S552x256_S520x256_24_0))) (k0_pay46 (View.ld x9 (Rect.unit ![2, 0] ![1, 256] inb_S31x256_S1x256_2_0)) (View.ld buf (Rect.unit ![0, 0] ![520, 256] inb_S552x256_S520x256_0_0)) (View.ld x9 (Rect.unit ![10, 0] ![1, 256] inb_S31x256_S1x256_10_0)) (View.ld buf (Rect.unit ![8, 0] ![520, 256] inb_S552x256_S520x256_8_0))) (View.ld x9 (Rect.unit ![18, 0] ![1, 256] inb_S31x256_S1x256_18_0)) (View.ld buf (Rect.unit ![16, 0] ![520, 256] inb_S552x256_S520x256_16_0)) (View.ld x9 (Rect.unit ![26, 0] ![1, 256] inb_S31x256_S1x256_26_0)) (View.ld buf (Rect.unit ![24, 0] ![520, 256] inb_S552x256_S520x256_24_0)) (View.ld x9 (Rect.unit ![3, 0] ![1, 256] inb_S31x256_S1x256_3_0)) (View.ld buf (Rect.unit ![0, 0] ![520, 256] inb_S552x256_S520x256_0_0)) (View.ld x9 (Rect.unit ![11, 0] ![1, 256] inb_S31x256_S1x256_11_0)) (View.ld buf (Rect.unit ![8, 0] ![520, 256] inb_S552x256_S520x256_8_0)) (View.ld x9 (Rect.unit ![19, 0] ![1, 256] inb_S31x256_S1x256_19_0)) (View.ld buf (Rect.unit ![16, 0] ![520, 256] inb_S552x256_S520x256_16_0)) (View.ld x9 (Rect.unit ![27, 0] ![1, 256] inb_S31x256_S1x256_27_0)) (View.ld buf (Rect.unit ![24, 0] ![520, 256] inb_S552x256_S520x256_24_0))) (View.ld x9 (Rect.unit ![4, 0] ![1, 256] inb_S31x256_S1x256_4_0)) (View.ld buf (Rect.unit ![0, 0] ![520, 256] inb_S552x256_S520x256_0_0)) (View.ld x9 (Rect.unit ![12, 0] ![1, 256] inb_S31x256_S1x256_12_0)) (View.ld buf (Rect.unit ![8, 0] ![520, 256] inb_S552x256_S520x256_8_0)) (View.ld x9 (Rect.unit ![20, 0] ![1, 256] inb_S31x256_S1x256_20_0)) (View.ld buf (Rect.unit ![16, 0] ![520, 256] inb_S552x256_S520x256_16_0)) (View.ld x9 (Rect.unit ![28, 0] ![1, 256] inb_S31x256_S1x256_28_0)) (View.ld buf (Rect.unit ![24, 0] ![520, 256] inb_S552x256_S520x256_24_0))) (k0_pay49 (View.ld x9 (Rect.unit ![5, 0] ![1, 256] inb_S31x256_S1x256_5_0)) (View.ld buf (Rect.unit ![0, 0] ![520, 256] inb_S552x256_S520x256_0_0)) (View.ld x9 (Rect.unit ![13, 0] ![1, 256] inb_S31x256_S1x256_13_0)) (View.ld buf (Rect.unit ![8, 0] ![520, 256] inb_S552x256_S520x256_8_0))) (View.ld x9 (Rect.unit ![21, 0] ![1, 256] inb_S31x256_S1x256_21_0)) (View.ld buf (Rect.unit ![16, 0] ![520, 256] inb_S552x256_S520x256_16_0)) (View.ld x9 (Rect.unit ![29, 0] ![1, 256] inb_S31x256_S1x256_29_0)) (View.ld buf (Rect.unit ![24, 0] ![520, 256] inb_S552x256_S520x256_24_0)) x11 x12) x14

theorem sig_at (x9 : Vec Ideal S31x256 .f32) (x10 x11 x12 x14 : Vec Ideal S1x256 .f32) (buf : Vec Ideal S552x256 .f32) (i : Fin 512) (j : Fin 256) :
    k0_pay52 (k0_pay48 (k0_pay47 (k0_pay45 (k0_pay43 (k0_pay41 x10 (View.ld x9 (Rect.unit ![6, 0] ![1, 256] inb_S31x256_S1x256_6_0)) (View.ld buf (Rect.unit ![8, 0] ![520, 256] inb_S552x256_S520x256_8_0)) (View.ld x9 (Rect.unit ![14, 0] ![1, 256] inb_S31x256_S1x256_14_0)) (View.ld buf (Rect.unit ![16, 0] ![520, 256] inb_S552x256_S520x256_16_0)) (View.ld x9 (Rect.unit ![22, 0] ![1, 256] inb_S31x256_S1x256_22_0)) (View.ld buf (Rect.unit ![24, 0] ![520, 256] inb_S552x256_S520x256_24_0)) (View.ld x9 (Rect.unit ![30, 0] ![1, 256] inb_S31x256_S1x256_30_0)) (View.ld buf (Rect.unit ![32, 0] ![520, 256] inb_S552x256_S520x256_32_0))) (View.ld buf (Rect.unit ![8, 0] ![520, 256] inb_S552x256_S520x256_8_0)) (k0_pay42 (View.ld x9 (Rect.unit ![7, 0] ![1, 256] inb_S31x256_S1x256_7_0))) (View.ld x9 (Rect.unit ![15, 0] ![1, 256] inb_S31x256_S1x256_15_0)) (View.ld buf (Rect.unit ![16, 0] ![520, 256] inb_S552x256_S520x256_16_0)) (View.ld x9 (Rect.unit ![23, 0] ![1, 256] inb_S31x256_S1x256_23_0)) (View.ld buf (Rect.unit ![24, 0] ![520, 256] inb_S552x256_S520x256_24_0))) (k0_pay44 (View.ld x9 (Rect.unit ![0, 0] ![1, 256] inb_S31x256_S1x256_0_0)) (View.ld buf (Rect.unit ![0, 0] ![520, 256] inb_S552x256_S520x256_0_0)) (View.ld x9 (Rect.unit ![8, 0] ![1, 256] inb_S31x256_S1x256_8_0)) (View.ld buf (Rect.unit ![8, 0] ![520, 256] inb_S552x256_S520x256_8_0)) (View.ld x9 (Rect.unit ![16, 0] ![1, 256] inb_S31x256_S1x256_16_0)) (View.ld buf (Rect.unit ![16, 0] ![520, 256] inb_S552x256_S520x256_16_0)) (View.ld x9 (Rect.unit ![24, 0] ![1, 256] inb_S31x256_S1x256_24_0)) (View.ld buf (Rect.unit ![24, 0] ![520, 256] inb_S552x256_S520x256_24_0))) (View.ld x9 (Rect.unit ![1, 0] ![1, 256] inb_S31x256_S1x256_1_0)) (View.ld buf (Rect.unit ![0, 0] ![520, 256] inb_S552x256_S520x256_0_0)) (View.ld x9 (Rect.unit ![9, 0] ![1, 256] inb_S31x256_S1x256_9_0)) (View.ld buf (Rect.unit ![8, 0] ![520, 256] inb_S552x256_S520x256_8_0)) (View.ld x9 (Rect.unit ![17, 0] ![1, 256] inb_S31x256_S1x256_17_0)) (View.ld buf (Rect.unit ![16, 0] ![520, 256] inb_S552x256_S520x256_16_0)) (View.ld x9 (Rect.unit ![25, 0] ![1, 256] inb_S31x256_S1x256_25_0)) (View.ld buf (Rect.unit ![24, 0] ![520, 256] inb_S552x256_S520x256_24_0))) (k0_pay46 (View.ld x9 (Rect.unit ![2, 0] ![1, 256] inb_S31x256_S1x256_2_0)) (View.ld buf (Rect.unit ![0, 0] ![520, 256] inb_S552x256_S520x256_0_0)) (View.ld x9 (Rect.unit ![10, 0] ![1, 256] inb_S31x256_S1x256_10_0)) (View.ld buf (Rect.unit ![8, 0] ![520, 256] inb_S552x256_S520x256_8_0))) (View.ld x9 (Rect.unit ![18, 0] ![1, 256] inb_S31x256_S1x256_18_0)) (View.ld buf (Rect.unit ![16, 0] ![520, 256] inb_S552x256_S520x256_16_0)) (View.ld x9 (Rect.unit ![26, 0] ![1, 256] inb_S31x256_S1x256_26_0)) (View.ld buf (Rect.unit ![24, 0] ![520, 256] inb_S552x256_S520x256_24_0)) (View.ld x9 (Rect.unit ![3, 0] ![1, 256] inb_S31x256_S1x256_3_0)) (View.ld buf (Rect.unit ![0, 0] ![520, 256] inb_S552x256_S520x256_0_0)) (View.ld x9 (Rect.unit ![11, 0] ![1, 256] inb_S31x256_S1x256_11_0)) (View.ld buf (Rect.unit ![8, 0] ![520, 256] inb_S552x256_S520x256_8_0)) (View.ld x9 (Rect.unit ![19, 0] ![1, 256] inb_S31x256_S1x256_19_0)) (View.ld buf (Rect.unit ![16, 0] ![520, 256] inb_S552x256_S520x256_16_0)) (View.ld x9 (Rect.unit ![27, 0] ![1, 256] inb_S31x256_S1x256_27_0)) (View.ld buf (Rect.unit ![24, 0] ![520, 256] inb_S552x256_S520x256_24_0))) (View.ld x9 (Rect.unit ![4, 0] ![1, 256] inb_S31x256_S1x256_4_0)) (View.ld buf (Rect.unit ![0, 0] ![520, 256] inb_S552x256_S520x256_0_0)) (View.ld x9 (Rect.unit ![12, 0] ![1, 256] inb_S31x256_S1x256_12_0)) (View.ld buf (Rect.unit ![8, 0] ![520, 256] inb_S552x256_S520x256_8_0)) (View.ld x9 (Rect.unit ![20, 0] ![1, 256] inb_S31x256_S1x256_20_0)) (View.ld buf (Rect.unit ![16, 0] ![520, 256] inb_S552x256_S520x256_16_0)) (View.ld x9 (Rect.unit ![28, 0] ![1, 256] inb_S31x256_S1x256_28_0)) (View.ld buf (Rect.unit ![24, 0] ![520, 256] inb_S552x256_S520x256_24_0))) (k0_pay49 (View.ld x9 (Rect.unit ![5, 0] ![1, 256] inb_S31x256_S1x256_5_0)) (View.ld buf (Rect.unit ![0, 0] ![520, 256] inb_S552x256_S520x256_0_0)) (View.ld x9 (Rect.unit ![13, 0] ![1, 256] inb_S31x256_S1x256_13_0)) (View.ld buf (Rect.unit ![8, 0] ![520, 256] inb_S552x256_S520x256_8_0))) (View.ld x9 (Rect.unit ![21, 0] ![1, 256] inb_S31x256_S1x256_21_0)) (View.ld buf (Rect.unit ![16, 0] ![520, 256] inb_S552x256_S520x256_16_0)) (View.ld x9 (Rect.unit ![29, 0] ![1, 256] inb_S31x256_S1x256_29_0)) (View.ld buf (Rect.unit ![24, 0] ![520, 256] inb_S552x256_S520x256_24_0)) x11 x12 (ix2 i j) = Ideal.logistic (k0_pay51 (k0_pay48 (k0_pay47 (k0_pay45 (k0_pay43 (k0_pay41 x10 (View.ld x9 (Rect.unit ![6, 0] ![1, 256] inb_S31x256_S1x256_6_0)) (View.ld buf (Rect.unit ![8, 0] ![520, 256] inb_S552x256_S520x256_8_0)) (View.ld x9 (Rect.unit ![14, 0] ![1, 256] inb_S31x256_S1x256_14_0)) (View.ld buf (Rect.unit ![16, 0] ![520, 256] inb_S552x256_S520x256_16_0)) (View.ld x9 (Rect.unit ![22, 0] ![1, 256] inb_S31x256_S1x256_22_0)) (View.ld buf (Rect.unit ![24, 0] ![520, 256] inb_S552x256_S520x256_24_0)) (View.ld x9 (Rect.unit ![30, 0] ![1, 256] inb_S31x256_S1x256_30_0)) (View.ld buf (Rect.unit ![32, 0] ![520, 256] inb_S552x256_S520x256_32_0))) (View.ld buf (Rect.unit ![8, 0] ![520, 256] inb_S552x256_S520x256_8_0)) (k0_pay42 (View.ld x9 (Rect.unit ![7, 0] ![1, 256] inb_S31x256_S1x256_7_0))) (View.ld x9 (Rect.unit ![15, 0] ![1, 256] inb_S31x256_S1x256_15_0)) (View.ld buf (Rect.unit ![16, 0] ![520, 256] inb_S552x256_S520x256_16_0)) (View.ld x9 (Rect.unit ![23, 0] ![1, 256] inb_S31x256_S1x256_23_0)) (View.ld buf (Rect.unit ![24, 0] ![520, 256] inb_S552x256_S520x256_24_0))) (k0_pay44 (View.ld x9 (Rect.unit ![0, 0] ![1, 256] inb_S31x256_S1x256_0_0)) (View.ld buf (Rect.unit ![0, 0] ![520, 256] inb_S552x256_S520x256_0_0)) (View.ld x9 (Rect.unit ![8, 0] ![1, 256] inb_S31x256_S1x256_8_0)) (View.ld buf (Rect.unit ![8, 0] ![520, 256] inb_S552x256_S520x256_8_0)) (View.ld x9 (Rect.unit ![16, 0] ![1, 256] inb_S31x256_S1x256_16_0)) (View.ld buf (Rect.unit ![16, 0] ![520, 256] inb_S552x256_S520x256_16_0)) (View.ld x9 (Rect.unit ![24, 0] ![1, 256] inb_S31x256_S1x256_24_0)) (View.ld buf (Rect.unit ![24, 0] ![520, 256] inb_S552x256_S520x256_24_0))) (View.ld x9 (Rect.unit ![1, 0] ![1, 256] inb_S31x256_S1x256_1_0)) (View.ld buf (Rect.unit ![0, 0] ![520, 256] inb_S552x256_S520x256_0_0)) (View.ld x9 (Rect.unit ![9, 0] ![1, 256] inb_S31x256_S1x256_9_0)) (View.ld buf (Rect.unit ![8, 0] ![520, 256] inb_S552x256_S520x256_8_0)) (View.ld x9 (Rect.unit ![17, 0] ![1, 256] inb_S31x256_S1x256_17_0)) (View.ld buf (Rect.unit ![16, 0] ![520, 256] inb_S552x256_S520x256_16_0)) (View.ld x9 (Rect.unit ![25, 0] ![1, 256] inb_S31x256_S1x256_25_0)) (View.ld buf (Rect.unit ![24, 0] ![520, 256] inb_S552x256_S520x256_24_0))) (k0_pay46 (View.ld x9 (Rect.unit ![2, 0] ![1, 256] inb_S31x256_S1x256_2_0)) (View.ld buf (Rect.unit ![0, 0] ![520, 256] inb_S552x256_S520x256_0_0)) (View.ld x9 (Rect.unit ![10, 0] ![1, 256] inb_S31x256_S1x256_10_0)) (View.ld buf (Rect.unit ![8, 0] ![520, 256] inb_S552x256_S520x256_8_0))) (View.ld x9 (Rect.unit ![18, 0] ![1, 256] inb_S31x256_S1x256_18_0)) (View.ld buf (Rect.unit ![16, 0] ![520, 256] inb_S552x256_S520x256_16_0)) (View.ld x9 (Rect.unit ![26, 0] ![1, 256] inb_S31x256_S1x256_26_0)) (View.ld buf (Rect.unit ![24, 0] ![520, 256] inb_S552x256_S520x256_24_0)) (View.ld x9 (Rect.unit ![3, 0] ![1, 256] inb_S31x256_S1x256_3_0)) (View.ld buf (Rect.unit ![0, 0] ![520, 256] inb_S552x256_S520x256_0_0)) (View.ld x9 (Rect.unit ![11, 0] ![1, 256] inb_S31x256_S1x256_11_0)) (View.ld buf (Rect.unit ![8, 0] ![520, 256] inb_S552x256_S520x256_8_0)) (View.ld x9 (Rect.unit ![19, 0] ![1, 256] inb_S31x256_S1x256_19_0)) (View.ld buf (Rect.unit ![16, 0] ![520, 256] inb_S552x256_S520x256_16_0)) (View.ld x9 (Rect.unit ![27, 0] ![1, 256] inb_S31x256_S1x256_27_0)) (View.ld buf (Rect.unit ![24, 0] ![520, 256] inb_S552x256_S520x256_24_0))) (View.ld x9 (Rect.unit ![4, 0] ![1, 256] inb_S31x256_S1x256_4_0)) (View.ld buf (Rect.unit ![0, 0] ![520, 256] inb_S552x256_S520x256_0_0)) (View.ld x9 (Rect.unit ![12, 0] ![1, 256] inb_S31x256_S1x256_12_0)) (View.ld buf (Rect.unit ![8, 0] ![520, 256] inb_S552x256_S520x256_8_0)) (View.ld x9 (Rect.unit ![20, 0] ![1, 256] inb_S31x256_S1x256_20_0)) (View.ld buf (Rect.unit ![16, 0] ![520, 256] inb_S552x256_S520x256_16_0)) (View.ld x9 (Rect.unit ![28, 0] ![1, 256] inb_S31x256_S1x256_28_0)) (View.ld buf (Rect.unit ![24, 0] ![520, 256] inb_S552x256_S520x256_24_0))) (k0_pay49 (View.ld x9 (Rect.unit ![5, 0] ![1, 256] inb_S31x256_S1x256_5_0)) (View.ld buf (Rect.unit ![0, 0] ![520, 256] inb_S552x256_S520x256_0_0)) (View.ld x9 (Rect.unit ![13, 0] ![1, 256] inb_S31x256_S1x256_13_0)) (View.ld buf (Rect.unit ![8, 0] ![520, 256] inb_S552x256_S520x256_8_0))) (View.ld x9 (Rect.unit ![21, 0] ![1, 256] inb_S31x256_S1x256_21_0)) (View.ld buf (Rect.unit ![16, 0] ![520, 256] inb_S552x256_S520x256_16_0)) (View.ld x9 (Rect.unit ![29, 0] ![1, 256] inb_S31x256_S1x256_29_0)) (View.ld buf (Rect.unit ![24, 0] ![520, 256] inb_S552x256_S520x256_24_0)) x11 x12 (ix2 i j)) := by
  pointwise [k0_pay52]

theorem last_at (y q : FVec Ideal S512x256 .f32) (x14 : Vec Ideal S1x256 .f32) (i : Fin 512) (j : Fin 256) :
    (k0_pay1 y q x14 (ix3 0 i j) : EReal) = rms (fun x => y (ix2 i x) * q (ix2 i x)) (x14 (ix2 0 j)) j := by
  pointwise [k0_pay1]
  rfl
theorem ln_at (a : FVec Ideal S512x256 .f32) (e : FVec Ideal S520x256 .f32) (w w' g b : Vec Ideal S1x256 .f32) (B B' : Vec Ideal S520x256 .f32) (i : Fin 512) (j : Fin 256) :
    k0_pay51 a e w B w' B' g b (ix2 i j) =
      lnorm (fun x => a (ix2 i x) + (e (ix2 ⟨(i + 520 - 513) % 520, Nat.mod_lt _ (by norm_num)⟩ x) + w (ix2 0 x) * B (ix2 ⟨(i + 520 - 513) % 520, Nat.mod_lt _ (by norm_num)⟩ x)
        + w' (ix2 0 x) * B' (ix2 ⟨(i + 520 - 513) % 520, Nat.mod_lt _ (by norm_num)⟩ x))) (fun x => g (ix2 0 x)) (fun x => b (ix2 0 x)) j := by
  pointwise [k0_pay51]
  rfl
set_option maxHeartbeats 2000000 in
theorem conv_at (x9 : Vec Ideal S31x256 .f32) (x10 : Vec Ideal S1x256 .f32) (buf : Vec Ideal S552x256 .f32) (f : Fin 16384 → EReal) (s : ℕ) (x : Fin 256)
    (hb : ∀ p : Fin 544, buf (ix2 ⟨p, by omega⟩ x) = late f 32 (s + p)) (i : Fin 512) :
    ((k0_pay48 (k0_pay47 (k0_pay45 (k0_pay43 (k0_pay41 x10 (View.ld x9 (Rect.unit ![6, 0] ![1, 256] inb_S31x256_S1x256_6_0)) (View.ld buf (Rect.unit ![8, 0] ![520, 256] inb_S552x256_S520x256_8_0)) (View.ld x9 (Rect.unit ![14, 0] ![1, 256] inb_S31x256_S1x256_14_0)) (View.ld buf (Rect.unit ![16, 0] ![520, 256] inb_S552x256_S520x256_16_0)) (View.ld x9 (Rect.unit ![22, 0] ![1, 256] inb_S31x256_S1x256_22_0)) (View.ld buf (Rect.unit ![24, 0] ![520, 256] inb_S552x256_S520x256_24_0)) (View.ld x9 (Rect.unit ![30, 0] ![1, 256] inb_S31x256_S1x256_30_0)) (View.ld buf (Rect.unit ![32, 0] ![520, 256] inb_S552x256_S520x256_32_0))) (View.ld buf (Rect.unit ![8, 0] ![520, 256] inb_S552x256_S520x256_8_0)) (k0_pay42 (View.ld x9 (Rect.unit ![7, 0] ![1, 256] inb_S31x256_S1x256_7_0))) (View.ld x9 (Rect.unit ![15, 0] ![1, 256] inb_S31x256_S1x256_15_0)) (View.ld buf (Rect.unit ![16, 0] ![520, 256] inb_S552x256_S520x256_16_0)) (View.ld x9 (Rect.unit ![23, 0] ![1, 256] inb_S31x256_S1x256_23_0)) (View.ld buf (Rect.unit ![24, 0] ![520, 256] inb_S552x256_S520x256_24_0))) (k0_pay44 (View.ld x9 (Rect.unit ![0, 0] ![1, 256] inb_S31x256_S1x256_0_0)) (View.ld buf (Rect.unit ![0, 0] ![520, 256] inb_S552x256_S520x256_0_0)) (View.ld x9 (Rect.unit ![8, 0] ![1, 256] inb_S31x256_S1x256_8_0)) (View.ld buf (Rect.unit ![8, 0] ![520, 256] inb_S552x256_S520x256_8_0)) (View.ld x9 (Rect.unit ![16, 0] ![1, 256] inb_S31x256_S1x256_16_0)) (View.ld buf (Rect.unit ![16, 0] ![520, 256] inb_S552x256_S520x256_16_0)) (View.ld x9 (Rect.unit ![24, 0] ![1, 256] inb_S31x256_S1x256_24_0)) (View.ld buf (Rect.unit ![24, 0] ![520, 256] inb_S552x256_S520x256_24_0))) (View.ld x9 (Rect.unit ![1, 0] ![1, 256] inb_S31x256_S1x256_1_0)) (View.ld buf (Rect.unit ![0, 0] ![520, 256] inb_S552x256_S520x256_0_0)) (View.ld x9 (Rect.unit ![9, 0] ![1, 256] inb_S31x256_S1x256_9_0)) (View.ld buf (Rect.unit ![8, 0] ![520, 256] inb_S552x256_S520x256_8_0)) (View.ld x9 (Rect.unit ![17, 0] ![1, 256] inb_S31x256_S1x256_17_0)) (View.ld buf (Rect.unit ![16, 0] ![520, 256] inb_S552x256_S520x256_16_0)) (View.ld x9 (Rect.unit ![25, 0] ![1, 256] inb_S31x256_S1x256_25_0)) (View.ld buf (Rect.unit ![24, 0] ![520, 256] inb_S552x256_S520x256_24_0))) (k0_pay46 (View.ld x9 (Rect.unit ![2, 0] ![1, 256] inb_S31x256_S1x256_2_0)) (View.ld buf (Rect.unit ![0, 0] ![520, 256] inb_S552x256_S520x256_0_0)) (View.ld x9 (Rect.unit ![10, 0] ![1, 256] inb_S31x256_S1x256_10_0)) (View.ld buf (Rect.unit ![8, 0] ![520, 256] inb_S552x256_S520x256_8_0))) (View.ld x9 (Rect.unit ![18, 0] ![1, 256] inb_S31x256_S1x256_18_0)) (View.ld buf (Rect.unit ![16, 0] ![520, 256] inb_S552x256_S520x256_16_0)) (View.ld x9 (Rect.unit ![26, 0] ![1, 256] inb_S31x256_S1x256_26_0)) (View.ld buf (Rect.unit ![24, 0] ![520, 256] inb_S552x256_S520x256_24_0)) (View.ld x9 (Rect.unit ![3, 0] ![1, 256] inb_S31x256_S1x256_3_0)) (View.ld buf (Rect.unit ![0, 0] ![520, 256] inb_S552x256_S520x256_0_0)) (View.ld x9 (Rect.unit ![11, 0] ![1, 256] inb_S31x256_S1x256_11_0)) (View.ld buf (Rect.unit ![8, 0] ![520, 256] inb_S552x256_S520x256_8_0)) (View.ld x9 (Rect.unit ![19, 0] ![1, 256] inb_S31x256_S1x256_19_0)) (View.ld buf (Rect.unit ![16, 0] ![520, 256] inb_S552x256_S520x256_16_0)) (View.ld x9 (Rect.unit ![27, 0] ![1, 256] inb_S31x256_S1x256_27_0)) (View.ld buf (Rect.unit ![24, 0] ![520, 256] inb_S552x256_S520x256_24_0))) (View.ld x9 (Rect.unit ![4, 0] ![1, 256] inb_S31x256_S1x256_4_0)) (View.ld buf (Rect.unit ![0, 0] ![520, 256] inb_S552x256_S520x256_0_0)) (View.ld x9 (Rect.unit ![12, 0] ![1, 256] inb_S31x256_S1x256_12_0)) (View.ld buf (Rect.unit ![8, 0] ![520, 256] inb_S552x256_S520x256_8_0)) (View.ld x9 (Rect.unit ![20, 0] ![1, 256] inb_S31x256_S1x256_20_0)) (View.ld buf (Rect.unit ![16, 0] ![520, 256] inb_S552x256_S520x256_16_0)) (View.ld x9 (Rect.unit ![28, 0] ![1, 256] inb_S31x256_S1x256_28_0)) (View.ld buf (Rect.unit ![24, 0] ![520, 256] inb_S552x256_S520x256_24_0))) (ix2 i x) + ((k0_pay49 (View.ld x9 (Rect.unit ![5, 0] ![1, 256] inb_S31x256_S1x256_5_0)) (View.ld buf (Rect.unit ![0, 0] ![520, 256] inb_S552x256_S520x256_0_0)) (View.ld x9 (Rect.unit ![13, 0] ![1, 256] inb_S31x256_S1x256_13_0)) (View.ld buf (Rect.unit ![8, 0] ![520, 256] inb_S552x256_S520x256_8_0))) (ix2 ⟨(i + 520 - 513) % 520, Nat.mod_lt _ (by norm_num)⟩ x) + (View.ld x9 (Rect.unit ![21, 0] ![1, 256] inb_S31x256_S1x256_21_0)) (ix2 0 x) * (View.ld buf (Rect.unit ![16, 0] ![520, 256] inb_S552x256_S520x256_16_0)) (ix2 ⟨(i + 520 - 513) % 520, Nat.mod_lt _ (by norm_num)⟩ x)
        + (View.ld x9 (Rect.unit ![29, 0] ![1, 256] inb_S31x256_S1x256_29_0)) (ix2 0 x) * (View.ld buf (Rect.unit ![24, 0] ![520, 256] inb_S552x256_S520x256_24_0)) (ix2 ⟨(i + 520 - 513) % 520, Nat.mod_lt _ (by norm_num)⟩ x)) : EReal) = conv31 f (fun k => x9 (ix2 k x)) (x10 (ix2 0 x)) (s + i) := by
  pointwise [k0_pay48, k0_pay47, k0_pay45, k0_pay43, k0_pay41, k0_pay42, k0_pay44, k0_pay46, k0_pay49]
  have hT : ∀ (k : Fin 31) (n : Fin 552), n.val = i + 2 + k → (x9 (ix2 k x) * buf (ix2 n x) : EReal) = x9 (ix2 k x) * late f 30 (s + i + k) := by
    intro k n hn
    have e := hb ⟨i + 2 + k, by omega⟩
    rw [show (⟨(⟨i + 2 + k, by omega⟩ : Fin 544).val, by omega⟩ : Fin 552) = n from Fin.ext hn.symm] at e
    rw [e, ← late_add f 30 (s + i + k) 2]
    congr 2; show s + (i.val + 2 + k.val) = _; omega
  rw [hT 0 ⟨(i.val + 520 - 518) % 520, _⟩ (by show (i.val + 520 - 518) % 520 = i.val + 2 + 0; omega)]
  rw [hT 1 ⟨(i.val + 520 - 517) % 520, _⟩ (by show (i.val + 520 - 517) % 520 = i.val + 2 + 1; omega)]
  rw [hT 2 ⟨(i.val + 520 - 516) % 520, _⟩ (by show (i.val + 520 - 516) % 520 = i.val + 2 + 2; omega)]
  rw [hT 3 ⟨(i.val + 520 - 515) % 520, _⟩ (by show (i.val + 520 - 515) % 520 = i.val + 2 + 3; omega)]
  rw [hT 4 ⟨(i.val + 520 - 514) % 520, _⟩ (by show (i.val + 520 - 514) % 520 = i.val + 2 + 4; omega)]
  rw [hT 5 ⟨(i.val + 520 - 513) % 520, _⟩ (by show (i.val + 520 - 513) % 520 = i.val + 2 + 5; omega)]
  rw [hT 6 ⟨8 + i.val, _⟩ (by show 8 + i.val = i.val + 2 + 6; omega)]
  rw [hT 7 ⟨8 + (i.val + 520 - 519) % 520, _⟩ (by show 8 + (i.val + 520 - 519) % 520 = i.val + 2 + 7; omega)]
  rw [hT 8 ⟨8 + (i.val + 520 - 518) % 520, _⟩ (by show 8 + (i.val + 520 - 518) % 520 = i.val + 2 + 8; omega)]
  rw [hT 9 ⟨8 + (i.val + 520 - 517) % 520, _⟩ (by show 8 + (i.val + 520 - 517) % 520 = i.val + 2 + 9; omega)]
  rw [hT 10 ⟨8 + (i.val + 520 - 516) % 520, _⟩ (by show 8 + (i.val + 520 - 516) % 520 = i.val + 2 + 10; omega)]
  rw [hT 11 ⟨8 + (i.val + 520 - 515) % 520, _⟩ (by show 8 + (i.val + 520 - 515) % 520 = i.val + 2 + 11; omega)]
  rw [hT 12 ⟨8 + (i.val + 520 - 514) % 520, _⟩ (by show 8 + (i.val + 520 - 514) % 520 = i.val + 2 + 12; omega)]
  rw [hT 13 ⟨8 + (i.val + 520 - 513) % 520, _⟩ (by show 8 + (i.val + 520 - 513) % 520 = i.val + 2 + 13; omega)]
  rw [hT 14 ⟨16 + i.val, _⟩ (by show 16 + i.val = i.val + 2 + 14; omega)]
  rw [hT 15 ⟨16 + (i.val + 520 - 519) % 520, _⟩ (by show 16 + (i.val + 520 - 519) % 520 = i.val + 2 + 15; omega)]
  rw [hT 16 ⟨16 + (i.val + 520 - 518) % 520, _⟩ (by show 16 + (i.val + 520 - 518) % 520 = i.val + 2 + 16; omega)]
  rw [hT 17 ⟨16 + (i.val + 520 - 517) % 520, _⟩ (by show 16 + (i.val + 520 - 517) % 520 = i.val + 2 + 17; omega)]
  rw [hT 18 ⟨16 + (i.val + 520 - 516) % 520, _⟩ (by show 16 + (i.val + 520 - 516) % 520 = i.val + 2 + 18; omega)]
  rw [hT 19 ⟨16 + (i.val + 520 - 515) % 520, _⟩ (by show 16 + (i.val + 520 - 515) % 520 = i.val + 2 + 19; omega)]
  rw [hT 20 ⟨16 + (i.val + 520 - 514) % 520, _⟩ (by show 16 + (i.val + 520 - 514) % 520 = i.val + 2 + 20; omega)]
  rw [hT 21 ⟨16 + (i.val + 520 - 513) % 520, _⟩ (by show 16 + (i.val + 520 - 513) % 520 = i.val + 2 + 21; omega)]
  rw [hT 22 ⟨24 + i.val, _⟩ (by show 24 + i.val = i.val + 2 + 22; omega)]
  rw [hT 23 ⟨24 + (i.val + 520 - 519) % 520, _⟩ (by show 24 + (i.val + 520 - 519) % 520 = i.val + 2 + 23; omega)]
  rw [hT 24 ⟨24 + (i.val + 520 - 518) % 520, _⟩ (by show 24 + (i.val + 520 - 518) % 520 = i.val + 2 + 24; omega)]
  rw [hT 25 ⟨24 + (i.val + 520 - 517) % 520, _⟩ (by show 24 + (i.val + 520 - 517) % 520 = i.val + 2 + 25; omega)]
  rw [hT 26 ⟨24 + (i.val + 520 - 516) % 520, _⟩ (by show 24 + (i.val + 520 - 516) % 520 = i.val + 2 + 26; omega)]
  rw [hT 27 ⟨24 + (i.val + 520 - 515) % 520, _⟩ (by show 24 + (i.val + 520 - 515) % 520 = i.val + 2 + 27; omega)]
  rw [hT 28 ⟨24 + (i.val + 520 - 514) % 520, _⟩ (by show 24 + (i.val + 520 - 514) % 520 = i.val + 2 + 28; omega)]
  rw [hT 29 ⟨24 + (i.val + 520 - 513) % 520, _⟩ (by show 24 + (i.val + 520 - 513) % 520 = i.val + 2 + 29; omega)]
  rw [hT 30 ⟨32 + i.val, _⟩ (by show 32 + i.val = i.val + 2 + 30; omega)]
  unfold conv31
  generalize hg : (fun k : Fin 31 => (x9 (ix2 k x) * late f 30 (s + i + k) : EReal)) = T
  have hk : ∀ k, (x9 (ix2 k x) * late f 30 (s + i + k) : EReal) = T k := fun k => by rw [← hg]
  simp only [hk]
  have e : ∑ k : Fin 31, T k = T 0 + T 1 + T 2 + T 3 + T 4 + T 5 + T 6 + T 7 + T 8 + T 9 + T 10 + T 11 + T 12 + T 13 + T 14 + T 15 + T 16 + T 17 + T 18 + T 19 + T 20 + T 21 + T 22 + T 23 + T 24 + T 25 + T 26 + T 27 + T 28 + T 29 + T 30 := by
    simp [Fin.sum_univ_succ]; abel
  rw [e]
  abel

theorem cTile_at (x9 : Vec Ideal S31x256 .f32) (x10 x11 x12 x14 : Vec Ideal S1x256 .f32) (buf : Vec Ideal S552x256 .f32)
    (f : Fin 256 → Fin 16384 → EReal) (s : ℕ) (hb : ∀ (x : Fin 256) (p : Fin 544), buf (ix2 ⟨p, by omega⟩ x) = late (f x) 32 (s + p))
    (i : Fin 512) (j : Fin 256) : (cTile x9 x10 x11 x12 x14 buf (ix3 0 i j) : EReal) =
      rms (fun x => silu (lnorm (fun x => conv31 (f x) (fun k => x9 (ix2 k x)) (x10 (ix2 0 x)) (s + i)) (fun x => x11 (ix2 0 x)) (fun x => x12 (ix2 0 x)) x)) (x14 (ix2 0 j)) j := by
  unfold cTile
  rw [last_at]
  congr 1
  funext x
  rw [sig_at x9 x10 x11 x12 x14 buf, ln_at]
  simp only [fun x => conv_at x9 x10 buf (f x) s x (hb x) i]
  rfl
end Cert.KernelIdeal.ValueProof
end
-- ==== Proof.KernelBlocks.lean ====
/- What each grid point's input blocks hold, at coordinates. -/
module

public import proofs.«01_k».proof.Proof.KernelRows

@[expose] public section

set_option maxRecDepth 16384

noncomputable section

namespace Cert.KernelIdeal.ValueProof
open Idealize.ShloMosaic.StableHlo Cert.KernelIdeal Cert.KernelIdeal.Gen Cert.KernelIdeal.Value Idealize.ShloMosaic Idealize.ShloMosaic.TcCoe Idealize.SL.Sem Cert.Mix
variable (m : (ℓ : Loc nD τ sig) → Buf (Elt Ideal) ℓ)

theorem idx : ∀ t : Fin cfg0.N, win0_0.index t = ![t.val / 32, t.val % 32, 0] ∧ win0_1.index t = ![t.val / 32, t.val % 32, 0]
    ∧ win0_15.index t = ![t.val / 32, t.val % 32, 0] ∧ win0_16.index t = ![t.val / 32, t.val % 32, 0] ∧ t.val / 32 < 2 ∧ t.val < 64 :=
  (by decide +kernel : ∀ t : Fin grid0.N, _)
theorem idxW : ∀ t : Fin cfg0.N, win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-- The batch of a grid point. -/
def bat (t : Fin cfg0.N) : Fin 2 := ⟨t.val / 32, (idx t).2.2.2.2.1⟩
/-- The time step of row `i` of a grid point's tile. -/
def tim (t : Fin cfg0.N) (i : Fin 512) : Fin 16384 := ⟨512 * (t.val % 32) + i, by omega⟩

theorem blk0 (c : Dev nD) (t : Fin cfg0.N) (i : Fin 512) (j : Fin 512) :
    ((show FVec Ideal S1x512x512 .f32 from iblk m c 0 t) (ix3 0 i j) : EReal) = m ((c : Thread nD τ).loc main_arg0) (ix3 (bat t) (tim t i) j) := by
  have := (idx t).2.2.2.2
  blk_point [iblk, V, idx t, bat, tim]
theorem blk1 (c : Dev nD) (t : Fin cfg0.N) (i : Fin 512) (j : Fin 512) :
    ((show FVec Ideal S1x512x512 .f32 from iblk m c 1 t) (ix3 0 i j) : EReal) = m ((c : Thread nD τ).loc main_arg1) (ix3 (bat t) (tim t i) j) := by
  have := (idx t).2.2.2.2
  blk_point [iblk, V, idx t, bat, tim]
theorem blk2 (c : Dev nD) (t : Fin cfg0.N) (k : Fin 4) (j : Fin 256) :
    ((show FVec Ideal S4x256 .f32 from iblk m c 2 t) (ix2 k j) : EReal) = m ((c : Thread nD τ).loc main_arg2) (ix2 k j) := by
  blk_point [iblk, V, idxW t]
theorem blk9 (c : Dev nD) (t : Fin cfg0.N) (k : Fin 31) (j : Fin 256) :
    ((show FVec Ideal S31x256 .f32 from iblk m c 9 t) (ix2 k j) : EReal) = m ((c : Thread nD τ).loc main_arg9) (ix2 k j) := by
  blk_point [iblk, V, idxW t]
theorem blk3 (c : Dev nD) (t : Fin cfg0.N) (j : Fin 256) :
    ((show FVec Ideal S1x256 .f32 from iblk m c 3 t) (ix2 0 j) : EReal) = m ((c : Thread nD τ).loc main_arg3) (ix1 j) := by
  blk_point [iblk, V, idxW t]
theorem blk5 (c : Dev nD) (t : Fin cfg0.N) (j : Fin 256) :
    ((show FVec Ideal S1x256 .f32 from iblk m c 5 t) (ix2 0 j) : EReal) = m ((c : Thread nD τ).loc main_arg5) (ix1 j) := by
  blk_point [iblk, V, idxW t]
theorem blk7 (c : Dev nD) (t : Fin cfg0.N) (j : Fin 256) :
    ((show FVec Ideal S1x256 .f32 from iblk m c 7 t) (ix2 0 j) : EReal) = m ((c : Thread nD τ).loc main_arg7) (ix1 j) := by
  blk_point [iblk, V, idxW t]
theorem blk8 (c : Dev nD) (t : Fin cfg0.N) (j : Fin 256) :
    ((show FVec Ideal S1x256 .f32 from iblk m c 8 t) (ix2 0 j) : EReal) = m ((c : Thread nD τ).loc main_arg8) (ix1 j) := by
  blk_point [iblk, V, idxW t]
theorem blk10 (c : Dev nD) (t : Fin cfg0.N) (j : Fin 256) :
    ((show FVec Ideal S1x256 .f32 from iblk m c 10 t) (ix2 0 j) : EReal) = m ((c : Thread nD τ).loc main_arg10) (ix1 j) := by
  blk_point [iblk, V, idxW t]
theorem blk11 (c : Dev nD) (t : Fin cfg0.N) (j : Fin 256) :
    ((show FVec Ideal S1x256 .f32 from iblk m c 11 t) (ix2 0 j) : EReal) = m ((c : Thread nD τ).loc main_arg11) (ix1 j) := by
  blk_point [iblk, V, idxW t]
theorem blk12 (c : Dev nD) (t : Fin cfg0.N) (j : Fin 256) :
    ((show FVec Ideal S1x256 .f32 from iblk m c 12 t) (ix2 0 j) : EReal) = m ((c : Thread nD τ).loc main_arg12) (ix1 j) := by
  blk_point [iblk, V, idxW t]
theorem blk13 (c : Dev nD) (t : Fin cfg0.N) (j : Fin 256) :
    ((show FVec Ideal S1x256 .f32 from iblk m c 13 t) (ix2 0 j) : EReal) = m ((c : Thread nD τ).loc main_arg13) (ix1 ⟨512 + j, by omega⟩) := by
  blk_point [iblk, V, idxW t]
theorem blk14 (c : Dev nD) (t : Fin cfg0.N) (j : Fin 256) :
    ((show FVec Ideal S1x256 .f32 from iblk m c 14 t) (ix2 0 j) : EReal) = m ((c : Thread nD τ).loc main_arg13) (ix1 ⟨768 + j, by omega⟩) := by
  blk_point [iblk, V, idxW t]
/-- The identity matrix's entry, as the host computes it from row and column numbers. -/
theorem eye_at {a b : ℕ} (ha : a < 8) (hb : b < 8) :
    (FloatOps.uitofp (F := Ideal) FTy.f32 (IntOp.cmpi CmpIPredicate.eq (IntOp.addi (BitVec.ofNat 32 a) 0#32) (BitVec.ofNat 32 b)) : EReal) = if a = b then 1 else 0 := by
  have h : (IntOp.cmpi CmpIPredicate.eq (IntOp.addi (BitVec.ofNat 32 a) 0#32) (BitVec.ofNat 32 b) = 1#1) ↔ a = b := by
    rw [StableHlo.Predicate.cmpi_eq_iff]
    unfold IntOp.addi
    rw [BitVec.add_zero]
    constructor
    · intro e
      have := congrArg BitVec.toNat e
      simpa [Nat.mod_eq_of_lt (show a < 4294967296 by omega), Nat.mod_eq_of_lt (show b < 4294967296 by omega)] using this
    · intro e; rw [e]
  revert h
  generalize IntOp.cmpi CmpIPredicate.eq (IntOp.addi (BitVec.ofNat 32 a) 0#32) (BitVec.ofNat 32 b) = r
  intro h
  by_cases e : a = b
  · rw [if_pos e, h.mpr e]
    show (((1#1 : BitVec 1).toNat : ℝ) : EReal) = 1
    simp
  · rw [if_neg e]
    have hr : r = 0#1 := by
      have := mt h.mp e
      clear h
      revert this
      revert r
      decide
    rw [hr]
    show (((0#1 : BitVec 1).toNat : ℝ) : EReal) = 0
    simp

theorem pick_mul (P : Prop) [Decidable P] (x y : EReal) (h : P → x = y) : x * (if P then 1 else 0) = if P then y else 0 := by
  by_cases e : P
  · rw [if_pos e, if_pos e, mul_one, h e]
  · rw [if_neg e, if_neg e, mul_zero]
theorem blk4 (c : Dev nD) (t : Fin cfg0.N) (i j : Fin 256) :
    ((show FVec Ideal S256x256 .bf16 from iblk m c 4 t) (ix2 i j) : EReal) = if i.val / 32 = j.val / 32 then (show FVec Ideal S8x32x32 .f32 from m ((c : Thread nD τ).loc main_arg4)) (ix3 ⟨j / 32, by omega⟩ ⟨i % 32, by omega⟩ ⟨j % 32, by omega⟩) else (0 : EReal) := by
  have h : ((show FVec Ideal S256x256 .bf16 from iblk m c 4 t) (ix2 i j) : EReal) = (show FVec Ideal S256x256 .bf16 from V m c main_v13) (ix2 i j) := by
    blk_ext [iblk, idxW t]
  rw [h]
  entry_read
  pointwise []
  rw [eye_at (by omega) (by omega)]
  exact pick_mul _ _ _ fun e => by blk_ext []
theorem blk6 (c : Dev nD) (t : Fin cfg0.N) (i j : Fin 256) :
    ((show FVec Ideal S256x256 .bf16 from iblk m c 6 t) (ix2 i j) : EReal) = if i.val / 32 = j.val / 32 then (show FVec Ideal S8x32x32 .f32 from m ((c : Thread nD τ).loc main_arg6)) (ix3 ⟨j / 32, by omega⟩ ⟨i % 32, by omega⟩ ⟨j % 32, by omega⟩) else (0 : EReal) := by
  have h : ((show FVec Ideal S256x256 .bf16 from iblk m c 6 t) (ix2 i j) : EReal) = (show FVec Ideal S256x256 .bf16 from V m c main_v27) (ix2 i j) := by
    blk_ext [iblk, idxW t]
  rw [h]
  entry_read
  pointwise []
  rw [eye_at (by omega) (by omega)]
  exact pick_mul _ _ _ fun e => by blk_ext []

end Cert.KernelIdeal.ValueProof
end
-- ==== Proof.KernelBufs.lean ====
/- The two carried buffers at coordinates: the rows kept from the tile before, then the tile's rows. -/
module

public import proofs.«01_k».proof.Proof.KernelRows

@[expose] public section

set_option maxRecDepth 16384

noncomputable section

namespace Cert.KernelIdeal.ValueProof
open Idealize.ShloMosaic.StableHlo Cert.KernelIdeal Cert.KernelIdeal.Gen Cert.KernelIdeal.Value Idealize.ShloMosaic Idealize.ShloMosaic.TcCoe Idealize.SL.Sem Cert.Mix

/-- A load from stores over nothing is a load from what the stores leave. -/
theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L r.toLoadRect

/-- Under the last of three stores and outside the two others. -/
theorem canon_third {S : Shape} {e : EltTy} (r1 r2 r3 : Rect S) (w1 : r1.shape.Idx → Elt Ideal e) (w2 : r2.shape.Idx → Elt Ideal e) (w3 : r3.shape.Idx → Elt Ideal e)
    (y : S.Idx) (x : r3.shape.Idx) (hy : y = r3.emb x) (h1 : y ∉ r1.set) (h2 : y ∉ r2.set) :
    View.canon (Val := Elt Ideal) [⟨r1, w1⟩, ⟨r2, w2⟩, ⟨r3, w3⟩] y = w3 x := by
  rw [View.canon_cons_of_not_mem ⟨r1, w1⟩ _ h1, View.canon_cons_of_not_mem ⟨r2, w2⟩ _ h2, hy]
  exact View.canon_cons_emb r3 w3 [] x

theorem embX_tile (q : Fin 512) (j : Fin 256) : (ix2 ⟨8 + q, by omega⟩ j : S528x256.Idx) = (Rect.unit ![8, 0] ![512, 256] inb_S528x256_S512x256_8_0 : Rect S528x256).emb (ix2 q j) := by
  refine (funext fun a => Fin.ext ?_)
  refine Eq.trans ?_ (Rect.idx_unit_val ![8, 0] ![512, 256] inb_S528x256_S512x256_8_0 (ix2 q j) a).symm
  fin_cases a
  · rfl
  · exact (Nat.zero_add _).symm
theorem embX_top (q : Fin 8) (j : Fin 256) : (ix2 ⟨q, by omega⟩ j : S528x256.Idx) = (Rect.unit ![0, 0] ![8, 256] inb_S528x256_S8x256_0_0 : Rect S528x256).emb (ix2 q j) := by
  refine (funext fun a => Fin.ext ?_)
  refine Eq.trans ?_ (Rect.idx_unit_val ![0, 0] ![8, 256] inb_S528x256_S8x256_0_0 (ix2 q j) a).symm
  fin_cases a
  · exact (Nat.zero_add _).symm
  · exact (Nat.zero_add _).symm
theorem topX_not_tile (q : Fin 8) (j : Fin 256) : (ix2 ⟨q, by omega⟩ j : S528x256.Idx) ∉ (Rect.unit ![8, 0] ![512, 256] inb_S528x256_S512x256_8_0 : Rect S528x256).set := by
  rw [Rect.mem_set_unit]
  intro h
  have := (h 0).1
  have e : (8 : ℕ) ≤ q.val := this
  omega
theorem topX_not_end (q : Fin 8) (j : Fin 256) : (ix2 ⟨q, by omega⟩ j : S528x256.Idx) ∉ (Rect.unit ![520, 0] ![8, 256] inb_S528x256_S8x256_520_0 : Rect S528x256).set := by
  rw [Rect.mem_set_unit]
  intro h
  have := (h 0).1
  have e : (520 : ℕ) ≤ q.val := this
  omega

/-- The tile's rows read the tile. -/
theorem canonX_tile (x : FVec Ideal S512x256 .f32) (L : List (View.Piece (Elt Ideal) S528x256 .f32)) (q : Fin 512) (j : Fin 256) :
    View.canon (⟨(Rect.unit ![8, 0] ![512, 256] inb_S528x256_S512x256_8_0 : Rect S528x256), x⟩ :: L) (ix2 ⟨8 + q, by omega⟩ j) = x (ix2 q j) := by
  rw [embX_tile q j]
  exact View.canon_cons_emb _ _ _ _
/-- At a batch's first tile, the rows above it are 0. -/
theorem canonX_top (x : FVec Ideal S512x256 .f32) (q : Fin 8) (j : Fin 256) :
    (View.canon (Val := Elt Ideal) (e := .f32) [⟨(Rect.unit ![8, 0] ![512, 256] inb_S528x256_S512x256_8_0 : Rect S528x256), x⟩, ⟨(Rect.unit ![520, 0] ![8, 256] inb_S528x256_S8x256_520_0 : Rect S528x256), k0_pay3 (F := Ideal)⟩, ⟨(Rect.unit ![0, 0] ![8, 256] inb_S528x256_S8x256_0_0 : Rect S528x256), k0_pay2 (F := Ideal)⟩] (ix2 ⟨q, by omega⟩ j) : EReal) = 0 := by
  refine (canon_third _ _ _ _ _ _ _ (ix2 q j) (embX_top q j) (topX_not_tile q j) (topX_not_end q j)).trans ?_
  pointwise [k0_pay2]
/-- At a later tile, the tile's rows read the tile. -/
theorem keptX_tile (v : View sig .tc .vmem S528x256 .f32) (f : v.ty.Contents (Elt Ideal)) (x : FVec Ideal S512x256 .f32) (q : Fin 512) (j : Fin 256) :
    View.read (Elt Ideal) v (v.writes (Elt Ideal) f [⟨(Rect.unit ![8, 0] ![512, 256] inb_S528x256_S512x256_8_0 : Rect S528x256), x⟩]) (ix2 ⟨8 + q, by omega⟩ j) = x (ix2 q j) := by
  rw [embX_tile q j]
  exact View.read_writes_cons_emb _ _ _ _ _ _
/-- and the rows above it what was kept. -/
theorem keptX_top (v : View sig .tc .vmem S528x256 .f32) (f : v.ty.Contents (Elt Ideal)) (x : FVec Ideal S512x256 .f32) (q : Fin 8) (j : Fin 256) :
    View.read (Elt Ideal) v (v.writes (Elt Ideal) f [⟨(Rect.unit ![8, 0] ![512, 256] inb_S528x256_S512x256_8_0 : Rect S528x256), x⟩]) (ix2 ⟨q, by omega⟩ j) = View.read (Elt Ideal) v f (ix2 ⟨q, by omega⟩ j) := by
  refine View.read_writes_apply_of_forall_not_mem _ _ _ _ ?_
  intro p hp
  rw [List.mem_singleton] at hp
  subst hp
  exact topX_not_tile q j

theorem embY_tile (q : Fin 512) (j : Fin 256) : (ix2 ⟨32 + q, by omega⟩ j : S552x256.Idx) = (Rect.unit ![32, 0] ![512, 256] inb_S552x256_S512x256_32_0 : Rect S552x256).emb (ix2 q j) := by
  refine (funext fun a => Fin.ext ?_)
  refine Eq.trans ?_ (Rect.idx_unit_val ![32, 0] ![512, 256] inb_S552x256_S512x256_32_0 (ix2 q j) a).symm
  fin_cases a
  · rfl
  · exact (Nat.zero_add _).symm
theorem embY_top (q : Fin 32) (j : Fin 256) : (ix2 ⟨q, by omega⟩ j : S552x256.Idx) = (Rect.unit ![0, 0] ![32, 256] inb_S552x256_S32x256_0_0 : Rect S552x256).emb (ix2 q j) := by
  refine (funext fun a => Fin.ext ?_)
  refine Eq.trans ?_ (Rect.idx_unit_val ![0, 0] ![32, 256] inb_S552x256_S32x256_0_0 (ix2 q j) a).symm
  fin_cases a
  · exact (Nat.zero_add _).symm
  · exact (Nat.zero_add _).symm
theorem topY_not_tile (q : Fin 32) (j : Fin 256) : (ix2 ⟨q, by omega⟩ j : S552x256.Idx) ∉ (Rect.unit ![32, 0] ![512, 256] inb_S552x256_S512x256_32_0 : Rect S552x256).set := by
  rw [Rect.mem_set_unit]
  intro h
  have := (h 0).1
  have e : (32 : ℕ) ≤ q.val := this
  omega
theorem topY_not_end (q : Fin 32) (j : Fin 256) : (ix2 ⟨q, by omega⟩ j : S552x256.Idx) ∉ (Rect.unit ![544, 0] ![8, 256] inb_S552x256_S8x256_544_0 : Rect S552x256).set := by
  rw [Rect.mem_set_unit]
  intro h
  have := (h 0).1
  have e : (544 : ℕ) ≤ q.val := this
  omega

/-- The tile's rows read the tile. -/
theorem canonY_tile (x : FVec Ideal S512x256 .f32) (L : List (View.Piece (Elt Ideal) S552x256 .f32)) (q : Fin 512) (j : Fin 256) :
    View.canon (⟨(Rect.unit ![32, 0] ![512, 256] inb_S552x256_S512x256_32_0 : Rect S552x256), x⟩ :: L) (ix2 ⟨32 + q, by omega⟩ j) = x (ix2 q j) := by
  rw [embY_tile q j]
  exact View.canon_cons_emb _ _ _ _
/-- At a batch's first tile, the rows above it are 0. -/
theorem canonY_top (x : FVec Ideal S512x256 .f32) (q : Fin 32) (j : Fin 256) :
    (View.canon (Val := Elt Ideal) (e := .f32) [⟨(Rect.unit ![32, 0] ![512, 256] inb_S552x256_S512x256_32_0 : Rect S552x256), x⟩, ⟨(Rect.unit ![544, 0] ![8, 256] inb_S552x256_S8x256_544_0 : Rect S552x256), k0_pay5 (F := Ideal)⟩, ⟨(Rect.unit ![0, 0] ![32, 256] inb_S552x256_S32x256_0_0 : Rect S552x256), k0_pay4 (F := Ideal)⟩] (ix2 ⟨q, by omega⟩ j) : EReal) = 0 := by
  refine (canon_third _ _ _ _ _ _ _ (ix2 q j) (embY_top q j) (topY_not_tile q j) (topY_not_end q j)).trans ?_
  pointwise [k0_pay4]
/-- At a later tile, the tile's rows read the tile. -/
theorem keptY_tile (v : View sig .tc .vmem S552x256 .f32) (f : v.ty.Contents (Elt Ideal)) (x : FVec Ideal S512x256 .f32) (q : Fin 512) (j : Fin 256) :
    View.read (Elt Ideal) v (v.writes (Elt Ideal) f [⟨(Rect.unit ![32, 0] ![512, 256] inb_S552x256_S512x256_32_0 : Rect S552x256), x⟩]) (ix2 ⟨32 + q, by omega⟩ j) = x (ix2 q j) := by
  rw [embY_tile q j]
  exact View.read_writes_cons_emb _ _ _ _ _ _
/-- and the rows above it what was kept. -/
theorem keptY_top (v : View sig .tc .vmem S552x256 .f32) (f : v.ty.Contents (Elt Ideal)) (x : FVec Ideal S512x256 .f32) (q : Fin 32) (j : Fin 256) :
    View.read (Elt Ideal) v (v.writes (Elt Ideal) f [⟨(Rect.unit ![32, 0] ![512, 256] inb_S552x256_S512x256_32_0 : Rect S552x256), x⟩]) (ix2 ⟨q, by omega⟩ j) = View.read (Elt Ideal) v f (ix2 ⟨q, by omega⟩ j) := by
  refine View.read_writes_apply_of_forall_not_mem _ _ _ _ ?_
  intro p hp
  rw [List.mem_singleton] at hp
  subst hp
  exact topY_not_tile q j

end Cert.KernelIdeal.ValueProof
end
-- ==== Proof.KernelValue.lean ====
/- The kernel's two results, entry by entry: every tile's buffers and state by induction over a batch's tiles. -/
module

public import proofs.«01_k».proof.Proof.KernelBlocks
public import proofs.«01_k».proof.Proof.KernelBufs
public import Idealize.ShloMosaic.Lib.Pipeline.ReadBack

@[expose] public section

set_option maxRecDepth 16384

noncomputable section

namespace Cert.KernelIdeal.ValueProof
open Idealize.ShloMosaic.StableHlo Cert.KernelIdeal Cert.KernelIdeal.Gen Cert.KernelIdeal.Value Idealize.ShloMosaic Idealize.ShloMosaic.TcCoe Idealize.SL.Sem Cert.Mix

/-! ## The body's stores, over the two buffers and the kept state -/

/-- The hidden states of a tile, from the input blocks, the first buffer and the state before. -/
def hOf (x2 : Vec Ideal S4x256 .f32) (x3 : Vec Ideal S1x256 .f32) (x4 : Vec Ideal S256x256 .bf16) (x5 : Vec Ideal S1x256 .f32) (x6 : Vec Ideal S256x256 .bf16)
    (x7 x8 : Vec Ideal S1x256 .f32) (X : Vec Ideal S528x256 .f32) (H : Vec Ideal S1x256 .f32) : FVec Ideal S512x256 .f32 :=
  hTile (xTile x2 x3 X) (gTile x2 x3 X x4 x5) (gTile x2 x3 X x6 x7) (k0_pay16 x8) H
/-- The first buffer's tile. -/
def tX (x0 : Vec Ideal S1x512x512 .f32) : FVec Ideal S512x256 .f32 := k0_pay8 (View.ld x0 (Rect.unit ![0, 0, 0] ![1, 512, 256] inb_S1x512x512_S1x512x256_0_0_0))
/-- The second buffer's tile. -/
def tY (x1 : Vec Ideal S1x512x512 .f32) : FVec Ideal S512x256 .f32 :=
  k0_pay40 (k0_pay39 (View.ld x1 (Rect.unit ![0, 0, 0] ![1, 512, 256] inb_S1x512x512_S1x512x256_0_0_0))) (View.ld x1 (Rect.unit ![0, 0, 256] ![1, 512, 256] inb_S1x512x512_S1x512x256_0_0_256))
/-- The first output's tile. -/
def oL (x0 : Vec Ideal S1x512x512 .f32) (h : FVec Ideal S512x256 .f32) (x13 : Vec Ideal S1x256 .f32) : FVec Ideal S1x512x256 .bf16 :=
  k0_pay38 (k0_pay7 (View.ld x0 (Rect.unit ![0, 0, 256] ![1, 512, 256] inb_S1x512x512_S1x512x256_0_0_256))) h x13
/-- The state kept after a tile: its last row. -/
def hLast (h : FVec Ideal S512x256 .f32) : FVec Ideal S8x256 .f32 :=
  k0_pay37 (shapeCast S1x256 (extractStridedSlice S1x256 ![511, 0] h slices_S512x256_o511_0_S1x256) shapeCasts_S1x256_S1x256)

/-- The first buffer at a batch's first tile. -/
def bufXA (x : FVec Ideal S512x256 .f32) : Vec Ideal S528x256 .f32 :=
  View.canon (Val := Elt Ideal) (e := .f32) [⟨Rect.unit ![8, 0] ![512, 256] inb_S528x256_S512x256_8_0, x⟩, ⟨Rect.unit ![520, 0] ![8, 256] inb_S528x256_S8x256_520_0, k0_pay3 (F := Ideal)⟩,
    ⟨Rect.unit ![0, 0] ![8, 256] inb_S528x256_S8x256_0_0, k0_pay2 (F := Ideal)⟩]
/-- The second buffer at a batch's first tile. -/
def bufYA (x : FVec Ideal S512x256 .f32) : Vec Ideal S552x256 .f32 :=
  View.canon (Val := Elt Ideal) (e := .f32) [⟨Rect.unit ![32, 0] ![512, 256] inb_S552x256_S512x256_32_0, x⟩, ⟨Rect.unit ![544, 0] ![8, 256] inb_S552x256_S8x256_544_0, k0_pay5 (F := Ideal)⟩,
    ⟨Rect.unit ![0, 0] ![32, 256] inb_S552x256_S32x256_0_0, k0_pay4 (F := Ideal)⟩]

/-- The state read from the kept rows: the first. -/
def row0 (P : Vec Ideal S8x256 .f32) : Vec Ideal S1x256 .f32 := View.ld (Val := Elt Ideal) (e' := .f32) P (Rect.unit ![0, 0] ![1, 256] inb_S8x256_S1x256_0_0)
/-- The kept state at a batch's first tile. -/
def keptA : Vec Ideal S8x256 .f32 := k0_pay6 (F := Ideal)
theorem canon6 : View.canon (Val := Elt Ideal) (e := .f32) [⟨Rect.unit ![0, 0] ![8, 256] inb_S8x256_S8x256_0_0, k0_pay6 (F := Ideal)⟩] = k0_pay6 (F := Ideal) :=
  View.canon_unit_zero (S := S8x256) (off := ![0, 0]) (funext fun a => by fin_cases a <;> rfl) inb_S8x256_S8x256_0_0 _

theorem pay15_eq (a : FVec Ideal S512x256 .f32) (b : FVec Ideal S520x256 .f32) (c : Vec Ideal S1x256 .f32) (d : Vec Ideal S520x256 .f32) (w : Vec Ideal S256x256 .bf16) (e : Vec Ideal S1x256 .f32) :
    k0_pay15 a b c d w e = k0_pay14 a b c d w e := rfl
theorem hLast_eq (v89 : IVec S512x256 32) (v143 v144 : FVec Ideal S512x256 .f32) (v146 : IVec S512x256 1) (v149 v150 v151 : FVec Ideal S512x256 .f32) (v189 : Vec Ideal S1x256 .f32) :
    k0_pay37 (k0_pay36 v89 v143 v144 v146 v149 v150 v151 v189) = hLast (k0_pay35 v89 v143 v144 v146 v149 v150 v151 v189) := rfl

variable (m : (ℓ : Loc nD τ sig) → Buf (Elt Ideal) ℓ)

/-- The hidden states of grid point `t`'s tile, over a first buffer and a kept state. -/
def hAt (c : Dev nD) (t : Fin cfg0.N) (X : Vec Ideal S528x256 .f32) (H : Vec Ideal S8x256 .f32) : FVec Ideal S512x256 .f32 :=
  hOf (iblk m c 2 t) (iblk m c 3 t) (iblk m c 4 t) (iblk m c 5 t) (iblk m c 6 t) (iblk m c 7 t) (iblk m c 8 t) X (row0 H)

theorem A_oL (c : Dev nD) (t : Fin cfg0.N) (h : t.val % 32 = 0) :
    (outsAt0 m c t.val t.isLt).1 = oL (iblk m c 0 t) (hAt m c t (bufXA (tX (iblk m c 0 t))) keptA) (iblk m c 13 t) := by
  rw [outsAt0_A m c t h]
  frame_out
  simp only [readCov_ld, canon6, oL, hAt, hOf, hTile, xTile, gTile, bufXA, tX, row0, keptA, pay15_eq]
theorem A_oC (c : Dev nD) (t : Fin cfg0.N) (h : t.val % 32 = 0) :
    (outsAt0 m c t.val t.isLt).2.1 = cTile (iblk m c 9 t) (iblk m c 10 t) (iblk m c 11 t) (iblk m c 12 t) (iblk m c 14 t) (bufYA (tY (iblk m c 1 t))) := by
  rw [outsAt0_A m c t h]
  frame_out
  simp only [readCov_ld, cTile, bufYA, tY]
theorem A_h (c : Dev nD) (t : Fin cfg0.N) (h : t.val % 32 = 0) :
    (outsAt0 m c t.val t.isLt).2.2.2.2 = hLast (hAt m c t (bufXA (tX (iblk m c 0 t))) keptA) := by
  rw [outsAt0_A m c t h]
  frame_out
  simp only [readCov_ld, canon6, hLast_eq, oL, hAt, hOf, hTile, xTile, gTile, bufXA, tX, row0, keptA, pay15_eq]
theorem canon_head {S : Shape} {e : EltTy} (r : Rect S) (w : r.shape.Idx → Elt Ideal e) (L : List (View.Piece (Elt Ideal) S e)) (y : S.Idx) (x : r.shape.Idx) (hy : y = r.emb x) :
    View.canon (Val := Elt Ideal) (⟨r, w⟩ :: L) y = w x := by
  subst hy; exact View.canon_cons_emb r w L x
theorem endX_at (x : FVec Ideal S512x256 .f32) (L : List (View.Piece (Elt Ideal) S528x256 .f32)) (q : Fin 8) (j : Fin 256) :
    k0_pay12 (View.ld (Val := Elt Ideal) (e' := .f32) (View.canon (Val := Elt Ideal) (⟨Rect.unit ![8, 0] ![512, 256] inb_S528x256_S512x256_8_0, x⟩ :: L)) (Rect.unit ![512, 0] ![8, 256] inb_S528x256_S8x256_512_0)) (ix2 q j)
      = x (ix2 ⟨504 + q, by omega⟩ j) := by
  rw [← canonX_tile x L]
  generalize View.canon (Val := Elt Ideal) _ = B
  pointwise [k0_pay12]
  exact congrArg (fun z => B (ix2 z j)) (Fin.ext (by show 512 + q.val = 8 + (504 + q.val); omega))
theorem endY_at (x : FVec Ideal S512x256 .f32) (L : List (View.Piece (Elt Ideal) S552x256 .f32)) (q : Fin 32) (j : Fin 256) :
    k0_pay50 (View.ld (Val := Elt Ideal) (e' := .f32) (View.canon (Val := Elt Ideal) (⟨Rect.unit ![32, 0] ![512, 256] inb_S552x256_S512x256_32_0, x⟩ :: L)) (Rect.unit ![512, 0] ![32, 256] inb_S552x256_S32x256_512_0)) (ix2 q j)
      = x (ix2 ⟨480 + q, by omega⟩ j) := by
  rw [← canonY_tile x L]
  generalize View.canon (Val := Elt Ideal) _ = B
  pointwise [k0_pay50]
  exact congrArg (fun z => B (ix2 z j)) (Fin.ext (by show 512 + q.val = 32 + (480 + q.val); omega))

/-! ## What a batch's first tile leaves -/

theorem A_X (c : Dev nD) (t : Fin cfg0.N) (h : t.val % 32 = 0) (q : Fin 8) (j : Fin 256) :
    (outsAt0 m c t.val t.isLt).2.2.1 (ix2 ⟨q, by omega⟩ j) = tX (iblk m c 0 t) (ix2 ⟨504 + q, by omega⟩ j) := by
  rw [outsAt0_A m c t h]
  frame_out
  simp only [readCov_ld]
  refine (canon_head _ _ _ _ (ix2 q j) (embX_top q j)).trans ?_
  exact endX_at _ _ q j
theorem A_Y (c : Dev nD) (t : Fin cfg0.N) (h : t.val % 32 = 0) (q : Fin 32) (j : Fin 256) :
    (outsAt0 m c t.val t.isLt).2.2.2.1 (ix2 ⟨q, by omega⟩ j) = tY (iblk m c 1 t) (ix2 ⟨480 + q, by omega⟩ j) := by
  rw [outsAt0_A m c t h]
  frame_out
  simp only [readCov_ld]
  refine (canon_head _ _ _ _ (ix2 q j) (embY_top q j)).trans ?_
  exact endY_at _ _ q j

/-! ## What a later tile leaves -/

/-- The first buffer at a later tile: the tile stored over what was kept. -/
def bufXB (x : FVec Ideal S512x256 .f32) (K : Vec Ideal S528x256 .f32) : Vec Ideal S528x256 .f32 :=
  View.read (Elt Ideal) (View.whole cc0_scratch0) ((View.whole cc0_scratch0).writes (Elt Ideal) ((Memref.isWhole_whole cc0_scratch0).unread K) [⟨Rect.unit ![8, 0] ![512, 256] inb_S528x256_S512x256_8_0, x⟩])
/-- The second buffer at a later tile. -/
def bufYB (x : FVec Ideal S512x256 .f32) (K : Vec Ideal S552x256 .f32) : Vec Ideal S552x256 .f32 :=
  View.read (Elt Ideal) (View.whole cc0_scratch1) ((View.whole cc0_scratch1).writes (Elt Ideal) ((Memref.isWhole_whole cc0_scratch1).unread K) [⟨Rect.unit ![32, 0] ![512, 256] inb_S552x256_S512x256_32_0, x⟩])
/-- What the point before left. -/
def before (c : Dev nD) (t : Fin cfg0.N) := outsAt0 m c (t.val - 1) (Nat.lt_of_le_of_lt (Nat.sub_le t.val 1) t.isLt)

theorem B_oL (c : Dev nD) (t : Fin cfg0.N) (h : ¬t.val % 32 = 0) :
    (outsAt0 m c t.val t.isLt).1 = oL (iblk m c 0 t) (hAt m c t (bufXB (tX (iblk m c 0 t)) (before m c t).2.2.1) (before m c t).2.2.2.2) (iblk m c 13 t) := by
  rw [outsAt0_B m c t h]
  frame_out
  simp only [readCov_ld, read_unread_whole, oL, hAt, hOf, hTile, xTile, gTile, bufXB, before, tX, row0, pay15_eq]
theorem B_oC (c : Dev nD) (t : Fin cfg0.N) (h : ¬t.val % 32 = 0) :
    (outsAt0 m c t.val t.isLt).2.1 = cTile (iblk m c 9 t) (iblk m c 10 t) (iblk m c 11 t) (iblk m c 12 t) (iblk m c 14 t) (bufYB (tY (iblk m c 1 t)) (before m c t).2.2.2.1) := by
  rw [outsAt0_B m c t h]
  frame_out
  simp only [readCov_ld, cTile, bufYB, before, tY]
theorem B_h (c : Dev nD) (t : Fin cfg0.N) (h : ¬t.val % 32 = 0) :
    (outsAt0 m c t.val t.isLt).2.2.2.2 = hLast (hAt m c t (bufXB (tX (iblk m c 0 t)) (before m c t).2.2.1) (before m c t).2.2.2.2) := by
  rw [outsAt0_B m c t h]
  frame_out
  simp only [readCov_ld, read_unread_whole, hLast_eq, hAt, hOf, hTile, xTile, gTile, bufXB, before, tX, row0, pay15_eq]
theorem B_X (c : Dev nD) (t : Fin cfg0.N) (h : ¬t.val % 32 = 0) (q : Fin 8) (j : Fin 256) :
    (outsAt0 m c t.val t.isLt).2.2.1 (ix2 ⟨q, by omega⟩ j) = tX (iblk m c 0 t) (ix2 ⟨504 + q, by omega⟩ j) := by
  rw [outsAt0_B m c t h]
  frame_out
  simp only [readCov_ld]
  rw [embX_top q j]
  refine (View.read_writes_cons_emb _ _ _ _ _ _).trans ?_
  exact endX_at _ _ q j
theorem B_Y (c : Dev nD) (t : Fin cfg0.N) (h : ¬t.val % 32 = 0) (q : Fin 32) (j : Fin 256) :
    (outsAt0 m c t.val t.isLt).2.2.2.1 (ix2 ⟨q, by omega⟩ j) = tY (iblk m c 1 t) (ix2 ⟨480 + q, by omega⟩ j) := by
  rw [outsAt0_B m c t h]
  frame_out
  simp only [readCov_ld]
  rw [embY_top q j]
  refine (View.read_writes_cons_emb _ _ _ _ _ _).trans ?_
  exact endY_at _ _ q j
end Cert.KernelIdeal.ValueProof
end
-- ==== Proof.KernelRuns.lean ====
/- The kernel's two results at coordinates: the recurrence's state and both buffers, tile after tile of a batch. -/
module

public import proofs.«01_k».proof.Proof.KernelValue

@[expose] public section

set_option maxRecDepth 16384

noncomputable section

namespace Cert.KernelIdeal.ValueProof
open Idealize.ShloMosaic.StableHlo Cert.KernelIdeal Cert.KernelIdeal.Gen Cert.KernelIdeal.Value Idealize.ShloMosaic Idealize.ShloMosaic.TcCoe Idealize.SL.Sem Cert.Mix

/-! ## A buffer is a sequence read late -/

theorem late_of_tile (f : Fin 16384 → EReal) (d n : ℕ) (i : Fin 16384) (h : n = d + i) : late f d n = f i := by
  unfold late
  rw [dif_pos ⟨by omega, by omega⟩]
  congr 1; exact Fin.ext (by show n - d = i.val; omega)
theorem late_before (f : Fin 16384 → EReal) (d n : ℕ) (h : n < d) : late f d n = 0 := dif_neg (by omega)

/-- The first buffer: its tile from step `s`, and above it the eight steps before, or 0. -/
theorem bufX_late (B : Vec Ideal S528x256 .f32) (f : Fin 16384 → EReal) (s : ℕ) (j : Fin 256)
    (ht : ∀ q : Fin 512, B (ix2 ⟨8 + q, by omega⟩ j) = late f 8 (s + (8 + q))) (h0 : ∀ q : Fin 8, B (ix2 ⟨q, by omega⟩ j) = late f 8 (s + q)) (p : Fin 520) :
    B (ix2 ⟨p, by omega⟩ j) = late f 8 (s + p) := by
  by_cases e : p.val < 8
  · exact h0 ⟨p, e⟩
  · have := ht ⟨p - 8, by omega⟩
    rw [show (⟨p, by omega⟩ : Fin 528) = ⟨8 + (⟨p - 8, by omega⟩ : Fin 512).val, by show 8 + (p.val - 8) < 528; omega⟩ from Fin.ext (by show p.val = 8 + (p.val - 8); omega), this]
    congr 1; show s + (8 + (p.val - 8)) = _; omega
/-- The second buffer: its tile from step `s`, and above it the thirty-two steps before, or 0. -/
theorem bufY_late (B : Vec Ideal S552x256 .f32) (f : Fin 16384 → EReal) (s : ℕ) (j : Fin 256)
    (ht : ∀ q : Fin 512, B (ix2 ⟨32 + q, by omega⟩ j) = late f 32 (s + (32 + q))) (h0 : ∀ q : Fin 32, B (ix2 ⟨q, by omega⟩ j) = late f 32 (s + q)) (p : Fin 544) :
    B (ix2 ⟨p, by omega⟩ j) = late f 32 (s + p) := by
  by_cases e : p.val < 32
  · exact h0 ⟨p, e⟩
  · have := ht ⟨p - 32, by omega⟩
    rw [show (⟨p, by omega⟩ : Fin 552) = ⟨32 + (⟨p - 32, by omega⟩ : Fin 512).val, by show 32 + (p.val - 32) < 552; omega⟩ from Fin.ext (by show p.val = 32 + (p.val - 32); omega), this]
    congr 1; show s + (32 + (p.val - 32)) = _; omega

/-! ## The block-diagonal product -/

/-- A sum over all channels against a block-diagonal column is the sum over the column's block. -/
theorem sum_blk (g : Fin 256 → EReal) (W : Fin 32 → EReal) (j : Fin 256) :
    (∑ x : Fin 256, g x * (if x.val / 32 = j.val / 32 then W ⟨x % 32, by omega⟩ else 0)) = ∑ x : Fin 32, W x * g ⟨j / 32 * 32 + x, by omega⟩ := by
  rw [← Finset.sum_subset (Finset.subset_univ (Finset.univ.image fun x : Fin 32 => (⟨j / 32 * 32 + x, by omega⟩ : Fin 256)))]
  · rw [Finset.sum_image]
    · refine Finset.sum_congr rfl fun x _ => ?_
      rw [if_pos (by show (j.val / 32 * 32 + x.val) / 32 = _; omega), mul_comm]
      congr 2; exact Fin.ext (by show (j.val / 32 * 32 + x.val) % 32 = _; omega)
    · intro x _ y _ e
      have := congrArg Fin.val e
      exact Fin.ext (by simp only at this; omega)
  · intro x _ hx
    rw [if_neg, mul_zero]
    intro e
    refine hx (Finset.mem_image.mpr ⟨⟨x % 32, by omega⟩, Finset.mem_univ _, Fin.ext ?_⟩)
    show j.val / 32 * 32 + x.val % 32 = x.val
    omega

variable (m : (ℓ : Loc nD τ sig) → Buf (Elt Ideal) ℓ)

/-! ## The arrays of a batch -/

/-- The recurrent mixer's arrays, batch `b`. -/
def lru (c : Dev nD) (b : Fin 2) : Lru where
  z n j := (show FVec Ideal S2x16384x512 .f32 from m ((c : Thread nD τ).loc main_arg0)) (ix3 b n j)
  w k j := (show FVec Ideal S4x256 .f32 from m ((c : Thread nD τ).loc main_arg2)) (ix2 k j)
  b j := (show FVec Ideal S256 .f32 from m ((c : Thread nD τ).loc main_arg3)) (ix1 j)
  wa g x y := (show FVec Ideal S8x32x32 .f32 from m ((c : Thread nD τ).loc main_arg4)) (ix3 g x y)
  ba j := (show FVec Ideal S256 .f32 from m ((c : Thread nD τ).loc main_arg5)) (ix1 j)
  wx g x y := (show FVec Ideal S8x32x32 .f32 from m ((c : Thread nD τ).loc main_arg6)) (ix3 g x y)
  bx j := (show FVec Ideal S256 .f32 from m ((c : Thread nD τ).loc main_arg7)) (ix1 j)
  lam j := (show FVec Ideal S256 .f32 from m ((c : Thread nD τ).loc main_arg8)) (ix1 j)
/-- The convolutional mixer's arrays, batch `b`. -/
def cvm (c : Dev nD) (b : Fin 2) : Cvm where
  z n j := (show FVec Ideal S2x16384x512 .f32 from m ((c : Thread nD τ).loc main_arg1)) (ix3 b n j)
  w k j := (show FVec Ideal S31x256 .f32 from m ((c : Thread nD τ).loc main_arg9)) (ix2 k j)
  b j := (show FVec Ideal S256 .f32 from m ((c : Thread nD τ).loc main_arg10)) (ix1 j)
  g j := (show FVec Ideal S256 .f32 from m ((c : Thread nD τ).loc main_arg11)) (ix1 j)
  h j := (show FVec Ideal S256 .f32 from m ((c : Thread nD τ).loc main_arg12)) (ix1 j)
/-- The norm's weight at channel `n`. -/
def nrm (c : Dev nD) (n : Fin 1024) : EReal := (show FVec Ideal S1024 .f32 from m ((c : Thread nD τ).loc main_arg13)) (ix1 n)

/-! ## One tile -/

theorem tX_at (c : Dev nD) (t : Fin cfg0.N) (i : Fin 512) (j : Fin 256) :
    (tX (iblk m c 0 t) (ix2 i j) : EReal) = (lru m c (bat t)).z (tim t i) ⟨j, by omega⟩ := by
  refine Eq.trans ?_ (blk0 m c t i ⟨j, by omega⟩)
  generalize iblk m c 0 t = x
  pointwise [tX, k0_pay8]
theorem tY_at (c : Dev nD) (t : Fin cfg0.N) (i : Fin 512) (j : Fin 256) :
    (tY (iblk m c 1 t) (ix2 i j) : EReal) = (cvm m c (bat t)).y j (tim t i) := by
  refine (glu_at (iblk m c 1 t) i j).trans ?_
  exact congrArg₂ (fun a b : EReal => a * Ideal.logistic b) (blk1 m c t i ⟨j, by omega⟩) (blk1 m c t i ⟨256 + j, by omega⟩)

/-- A tile's hidden states, when its buffer holds the sequence and the kept state is the state before the tile. -/
theorem hAt_at (c : Dev nD) (t : Fin cfg0.N) (X : Vec Ideal S528x256 .f32) (H : Vec Ideal S8x256 .f32)
    (hX : ∀ (j : Fin 256) (p : Fin 520), X (ix2 ⟨p, by omega⟩ j) = late (fun s => (lru m c (bat t)).z s ⟨j, by omega⟩) 8 (512 * (t.val % 32) + p))
    (hH : ∀ j : Fin 256, (H (ix2 0 j) : EReal) = (lru m c (bat t)).h j (512 * (t.val % 32))) (i : Fin 512) (j : Fin 256) :
    (hAt m c t X H (ix2 i j) : EReal) = (lru m c (bat t)).h j (512 * (t.val % 32) + i + 1) := by
  have hx : ∀ (i : Fin 512) (x : Fin 256), (xTile (iblk m c 2 t) (iblk m c 3 t) X (ix2 i x) : EReal) = (lru m c (bat t)).x (512 * (t.val % 32) + i) x := fun i x => by
    refine (xTile_at (iblk m c 2 t) (iblk m c 3 t) X _ _ x (hX x) i).trans ?_
    unfold Lru.x
    rw [show (fun k => (iblk m c 2 t) (ix2 k x)) = fun k => (lru m c (bat t)).w k x from funext fun k => blk2 m c t k x]
    rw [show ((iblk m c 3 t) (ix2 0 x)) = (lru m c (bat t)).b x from blk3 m c t x]
  have hg : ∀ i : Fin 512, (gTile (iblk m c 2 t) (iblk m c 3 t) X (iblk m c 4 t) (iblk m c 5 t) (ix2 i j) : EReal)
      = Ideal.logistic (pre ((lru m c (bat t)).x (512 * (t.val % 32) + i)) (lru m c (bat t)).wa (lru m c (bat t)).ba j) := fun i => by
    refine (gTile_at (iblk m c 2 t) (iblk m c 3 t) X (iblk m c 4 t) (iblk m c 5 t) i j).trans ?_
    refine congrArg Ideal.logistic ?_
    unfold pre
    refine congrArg₂ (· + ·) ?_ (blk5 m c t j)
    refine Eq.trans ?_ (sum_blk ((lru m c (bat t)).x (512 * (t.val % 32) + i)) (fun x => (lru m c (bat t)).wa ⟨j / 32, by omega⟩ x ⟨j % 32, by omega⟩) j)
    refine Finset.sum_congr rfl fun x _ => ?_
    exact congrArg₂ (fun a b : EReal => a * b) (hx i x) (blk4 m c t x j)
  have hq : ∀ i : Fin 512, (gTile (iblk m c 2 t) (iblk m c 3 t) X (iblk m c 6 t) (iblk m c 7 t) (ix2 i j) : EReal)
      = Ideal.logistic (pre ((lru m c (bat t)).x (512 * (t.val % 32) + i)) (lru m c (bat t)).wx (lru m c (bat t)).bx j) := fun i => by
    refine (gTile_at (iblk m c 2 t) (iblk m c 3 t) X (iblk m c 6 t) (iblk m c 7 t) i j).trans ?_
    refine congrArg Ideal.logistic ?_
    unfold pre
    refine congrArg₂ (· + ·) ?_ (blk7 m c t j)
    refine Eq.trans ?_ (sum_blk ((lru m c (bat t)).x (512 * (t.val % 32) + i)) (fun x => (lru m c (bat t)).wx ⟨j / 32, by omega⟩ x ⟨j % 32, by omega⟩) j)
    refine Finset.sum_congr rfl fun x _ => ?_
    exact congrArg₂ (fun a b : EReal => a * b) (hx i x) (blk6 m c t x j)
  unfold hAt hOf
  refine hTile_scan _ _ _ _ _ ((lru m c (bat t)).a j) ((lru m c (bat t)).u j) (512 * (t.val % 32)) j (fun n => dec_nonneg _ _) (fun n => dec_ne_top _ _) ?_ ?_ ?_ i
  · intro i
    refine (dec_at _ (iblk m c 8 t) i j _ (hg i)).trans ?_
    exact congrArg (dec _) (blk8 m c t j)
  · intro i
    refine (u0_at _ _ _ (iblk m c 8 t) i j _ _ (hg i) (hq i)).trans ?_
    exact congrArg₂ (fun x l => inp x _ _ l) (hx i j) (blk8 m c t j)
  · refine Eq.trans ?_ (hH j)
    pointwise [row0]

theorem hLast_at (h : FVec Ideal S512x256 .f32) (q : Fin 8) (j : Fin 256) : hLast h (ix2 q j) = h (ix2 511 j) := by
  pointwise [hLast, k0_pay37]
theorem keptA_at (q : Fin 8) (j : Fin 256) : (keptA (ix2 q j) : EReal) = 0 := by
  pointwise [keptA, k0_pay6]

/-- The first buffer at a batch's first tile. -/
theorem bufXA_at (c : Dev nD) (t : Fin cfg0.N) (h : t.val % 32 = 0) (j : Fin 256) (p : Fin 520) :
    bufXA (tX (iblk m c 0 t)) (ix2 ⟨p, by omega⟩ j) = late (fun s => (lru m c (bat t)).z s ⟨j, by omega⟩) 8 (512 * (t.val % 32) + p) := by
  refine bufX_late _ _ _ j (fun q => ?_) (fun q => ?_) p
  · refine ((canonX_tile _ _ q j).trans (tX_at m c t q j)).trans ?_
    exact (late_of_tile (fun s => (lru m c (bat t)).z s ⟨j, by omega⟩) 8 (512 * (t.val % 32) + (8 + q)) (tim t q) (by show _ = 8 + (512 * (t.val % 32) + q.val); omega)).symm
  · refine (canonX_top _ q j).trans ?_
    exact (late_before (fun s => (lru m c (bat t)).z s ⟨j, by omega⟩) 8 (512 * (t.val % 32) + q) (by omega)).symm
theorem bufYA_at (c : Dev nD) (t : Fin cfg0.N) (h : t.val % 32 = 0) (j : Fin 256) (p : Fin 544) :
    bufYA (tY (iblk m c 1 t)) (ix2 ⟨p, by omega⟩ j) = late ((cvm m c (bat t)).y j) 32 (512 * (t.val % 32) + p) := by
  refine bufY_late _ _ _ j (fun q => ?_) (fun q => ?_) p
  · refine ((canonY_tile _ _ q j).trans (tY_at m c t q j)).trans ?_
    exact (late_of_tile ((cvm m c (bat t)).y j) 32 (512 * (t.val % 32) + (32 + q)) (tim t q) (by show _ = 32 + (512 * (t.val % 32) + q.val); omega)).symm
  · refine (canonY_top _ q j).trans ?_
    exact (late_before ((cvm m c (bat t)).y j) 32 (512 * (t.val % 32) + q) (by omega)).symm

/-- The point before a later tile: the same batch, one tile earlier. -/
def prv (t : Fin cfg0.N) : Fin cfg0.N := ⟨t.val - 1, Nat.lt_of_le_of_lt (Nat.sub_le t.val 1) t.isLt⟩
theorem bat_prv (t : Fin cfg0.N) (h : ¬t.val % 32 = 0) : bat (prv t) = bat t := Fin.ext (by show (t.val - 1) / 32 = t.val / 32; omega)
theorem prv_mod (t : Fin cfg0.N) (h : ¬t.val % 32 = 0) : (prv t).val % 32 + 1 = t.val % 32 := by show (t.val - 1) % 32 + 1 = _; omega

/-- What every point leaves above the first buffer's next tile. -/
theorem keptX (c : Dev nD) (t : Fin cfg0.N) (q : Fin 8) (j : Fin 256) :
    (outsAt0 m c t.val t.isLt).2.2.1 (ix2 ⟨q, by omega⟩ j) = tX (iblk m c 0 t) (ix2 ⟨504 + q, by omega⟩ j) := by
  by_cases h : t.val % 32 = 0
  · exact A_X m c t h q j
  · exact B_X m c t h q j
theorem keptY (c : Dev nD) (t : Fin cfg0.N) (q : Fin 32) (j : Fin 256) :
    (outsAt0 m c t.val t.isLt).2.2.2.1 (ix2 ⟨q, by omega⟩ j) = tY (iblk m c 1 t) (ix2 ⟨480 + q, by omega⟩ j) := by
  by_cases h : t.val % 32 = 0
  · exact A_Y m c t h q j
  · exact B_Y m c t h q j

/-- The first buffer at a later tile. -/
theorem bufXB_at (c : Dev nD) (t : Fin cfg0.N) (h : ¬t.val % 32 = 0) (j : Fin 256) (p : Fin 520) :
    bufXB (tX (iblk m c 0 t)) (before m c t).2.2.1 (ix2 ⟨p, by omega⟩ j) = late (fun s => (lru m c (bat t)).z s ⟨j, by omega⟩) 8 (512 * (t.val % 32) + p) := by
  have hp := prv_mod t h
  refine bufX_late _ _ _ j (fun q => ?_) (fun q => ?_) p
  · refine ((keptX_tile _ _ _ q j).trans (tX_at m c t q j)).trans ?_
    exact (late_of_tile (fun s => (lru m c (bat t)).z s ⟨j, by omega⟩) 8 (512 * (t.val % 32) + (8 + q)) (tim t q) (by show _ = 8 + (512 * (t.val % 32) + q.val); omega)).symm
  · refine (keptX_top _ _ _ q j).trans ?_
    rw [read_unread_whole]
    refine ((keptX m c (prv t) q j).trans (tX_at m c (prv t) ⟨504 + q, by omega⟩ j)).trans ?_
    rw [bat_prv t h]
    exact (late_of_tile (fun s => (lru m c (bat t)).z s ⟨j, by omega⟩) 8 (512 * (t.val % 32) + q) (tim (prv t) ⟨504 + q, by omega⟩) (by show _ = 8 + (512 * ((prv t).val % 32) + (504 + q.val)); omega)).symm
theorem bufYB_at (c : Dev nD) (t : Fin cfg0.N) (h : ¬t.val % 32 = 0) (j : Fin 256) (p : Fin 544) :
    bufYB (tY (iblk m c 1 t)) (before m c t).2.2.2.1 (ix2 ⟨p, by omega⟩ j) = late ((cvm m c (bat t)).y j) 32 (512 * (t.val % 32) + p) := by
  have hp := prv_mod t h
  refine bufY_late _ _ _ j (fun q => ?_) (fun q => ?_) p
  · refine ((keptY_tile _ _ _ q j).trans (tY_at m c t q j)).trans ?_
    exact (late_of_tile ((cvm m c (bat t)).y j) 32 (512 * (t.val % 32) + (32 + q)) (tim t q) (by show _ = 32 + (512 * (t.val % 32) + q.val); omega)).symm
  · refine (keptY_top _ _ _ q j).trans ?_
    rw [read_unread_whole]
    refine ((keptY m c (prv t) q j).trans (tY_at m c (prv t) ⟨480 + q, by omega⟩ j)).trans ?_
    rw [bat_prv t h]
    exact (late_of_tile ((cvm m c (bat t)).y j) 32 (512 * (t.val % 32) + q) (tim (prv t) ⟨480 + q, by omega⟩) (by show _ = 32 + (512 * ((prv t).val % 32) + (480 + q.val)); omega)).symm

/-! ## The kept state -/

/-- Every point leaves the state after its tile. -/
theorem keptH (c : Dev nD) : ∀ (n : ℕ) (hn : n < cfg0.N) (q : Fin 8) (j : Fin 256),
    ((outsAt0 m c n hn).2.2.2.2 (ix2 q j) : EReal) = (lru m c (bat ⟨n, hn⟩)).h j (512 * (n % 32) + 512) := by
  intro n
  induction n with
  | zero =>
    intro hn q j
    have e := A_h m c ⟨0, hn⟩ rfl
    rw [show (outsAt0 m c 0 hn).2.2.2.2 = _ from e, hLast_at]
    exact hAt_at m c ⟨0, hn⟩ _ _ (fun j p => bufXA_at m c ⟨0, hn⟩ rfl j p) (fun j => (keptA_at 0 j).trans rfl) 511 j
  | succ n ih =>
    intro hn q j
    by_cases h : (n + 1) % 32 = 0
    · have e := A_h m c ⟨n + 1, hn⟩ h
      rw [show (outsAt0 m c (n + 1) hn).2.2.2.2 = _ from e, hLast_at]
      exact hAt_at m c ⟨n + 1, hn⟩ _ _ (fun j p => bufXA_at m c ⟨n + 1, hn⟩ h j p)
        (fun j => (keptA_at 0 j).trans (by show 0 = Lru.h _ j (512 * ((n + 1) % 32)); rw [h]; rfl)) 511 j
    · have e := B_h m c ⟨n + 1, hn⟩ h
      rw [show (outsAt0 m c (n + 1) hn).2.2.2.2 = _ from e, hLast_at]
      refine hAt_at m c ⟨n + 1, hn⟩ _ _ (fun j p => bufXB_at m c ⟨n + 1, hn⟩ h j p) (fun j => ?_) 511 j
      refine (ih (by omega) 0 j).trans ?_
      have hb : bat ⟨n, by omega⟩ = bat ⟨n + 1, hn⟩ := bat_prv ⟨n + 1, hn⟩ h
      rw [hb]
      congr 1
      show _ = 512 * ((n + 1) % 32); omega

/-! ## The two outputs of a tile -/

theorem tileL (c : Dev nD) (t : Fin cfg0.N) (i : Fin 512) (j : Fin 256) :
    ((outsAt0 m c t.val t.isLt).1 (ix3 0 i j) : EReal) = (lru m c (bat t)).out (fun j => nrm m c ⟨512 + j, by omega⟩) (tim t i) j := by
  have key : ∀ (X : Vec Ideal S528x256 .f32) (H : Vec Ideal S8x256 .f32),
      (∀ (j : Fin 256) (p : Fin 520), X (ix2 ⟨p, by omega⟩ j) = late (fun s => (lru m c (bat t)).z s ⟨j, by omega⟩) 8 (512 * (t.val % 32) + p)) →
      (∀ j : Fin 256, (H (ix2 0 j) : EReal) = (lru m c (bat t)).h j (512 * (t.val % 32))) →
      (oL (iblk m c 0 t) (hAt m c t X H) (iblk m c 13 t) (ix3 0 i j) : EReal) = (lru m c (bat t)).out (fun j => nrm m c ⟨512 + j, by omega⟩) (tim t i) j := by
    intro X H hX hH
    refine (yl_at _ _ _ i j).trans ?_
    unfold Lru.out
    refine congrArg₂ (fun y w => rms y w j) (funext fun x => ?_) (blk13 m c t j)
    exact congrArg₂ (fun a b : EReal => a * gelu b) (hAt_at m c t X H hX hH i x) (blk0 m c t i ⟨256 + x, by omega⟩)
  by_cases h : t.val % 32 = 0
  · rw [A_oL m c t h]
    exact key _ _ (bufXA_at m c t h) fun j => (keptA_at 0 j).trans (by rw [h]; rfl)
  · rw [B_oL m c t h]
    refine key _ _ (bufXB_at m c t h) fun j => ?_
    refine (keptH m c (t.val - 1) (prv t).isLt 0 j).trans ?_
    have hp := prv_mod t h
    rw [show bat ⟨t.val - 1, (prv t).isLt⟩ = bat t from bat_prv t h]
    congr 1
    show 512 * ((prv t).val % 32) + 512 = _; omega
theorem tileC (c : Dev nD) (t : Fin cfg0.N) (i : Fin 512) (j : Fin 256) :
    ((outsAt0 m c t.val t.isLt).2.1 (ix3 0 i j) : EReal) = (cvm m c (bat t)).out (fun j => nrm m c ⟨768 + j, by omega⟩) (tim t i) j := by
  have key : ∀ (Y : Vec Ideal S552x256 .f32),
      (∀ (j : Fin 256) (p : Fin 544), Y (ix2 ⟨p, by omega⟩ j) = late ((cvm m c (bat t)).y j) 32 (512 * (t.val % 32) + p)) →
      (cTile (iblk m c 9 t) (iblk m c 10 t) (iblk m c 11 t) (iblk m c 12 t) (iblk m c 14 t) Y (ix3 0 i j) : EReal)
        = (cvm m c (bat t)).out (fun j => nrm m c ⟨768 + j, by omega⟩) (tim t i) j := by
    intro Y hY
    refine (cTile_at _ _ _ _ _ Y (cvm m c (bat t)).y _ hY i j).trans ?_
    unfold Cvm.out Cvm.c
    rw [show (fun x => (iblk m c 11 t) (ix2 0 x)) = (cvm m c (bat t)).g from funext fun x => blk11 m c t x,
      show (fun x => (iblk m c 12 t) (ix2 0 x)) = (cvm m c (bat t)).h from funext fun x => blk12 m c t x]
    refine congrArg₂ (fun y w => rms y w j) (funext fun x => ?_) (blk14 m c t j)
    refine congrArg (fun y => silu (lnorm y _ _ x)) (funext fun x => ?_)
    exact congrArg₂ (fun w b => conv31 _ w b _) (funext fun k => blk9 m c t k x) (blk10 m c t x)
  by_cases h : t.val % 32 = 0
  · rw [A_oC m c t h]
    exact key _ (bufYA_at m c t h)
  · rw [B_oC m c t h]
    exact key _ (bufYB_at m c t h)

/-! ## The two arrays -/

/-- The recurrent mixer's result. -/
def resL (c : Dev nD) : FVec Ideal S2x16384x256 .bf16 := fun i => (lru m c (i 0)).out (fun j => nrm m c ⟨512 + j, by omega⟩) (i 1) (i 2)
/-- The convolutional mixer's result. -/
def resC (c : Dev nD) : FVec Ideal S2x16384x256 .bf16 := fun i => (cvm m c (i 0)).out (fun j => nrm m c ⟨768 + j, by omega⟩) (i 1) (i 2)
theorem final15 (c : Dev nD) : (dats m 0 c).arrAt 15 cfg0.N = resL m c := by
  refine (dats m 0 c).arrAt_eq_of_covers 15 (resL m c) (by decide +kernel) fun t _ y => ?_
  idx_vars y
  have h1 := (idx t).2.2.1
  have h2 := (idx t).2.2.2.2
  rw [after0_15]
  blk_simp
  have e : (win0_15.blk t).view.emb (ix3 y0 y1 y2) = (ix3 (bat t) (tim t y1) y2 : S2x16384x256.Idx) := by
    blk_ext [h1, bat, tim]
  rw [e, show y0 = 0 from Subsingleton.elim _ _]
  exact tileL m c t y1 y2
theorem final16 (c : Dev nD) : (dats m 0 c).arrAt 16 cfg0.N = resC m c := by
  refine (dats m 0 c).arrAt_eq_of_covers 16 (resC m c) (by decide +kernel) fun t _ y => ?_
  idx_vars y
  have h1 := (idx t).2.2.2.1
  have h2 := (idx t).2.2.2.2
  rw [after0_16]
  blk_simp
  have e : (win0_16.blk t).view.emb (ix3 y0 y1 y2) = (ix3 (bat t) (tim t y1) y2 : S2x16384x256.Idx) := by
    blk_ext [h1, bat, tim]
  rw [e, show y0 = 0 from Subsingleton.elim _ _]
  exact tileC m c t y1 y2
end Cert.KernelIdeal.ValueProof
end
-- ==== Proof.RefLoop.lean ====
/- The reference's loop over the steps: its counter, its state and its rows after `k` trips. -/
module

public import proofs.«01_k».proof.Proof.Gen.ReferenceIdeal.Run
public import proofs.«01_k».proof.Proof.Spec
public import Idealize.ShloMosaic.Lib.Pipeline.ValueKit
public import Idealize.ShloMosaic.Lib.WordCmp

@[expose] public section

set_option maxRecDepth 16384

noncomputable section

namespace Cert.ReferenceIdeal.ValueProof
open Cert.ReferenceIdeal Cert.ReferenceIdeal.Gen Cert.ReferenceIdeal.Value Idealize.ShloMosaic Idealize.ShloMosaic.TcCoe Idealize.SL.Sem Cert.Mix
open Idealize.ShloMosaic.StableHlo

/-- The loop's start row: the counter's value, and 0 on the two other axes. -/
def startRow (n : IVec S_ 32) : Fin 3 → Int :=
  fun k => (((![n, constantI S_ 32 0#32, constantI S_ 32 0#32] : Fin 3 → (⟨S_, .i32⟩ : BufTy).Contents (Elt Ideal))) k (Shape.Idx.first h_S_)).toInt
theorem startRow_eq (k : ℕ) (hk : k < 16384) (a : Fin 3) : startRow (fun _ => BitVec.ofNat 32 k) a = ((![k, 0, 0] : Fin 3 → ℕ) a : Int) := by
  fin_cases a
  · show (BitVec.ofNat 32 k).toInt = (k : Int)
    rw [BitVec.toInt_ofNat']
    rw [Int.bmod_eq_of_le] <;> omega
  · rfl
  · rfl

theorem slices_row (k : ℕ) (hk : k < 16384) : S16384x2x256.Slices ![k, 0, 0] S1x2x256 := by
  refine ⟨rfl, fun a => ?_⟩
  fin_cases a
  · show k + 1 ≤ 16384; omega
  · exact le_refl 2
  · exact le_refl 256

/-- The row the loop reads at trip `k`. -/
theorem row_at (x : FVec Ideal S16384x2x256 .f32) (k : ℕ) (hk : k < 16384) (b : Fin 2) (j : Fin 256) :
    shapeCast S2x256 (Host.dynamicSlice S1x2x256 x (startRow fun _ => BitVec.ofNat 32 k) sliceFits_S16384x2x256_S1x2x256) shapeCasts_S1x2x256_S2x256 (ix2 b j) = x (ix3 ⟨k, hk⟩ b j) := by
  rw [WordCmp.dynamicSlice_eq_extract S1x2x256 x _ _ ![k, 0, 0] (slices_row k hk) (startRow_eq k hk)]
  pointwise []
/-- What the loop's write at trip `k` leaves. -/
theorem put_at (x : FVec Ideal S16384x2x256 .f32) (w : FVec Ideal S2x256 .f32) (k : ℕ) (hk : k < 16384) (n : Fin 16384) (b : Fin 2) (j : Fin 256) :
    Host.dynamicUpdateSlice x (broadcastInDim S1x2x256 ![1, 2] bcast_S2x256_S1x2x256_1_2 w) (startRow fun _ => BitVec.ofNat 32 k) updateFits_S16384x2x256_S1x2x256 (ix3 n b j)
      = if n.val = k then w (ix2 b j) else x (ix3 n b j) := by
  rw [WordCmp.dynamicUpdateSlice_eq_update x _ _ _ ![k, 0, 0] (slices_row k hk) (startRow_eq k hk)]
  pointwise []
  by_cases e : n.val = k
  · rw [if_pos e, dif_pos (by omega)]
  · rw [if_neg e, dif_neg (by omega)]

/-! ## The loop -/

variable (E : Valuation τ sig (Elt Ideal))

theorem loop_0 (k : ℕ) : (STEP^[k] E) (Proc.devRef .tc main_v61_0) = E (Proc.devRef .tc main_v61_0) := by
  induction k with
  | zero => rfl
  | succ k ih => rw [Function.iterate_succ_apply', STEP_main_v61_0, ih]
theorem loop_1 (k : ℕ) : (STEP^[k] E) (Proc.devRef .tc main_v61_1) = E (Proc.devRef .tc main_v61_1) := by
  induction k with
  | zero => rfl
  | succ k ih => rw [Function.iterate_succ_apply', STEP_main_v61_1, ih]
theorem loop_2 (h0 : E (Proc.devRef .tc main_v61_2) = fun _ => (0#32 : BitVec 32)) (k : ℕ) :
    (STEP^[k] E) (Proc.devRef .tc main_v61_2) = fun _ => BitVec.ofNat 32 k := by
  induction k with
  | zero => exact h0
  | succ k ih =>
    rw [Function.iterate_succ_apply', STEP_main_v61_2]
    unfold step_main_v61_2
    rw [ih]
    funext i
    show BitVec.ofNat 32 k + 1#32 = _
    rw [BitVec.ofNat_add]

/-- One trip's state, from the row's decay and input and the state before. -/
theorem step_state (V : Valuation τ sig (Elt Ideal)) (k : ℕ) (hk : k < 16384) (h2 : V (Proc.devRef .tc main_v61_2) = fun _ => BitVec.ofNat 32 k) (b : Fin 2) (j : Fin 256) :
    ((show FVec Ideal S2x256 .f32 from res_main_while0b_v161 V) (ix2 b j) : EReal)
      = (show FVec Ideal S16384x2x256 .f32 from V (Proc.devRef .tc main_v61_0)) (ix3 ⟨k, hk⟩ b j) * (show FVec Ideal S2x256 .f32 from V (Proc.devRef .tc main_v61_3)) (ix2 b j)
        + (show FVec Ideal S16384x2x256 .f32 from V (Proc.devRef .tc main_v61_1)) (ix3 ⟨k, hk⟩ b j) := by
  unfold res_main_while0b_v161
  rw [h2]
  refine Eq.trans ?_ (congrArg₂ (fun a u : EReal => a * (show FVec Ideal S2x256 .f32 from V (Proc.devRef .tc main_v61_3)) (ix2 b j) + u)
    (row_at (V (Proc.devRef .tc main_v61_0)) k hk b j) (row_at (V (Proc.devRef .tc main_v61_1)) k hk b j))
  rfl

/-- After `k` trips the state is the recurrence's after `k` steps, and the rows before `k` hold the states so far. -/
theorem loop_rows (h0 : E (Proc.devRef .tc main_v61_2) = fun _ => (0#32 : BitVec 32)) (a u : Fin 2 → Fin 256 → ℕ → EReal)
    (hA : ∀ (n : Fin 16384) b j, (show FVec Ideal S16384x2x256 .f32 from E (Proc.devRef .tc main_v61_0)) (ix3 n b j) = a b j n)
    (hU : ∀ (n : Fin 16384) b j, (show FVec Ideal S16384x2x256 .f32 from E (Proc.devRef .tc main_v61_1)) (ix3 n b j) = u b j n)
    (hH : ∀ b j, (show FVec Ideal S2x256 .f32 from E (Proc.devRef .tc main_v61_3)) (ix2 b j) = (0 : EReal)) :
    ∀ k : ℕ, k ≤ 16384 →
      (∀ b j, (show FVec Ideal S2x256 .f32 from (STEP^[k] E) (Proc.devRef .tc main_v61_3)) (ix2 b j) = hid (a b j) (u b j) k)
      ∧ ∀ (n : Fin 16384) b j, n.val < k → (show FVec Ideal S16384x2x256 .f32 from (STEP^[k] E) (Proc.devRef .tc main_v61_4)) (ix3 n b j) = hid (a b j) (u b j) (n + 1) := by
  intro k
  induction k with
  | zero => exact fun _ => ⟨hH, fun n b j h => absurd h (Nat.not_lt_zero _)⟩
  | succ k ih =>
    intro hk
    obtain ⟨ih3, ih4⟩ := ih (by omega)
    have hs : ∀ b j, ((show FVec Ideal S2x256 .f32 from res_main_while0b_v161 (STEP^[k] E)) (ix2 b j) : EReal) = hid (a b j) (u b j) (k + 1) := fun b j => by
      rw [step_state (STEP^[k] E) k (by omega) (loop_2 E h0 k) b j, ih3 b j, loop_0 E k, loop_1 E k, hA, hU]
      rfl
    rw [Function.iterate_succ_apply', STEP_main_v61_3, STEP_main_v61_4]
    refine ⟨hs, fun n b j hn => ?_⟩
    unfold step_main_v61_4
    rw [loop_2 E h0 k]
    refine (put_at ((STEP^[k] E) (Proc.devRef .tc main_v61_4)) (res_main_while0b_v161 (STEP^[k] E)) k (by omega) n b j).trans ?_
    by_cases e : n.val = k
    · rw [if_pos e, e]; exact hs b j
    · rw [if_neg e]; exact ih4 n b j (by omega)

end Cert.ReferenceIdeal.ValueProof
end
-- ==== Proof.RefReads.lean ====
/- The reference's arrays before its loop and its results after it, at coordinates. -/
module

public import proofs.«01_k».proof.Proof.RefLoop
public import Idealize.ShloMosaic.Lib.StableHlo.Predicate

@[expose] public section

set_option maxRecDepth 16384

noncomputable section

namespace Cert.ReferenceIdeal.ValueProof
open Cert.ReferenceIdeal Cert.ReferenceIdeal.Gen Cert.ReferenceIdeal.Value Idealize.ShloMosaic Idealize.ShloMosaic.TcCoe Idealize.SL.Sem Cert.Mix
open Idealize.ShloMosaic.StableHlo

/-- The start indices of the four-tap windows: tap `i` of step `t` is row `t + i`. -/
def idx4 : IVec S16384x4x1 32 :=
  broadcastInDim S16384x4x1 ![0, 1] bcast_S16384x4_S16384x4x1_0_1
    (addi (broadcastInDim S16384x4 ![0, 1] bcast_S16384x1_S16384x4_0_1 (broadcastInDim S16384x1 ![0] bcast_S16384_S16384x1_0 (iotaInDim S16384 32 0)))
      (broadcastInDim S16384x4 ![0, 1] bcast_S1x4_S16384x4_0_1 (broadcastInDim S1x4 ![1] bcast_S4_S1x4_1 (iotaInDim S4 32 0))))
/-- The start indices of the thirty-one-tap windows. -/
def idx31 : IVec S16384x31x1 32 :=
  broadcastInDim S16384x31x1 ![0, 1] bcast_S16384x31_S16384x31x1_0_1
    (addi (broadcastInDim S16384x31 ![0, 1] bcast_S16384x1_S16384x31_0_1 (broadcastInDim S16384x1 ![0] bcast_S16384_S16384x1_0 (iotaInDim S16384 32 0)))
      (broadcastInDim S16384x31 ![0, 1] bcast_S1x31_S16384x31_0_1 (broadcastInDim S1x31 ![1] bcast_S31_S1x31_1 (iotaInDim S31 32 0))))
/-- The four-tap windows of a sequence padded by three zero rows in front. -/
def win4 (x : FVec Ideal S2x16384x256 .f32) : FVec Ideal S2x16384x4x256 .f32 :=
  Host.gather gather_S2x16387x256_S16384x4x1_S2x16384x4x256_03_1_n_n_1_2_21256
    (pad S2x16387x256 ![0, 3, 0] ![0, 0, 0] ![0, 0, 0] x (sitofp .f32 (constantI S_ 32 0#32)) pads_S2x16384x256_S2x16387x256_000_300_000 h_S_) idx4
/-- The thirty-one-tap windows of a sequence padded by thirty zero rows in front. -/
def win31 (x : FVec Ideal S2x16384x256 .f32) : FVec Ideal S2x16384x31x256 .f32 :=
  Host.gather gather_S2x16414x256_S16384x31x1_S2x16384x31x256_03_1_n_n_1_2_21256
    (pad S2x16414x256 ![0, 30, 0] ![0, 0, 0] ![0, 0, 0] x (sitofp .f32 (constantI S_ 32 0#32)) pads_S2x16384x256_S2x16414x256_000_3000_000 h_S_) idx31
/-- The short convolution of the recurrence's input. -/
def rXR (z : FVec Ideal S2x16384x512 .f32) (w : FVec Ideal S4x256 .f32) (b : FVec Ideal S256 .f32) : FVec Ideal S2x16384x256 .f32 :=
  addf (Host.reduceAdd (mulf (broadcastInDim S2x16384x4x256 ![0, 1, 2, 3] bcast_S1x1x4x256_S2x16384x4x256_0_1_2_3
      (broadcastInDim S1x1x4x256 ![2, 3] bcast_S4x256_S1x1x4x256_2_3 w))
      (win4 (extractStridedSlice S2x16384x256 ![0, 0, 0] z slices_S2x16384x512_S2x16384x256_0_0_0)))
      (constant S_ .f32 0#32) reducesTo_S2x16384x4x256_S2x16384x256_d2 h_S_)
    (broadcastInDim S2x16384x256 ![0, 1, 2] bcast_S1x1x256_S2x16384x256_0_1_2 (broadcastInDim S1x1x256 ![2] bcast_S256_S1x1x256_2 b))
/-- A gate: the logistic function of the block-diagonal product plus its bias. -/
def rGate (xr : FVec Ideal S2x16384x256 .f32) (W : FVec Ideal S8x32x32 .f32) (b : FVec Ideal S256 .f32) : FVec Ideal S2x16384x256 .f32 :=
  Host.divf (broadcastInDim S2x16384x256 ![] bcast_S_S2x16384x256 (constant S_ .f32 1065353216#32))
    (addf (broadcastInDim S2x16384x256 ![] bcast_S_S2x16384x256 (constant S_ .f32 1065353216#32))
      (Host.exp (Host.negf (addf
        (shapeCast S2x16384x256 (transpose S2x16384x8x32 [2, 3, 0, 1]
          (Host.dotGeneral dot_S8x32x32_S2x16384x8x32_S8x32x2x16384_1_3_2_01_0_2 none W
            (shapeCast S2x16384x8x32 xr shapeCasts_S2x16384x256_S2x16384x8x32))
          transposes_S8x32x2x16384_S2x16384x8x32_2_3_0_1) shapeCasts_S2x16384x8x32_S2x16384x256)
        (broadcastInDim S2x16384x256 ![0, 1, 2] bcast_S1x1x256_S2x16384x256_0_1_2 (broadcastInDim S1x1x256 ![2] bcast_S256_S1x1x256_2 b))))))
/-- The softplus of the negated decay parameter. -/
def rSP (lam : FVec Ideal S256 .f32) : FVec Ideal S256 .f32 :=
  select (cmpf .une (subf (Host.negf lam) (broadcastInDim S256 ![] bcast_S_S256 (constant S_ .f32 0#32))) (subf (Host.negf lam) (broadcastInDim S256 ![] bcast_S_S256 (constant S_ .f32 0#32))))
    (addf (Host.negf lam) (broadcastInDim S256 ![] bcast_S_S256 (constant S_ .f32 0#32)))
    (addf (maximumf (Host.negf lam) (broadcastInDim S256 ![] bcast_S_S256 (constant S_ .f32 0#32)))
      (Host.log1p (Host.exp (Host.negf (Host.absf (subf (Host.negf lam) (broadcastInDim S256 ![] bcast_S_S256 (constant S_ .f32 0#32))))))))
/-- The logarithm of the recurrence's decay. -/
def rLA (r : FVec Ideal S2x16384x256 .f32) (lam : FVec Ideal S256 .f32) : FVec Ideal S2x16384x256 .f32 :=
  mulf (mulf (broadcastInDim S2x16384x256 ![] bcast_S_S2x16384x256 (constant S_ .f32 3238002688#32)) r)
    (broadcastInDim S2x16384x256 ![0, 1, 2] bcast_S1x1x256_S2x16384x256_0_1_2 (broadcastInDim S1x1x256 ![2] bcast_S256_S1x1x256_2 (rSP lam)))
/-- The decays, time first. -/
def rA (la : FVec Ideal S2x16384x256 .f32) : FVec Ideal S16384x2x256 .f32 :=
  transpose S16384x2x256 [1, 0, 2] (Host.exp la) transposes_S2x16384x256_S16384x2x256_1_0_2
/-- The inputs, time first. -/
def rU (xr ig la : FVec Ideal S2x16384x256 .f32) : FVec Ideal S16384x2x256 .f32 :=
  transpose S16384x2x256 [1, 0, 2] (mulf (mulf xr ig) (Host.sqrt (Host.negf (Host.expm1
    (mulf (broadcastInDim S2x16384x256 ![] bcast_S_S2x16384x256 (constant S_ .f32 1073741824#32)) la)))))
    transposes_S2x16384x256_S16384x2x256_1_0_2

/-! ## The windows -/

theorem start_val {a b : ℕ} (h : a + b < 20000) (N : ℕ) (hN : a + b ≤ N) : min (IntOp.addi (BitVec.ofNat 32 a) (BitVec.ofNat 32 b)).toInt.toNat N = a + b := by
  have e : (IntOp.addi (BitVec.ofNat 32 a) (BitVec.ofNat 32 b)) = BitVec.ofNat 32 (a + b) := by
    unfold IntOp.addi; rw [BitVec.ofNat_add]
  rw [e, BitVec.toInt_ofNat', Int.bmod_eq_of_le (by omega) (by omega)]
  omega

theorem sitofp_0 : (FloatOps.sitofp (F := Ideal) FTy.f32 (0#32 : BitVec 32) : EReal) = 0 := by
  show (((0#32 : BitVec 32).toInt : ℝ) : EReal) = 0
  simp

theorem gather4_at (X : FVec Ideal S2x16387x256 .f32) (b : Fin 2) (n : Fin 16384) (k : Fin 4) (j : Fin 256) :
    Host.gather gather_S2x16387x256_S16384x4x1_S2x16384x4x256_03_1_n_n_1_2_21256 X idx4 (ix4 b n k j) = X (ix3 b ⟨n + k, by omega⟩ j) := by
  unfold Host.gather
  congr 1
  have s0 : (gather_S2x16387x256_S16384x4x1_S2x16384x4x256_03_1_n_n_1_2_21256).start (ix4 b n k j) idx4 (0 : Fin 3) = 0 := by
    unfold GatherDims.start
    exact dif_neg (show ¬(0 : Fin 3) ∈ [(1 : Fin 3)] by decide)
  have s2 : (gather_S2x16387x256_S16384x4x1_S2x16384x4x256_03_1_n_n_1_2_21256).start (ix4 b n k j) idx4 (2 : Fin 3) = 0 := by
    unfold GatherDims.start
    exact dif_neg (show ¬(2 : Fin 3) ∈ [(1 : Fin 3)] by decide)
  have s1 : (gather_S2x16387x256_S16384x4x1_S2x16384x4x256_03_1_n_n_1_2_21256).start (ix4 b n k j) idx4 (1 : Fin 3) = n + k := by
    unfold GatherDims.start
    refine (dif_pos (show (1 : Fin 3) ∈ [(1 : Fin 3)] by decide)).trans ?_
    refine Eq.trans ?_ (start_val (a := n.val) (b := k.val) (by omega) 16386 (by omega))
    rfl
  have o0 : (gather_S2x16387x256_S16384x4x1_S2x16384x4x256_03_1_n_n_1_2_21256).offCoord (ix4 b n k j) (0 : Fin 3) = b := by
    unfold GatherDims.offCoord
    exact (dif_pos ((GatherDims.mem_sKept _ _).mpr ⟨show ¬(0 : Fin 3) ∈ [(1 : Fin 3)] by decide, List.not_mem_nil⟩)).trans rfl
  have o2 : (gather_S2x16387x256_S16384x4x1_S2x16384x4x256_03_1_n_n_1_2_21256).offCoord (ix4 b n k j) (2 : Fin 3) = j := by
    unfold GatherDims.offCoord
    exact (dif_pos ((GatherDims.mem_sKept _ _).mpr ⟨show ¬(2 : Fin 3) ∈ [(1 : Fin 3)] by decide, List.not_mem_nil⟩)).trans rfl
  have o1 : (gather_S2x16387x256_S16384x4x1_S2x16384x4x256_03_1_n_n_1_2_21256).offCoord (ix4 b n k j) (1 : Fin 3) = 0 :=
    GatherDims.offCoord_eq_zero _ _ _ fun h => ((GatherDims.mem_sKept _ _).mp h).1 (show (1 : Fin 3) ∈ [(1 : Fin 3)] by decide)
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ => exact (congrArg₂ (fun p q => p + 0 + q) s0 o0).trans (Nat.zero_add _)
  | ⟨1, _⟩ => exact (congrArg₂ (fun p q => p + 0 + q) s1 o1).trans rfl
  | ⟨2, _⟩ => exact (congrArg₂ (fun p q => p + 0 + q) s2 o2).trans (Nat.zero_add _)

theorem gather31_at (X : FVec Ideal S2x16414x256 .f32) (b : Fin 2) (n : Fin 16384) (k : Fin 31) (j : Fin 256) :
    Host.gather gather_S2x16414x256_S16384x31x1_S2x16384x31x256_03_1_n_n_1_2_21256 X idx31 (ix4 b n k j) = X (ix3 b ⟨n + k, by omega⟩ j) := by
  unfold Host.gather
  congr 1
  have s0 : (gather_S2x16414x256_S16384x31x1_S2x16384x31x256_03_1_n_n_1_2_21256).start (ix4 b n k j) idx31 (0 : Fin 3) = 0 := by
    unfold GatherDims.start
    exact dif_neg (show ¬(0 : Fin 3) ∈ [(1 : Fin 3)] by decide)
  have s2 : (gather_S2x16414x256_S16384x31x1_S2x16384x31x256_03_1_n_n_1_2_21256).start (ix4 b n k j) idx31 (2 : Fin 3) = 0 := by
    unfold GatherDims.start
    exact dif_neg (show ¬(2 : Fin 3) ∈ [(1 : Fin 3)] by decide)
  have s1 : (gather_S2x16414x256_S16384x31x1_S2x16384x31x256_03_1_n_n_1_2_21256).start (ix4 b n k j) idx31 (1 : Fin 3) = n + k := by
    unfold GatherDims.start
    refine (dif_pos (show (1 : Fin 3) ∈ [(1 : Fin 3)] by decide)).trans ?_
    refine Eq.trans ?_ (start_val (a := n.val) (b := k.val) (by omega) 16413 (by omega))
    rfl
  have o0 : (gather_S2x16414x256_S16384x31x1_S2x16384x31x256_03_1_n_n_1_2_21256).offCoord (ix4 b n k j) (0 : Fin 3) = b := by
    unfold GatherDims.offCoord
    exact (dif_pos ((GatherDims.mem_sKept _ _).mpr ⟨show ¬(0 : Fin 3) ∈ [(1 : Fin 3)] by decide, List.not_mem_nil⟩)).trans rfl
  have o2 : (gather_S2x16414x256_S16384x31x1_S2x16384x31x256_03_1_n_n_1_2_21256).offCoord (ix4 b n k j) (2 : Fin 3) = j := by
    unfold GatherDims.offCoord
    exact (dif_pos ((GatherDims.mem_sKept _ _).mpr ⟨show ¬(2 : Fin 3) ∈ [(1 : Fin 3)] by decide, List.not_mem_nil⟩)).trans rfl
  have o1 : (gather_S2x16414x256_S16384x31x1_S2x16384x31x256_03_1_n_n_1_2_21256).offCoord (ix4 b n k j) (1 : Fin 3) = 0 :=
    GatherDims.offCoord_eq_zero _ _ _ fun h => ((GatherDims.mem_sKept _ _).mp h).1 (show (1 : Fin 3) ∈ [(1 : Fin 3)] by decide)
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ => exact (congrArg₂ (fun p q => p + 0 + q) s0 o0).trans (Nat.zero_add _)
  | ⟨1, _⟩ => exact (congrArg₂ (fun p q => p + 0 + q) s1 o1).trans rfl
  | ⟨2, _⟩ => exact (congrArg₂ (fun p q => p + 0 + q) s2 o2).trans (Nat.zero_add _)

theorem win4_at (x : FVec Ideal S2x16384x256 .f32) (b : Fin 2) (n : Fin 16384) (k : Fin 4) (j : Fin 256) :
    (win4 x (ix4 b n k j) : EReal) = late (fun s => x (ix3 b s j)) 3 (n + k) := by
  unfold win4
  rw [gather4_at]
  pointwise []
  unfold late
  rw [sitofp_0]

theorem win31_at (x : FVec Ideal S2x16384x256 .f32) (b : Fin 2) (n : Fin 16384) (k : Fin 31) (j : Fin 256) :
    (win31 x (ix4 b n k j) : EReal) = late (fun s => x (ix3 b s j)) 30 (n + k) := by
  unfold win31
  rw [gather31_at]
  pointwise []
  unfold late
  rw [sitofp_0]

/-! ## The gates and the recurrence's coefficients -/

variable (m : (ℓ : Loc nD τ sig) → Buf (Elt Ideal) ℓ)

/-- The recurrent mixer's arrays, batch `b`. -/
def lru (c : Dev nD) (b : Fin 2) : Lru where
  z n j := (show FVec Ideal S2x16384x512 .f32 from m ((c.tc : Thread nD τ).loc main_arg0)) (ix3 b n j)
  w k j := (show FVec Ideal S4x256 .f32 from m ((c.tc : Thread nD τ).loc main_arg2)) (ix2 k j)
  b j := (show FVec Ideal S256 .f32 from m ((c.tc : Thread nD τ).loc main_arg3)) (ix1 j)
  wa g x y := (show FVec Ideal S8x32x32 .f32 from m ((c.tc : Thread nD τ).loc main_arg4)) (ix3 g x y)
  ba j := (show FVec Ideal S256 .f32 from m ((c.tc : Thread nD τ).loc main_arg5)) (ix1 j)
  wx g x y := (show FVec Ideal S8x32x32 .f32 from m ((c.tc : Thread nD τ).loc main_arg6)) (ix3 g x y)
  bx j := (show FVec Ideal S256 .f32 from m ((c.tc : Thread nD τ).loc main_arg7)) (ix1 j)
  lam j := (show FVec Ideal S256 .f32 from m ((c.tc : Thread nD τ).loc main_arg8)) (ix1 j)
/-- The convolutional mixer's arrays, batch `b`. -/
def cvm (c : Dev nD) (b : Fin 2) : Cvm where
  z n j := (show FVec Ideal S2x16384x512 .f32 from m ((c.tc : Thread nD τ).loc main_arg1)) (ix3 b n j)
  w k j := (show FVec Ideal S31x256 .f32 from m ((c.tc : Thread nD τ).loc main_arg9)) (ix2 k j)
  b j := (show FVec Ideal S256 .f32 from m ((c.tc : Thread nD τ).loc main_arg10)) (ix1 j)
  g j := (show FVec Ideal S256 .f32 from m ((c.tc : Thread nD τ).loc main_arg11)) (ix1 j)
  h j := (show FVec Ideal S256 .f32 from m ((c.tc : Thread nD τ).loc main_arg12)) (ix1 j)
/-- The norm's weight at channel `n`. -/
def nrm (c : Dev nD) (n : Fin 1024) : EReal := (show FVec Ideal S1024 .f32 from m ((c.tc : Thread nD τ).loc main_arg13)) (ix1 n)

theorem xr_at (z : FVec Ideal S2x16384x512 .f32) (w : FVec Ideal S4x256 .f32) (b : FVec Ideal S256 .f32) (b0 : Fin 2) (n : Fin 16384) (j : Fin 256) :
    (rXR z w b (ix3 b0 n j) : EReal) = conv4 (fun s => z (ix3 b0 s ⟨j, by omega⟩)) (fun k => w (ix2 k j)) (b (ix1 j)) n := by
  pointwise [rXR]
  simp only [win4_at]
  unfold conv4
  congr 1
  refine Finset.sum_congr rfl fun k _ => ?_
  congr 1
  refine congrArg (fun f => late f 3 (n + k)) (funext fun s => ?_)
  pointwise []
theorem gate_at (xr : FVec Ideal S2x16384x256 .f32) (W : FVec Ideal S8x32x32 .f32) (b : FVec Ideal S256 .f32) (b0 : Fin 2) (n : Fin 16384) (j : Fin 256) :
    (rGate xr W b (ix3 b0 n j) : EReal) = Ideal.logistic (pre (fun x => xr (ix3 b0 n x)) (fun g x y => W (ix3 g x y)) (fun j => b (ix1 j)) j) := by
  pointwise [rGate]
  rfl
theorem la_at (r : FVec Ideal S2x16384x256 .f32) (lam : FVec Ideal S256 .f32) (b0 : Fin 2) (n : Fin 16384) (j : Fin 256) (p : EReal)
    (hr : r (ix3 b0 n j) = Ideal.logistic p) : (rLA r lam (ix3 b0 n j) : EReal) = la p (lam (ix1 j)) := by
  pointwise [rLA, rSP]
  rw [hr]
  simp only [ne_eq, not_true_eq_false, if_false]
  rfl

/-- The decay the loop reads at step `n`. -/
theorem a_at (c : Dev nD) (n : Fin 16384) (b : Fin 2) (j : Fin 256) :
    (rA (rLA (rGate (rXR (m ((c.tc : Thread nD τ).loc main_arg0)) (m ((c.tc : Thread nD τ).loc main_arg2)) (m ((c.tc : Thread nD τ).loc main_arg3)))
      (m ((c.tc : Thread nD τ).loc main_arg4)) (m ((c.tc : Thread nD τ).loc main_arg5))) (m ((c.tc : Thread nD τ).loc main_arg8))) (ix3 n b j) : EReal) = (lru m c b).a j n := by
  have hg := gate_at (rXR (m ((c.tc : Thread nD τ).loc main_arg0)) (m ((c.tc : Thread nD τ).loc main_arg2)) (m ((c.tc : Thread nD τ).loc main_arg3)))
    (m ((c.tc : Thread nD τ).loc main_arg4)) (m ((c.tc : Thread nD τ).loc main_arg5)) b n j
  have hl := la_at _ (m ((c.tc : Thread nD τ).loc main_arg8)) b n j _ hg
  refine Eq.trans (b := Ideal.exp _) ?_ (congrArg Ideal.exp (hl.trans ?_))
  · pointwise [rA]
  · simp only [xr_at]
    rfl
/-- The input the loop reads at step `n`. -/
theorem u_at (c : Dev nD) (n : Fin 16384) (b : Fin 2) (j : Fin 256) :
    (rU (rXR (m ((c.tc : Thread nD τ).loc main_arg0)) (m ((c.tc : Thread nD τ).loc main_arg2)) (m ((c.tc : Thread nD τ).loc main_arg3)))
      (rGate (rXR (m ((c.tc : Thread nD τ).loc main_arg0)) (m ((c.tc : Thread nD τ).loc main_arg2)) (m ((c.tc : Thread nD τ).loc main_arg3)))
        (m ((c.tc : Thread nD τ).loc main_arg6)) (m ((c.tc : Thread nD τ).loc main_arg7)))
      (rLA (rGate (rXR (m ((c.tc : Thread nD τ).loc main_arg0)) (m ((c.tc : Thread nD τ).loc main_arg2)) (m ((c.tc : Thread nD τ).loc main_arg3)))
      (m ((c.tc : Thread nD τ).loc main_arg4)) (m ((c.tc : Thread nD τ).loc main_arg5))) (m ((c.tc : Thread nD τ).loc main_arg8))) (ix3 n b j) : EReal) = (lru m c b).u j n := by
  have hg := gate_at (rXR (m ((c.tc : Thread nD τ).loc main_arg0)) (m ((c.tc : Thread nD τ).loc main_arg2)) (m ((c.tc : Thread nD τ).loc main_arg3)))
    (m ((c.tc : Thread nD τ).loc main_arg4)) (m ((c.tc : Thread nD τ).loc main_arg5)) b n j
  have hq := gate_at (rXR (m ((c.tc : Thread nD τ).loc main_arg0)) (m ((c.tc : Thread nD τ).loc main_arg2)) (m ((c.tc : Thread nD τ).loc main_arg3)))
    (m ((c.tc : Thread nD τ).loc main_arg6)) (m ((c.tc : Thread nD τ).loc main_arg7)) b n j
  have hl := la_at _ (m ((c.tc : Thread nD τ).loc main_arg8)) b n j _ hg
  have hx := xr_at (m ((c.tc : Thread nD τ).loc main_arg0)) (m ((c.tc : Thread nD τ).loc main_arg2)) (m ((c.tc : Thread nD τ).loc main_arg3)) b n j
  generalize hL : rLA _ _ = L at hl ⊢
  generalize hQ : rGate _ (m ((c.tc : Thread nD τ).loc main_arg6)) _ = Q at hq ⊢
  have key : (rU (rXR (m ((c.tc : Thread nD τ).loc main_arg0)) (m ((c.tc : Thread nD τ).loc main_arg2)) (m ((c.tc : Thread nD τ).loc main_arg3))) Q L (ix3 n b j) : EReal)
      = rXR (m ((c.tc : Thread nD τ).loc main_arg0)) (m ((c.tc : Thread nD τ).loc main_arg2)) (m ((c.tc : Thread nD τ).loc main_arg3)) (ix3 b n j) * Q (ix3 b n j)
        * Ideal.sqrt (-(Ideal.exp (Ideal.ofBits .f32 1073741824#32 * L (ix3 b n j)) - 1)) := by
    pointwise [rU]
  rw [key, hq, hl, hx]
  simp only [xr_at]
  rfl

/-! ## The contents the loop starts from -/

set_option maxRecDepth 65536 in
set_option maxHeartbeats 2000000 in
theorem entA (c : Dev nD) : entryContents preI m c (Proc.devRef .tc main_v61_0) =
    rA (rLA (rGate (rXR (m ((c.tc : Thread nD τ).loc main_arg0)) (m ((c.tc : Thread nD τ).loc main_arg2)) (m ((c.tc : Thread nD τ).loc main_arg3)))
      (m ((c.tc : Thread nD τ).loc main_arg4)) (m ((c.tc : Thread nD τ).loc main_arg5))) (m ((c.tc : Thread nD τ).loc main_arg8))) := by
  simp only [entryContents, afterL_cons, afterL_nil]
  after_reads_simp
  rfl
set_option maxRecDepth 65536 in
set_option maxHeartbeats 2000000 in
theorem entU (c : Dev nD) : entryContents preI m c (Proc.devRef .tc main_v61_1) =
    rU (rXR (m ((c.tc : Thread nD τ).loc main_arg0)) (m ((c.tc : Thread nD τ).loc main_arg2)) (m ((c.tc : Thread nD τ).loc main_arg3)))
      (rGate (rXR (m ((c.tc : Thread nD τ).loc main_arg0)) (m ((c.tc : Thread nD τ).loc main_arg2)) (m ((c.tc : Thread nD τ).loc main_arg3)))
        (m ((c.tc : Thread nD τ).loc main_arg6)) (m ((c.tc : Thread nD τ).loc main_arg7)))
      (rLA (rGate (rXR (m ((c.tc : Thread nD τ).loc main_arg0)) (m ((c.tc : Thread nD τ).loc main_arg2)) (m ((c.tc : Thread nD τ).loc main_arg3)))
      (m ((c.tc : Thread nD τ).loc main_arg4)) (m ((c.tc : Thread nD τ).loc main_arg5))) (m ((c.tc : Thread nD τ).loc main_arg8))) := by
  simp only [entryContents, afterL_cons, afterL_nil]
  after_reads_simp
  rfl
set_option maxRecDepth 65536 in
set_option maxHeartbeats 2000000 in
theorem entH (c : Dev nD) : entryContents preI m c (Proc.devRef .tc main_v61_3) = id (broadcastInDim S2x256 ![] bcast_S_S2x256 (constant (F := Ideal) S_ .f32 0#32)) := by
  simp only [entryContents, afterL_cons, afterL_nil]
  after_reads_simp

end Cert.ReferenceIdeal.ValueProof
end
-- ==== Proof.RefValue.lean ====
/- The reference's two results at coordinates. -/
module

public import proofs.«01_k».proof.Proof.RefLoop
public import proofs.«01_k».proof.Proof.RefReads
public import Idealize.ShloMosaic.Lib.Pipeline.ValueKit
public import Idealize.ShloMosaic.Lib.WordCmp

@[expose] public section

set_option maxRecDepth 16384

noncomputable section

namespace Cert.ReferenceIdeal.ValueProof
open Cert.ReferenceIdeal Cert.ReferenceIdeal.Gen Cert.ReferenceIdeal.Value Idealize.ShloMosaic Idealize.ShloMosaic.TcCoe Idealize.SL.Sem Cert.Mix
open Idealize.ShloMosaic.StableHlo

/-! ## The convolutional mixer, as the reference writes it -/

/-- The gated input. -/
def rY (z : FVec Ideal S2x16384x512 .f32) : FVec Ideal S2x16384x256 .f32 :=
  mulf (extractStridedSlice S2x16384x256 ![0, 0, 0] z slices_S2x16384x512_S2x16384x256_0_0_0) (Host.divf (broadcastInDim S2x16384x256 ![] bcast_S_S2x16384x256 (constant S_ .f32 0x3F800000#32)) (addf (broadcastInDim S2x16384x256 ![] bcast_S_S2x16384x256 (constant S_ .f32 0x3F800000#32)) (Host.exp (Host.negf (extractStridedSlice S2x16384x256 ![0, 0, 256] z slices_S2x16384x512_S2x16384x256_0_0_256)))))
/-- The long convolution of the gated input. -/
def rC (z : FVec Ideal S2x16384x512 .f32) (w : FVec Ideal S31x256 .f32) (b : FVec Ideal S256 .f32) : FVec Ideal S2x16384x256 .f32 :=
  addf (Host.reduceAdd (mulf (broadcastInDim S2x16384x31x256 ![0, 1, 2, 3] bcast_S1x1x31x256_S2x16384x31x256_0_1_2_3
      (broadcastInDim S1x1x31x256 ![2, 3] bcast_S31x256_S1x1x31x256_2_3 w)) (win31 (rY z)))
      (constant S_ .f32 0#32) reducesTo_S2x16384x31x256_S2x16384x256_d2 h_S_)
    (broadcastInDim S2x16384x256 ![0, 1, 2] bcast_S1x1x256_S2x16384x256_0_1_2 (broadcastInDim S1x1x256 ![2] bcast_S256_S1x1x256_2 b))

theorem y_at (z : FVec Ideal S2x16384x512 .f32) (b0 : Fin 2) (n : Fin 16384) (j : Fin 256) :
    (rY z (ix3 b0 n j) : EReal) = z (ix3 b0 n ⟨j, by omega⟩) * Ideal.logistic (z (ix3 b0 n ⟨256 + j, by omega⟩)) := by
  pointwise [rY]
  rfl
theorem c_at (z : FVec Ideal S2x16384x512 .f32) (w : FVec Ideal S31x256 .f32) (b : FVec Ideal S256 .f32) (b0 : Fin 2) (n : Fin 16384) (j : Fin 256) :
    (rC z w b (ix3 b0 n j) : EReal) = conv31 (fun s => z (ix3 b0 s ⟨j, by omega⟩) * Ideal.logistic (z (ix3 b0 s ⟨256 + j, by omega⟩))) (fun k => w (ix2 k j)) (b (ix1 j)) n := by
  pointwise [rC]
  simp only [win31_at]
  unfold conv31
  congr 1
  refine Finset.sum_congr rfl fun k _ => ?_
  congr 1
  refine congrArg (fun f => late f 30 (n + k)) (funext fun s => ?_)
  exact y_at z b0 s j

/-- The layer norm's centred rows. -/
def rCen (c : FVec Ideal S2x16384x256 .f32) : FVec Ideal S2x16384x256 .f32 :=
  subf c (broadcastInDim S2x16384x256 ![0, 1, 2] bcast_S2x16384x1_S2x16384x256_0_1_2 (Host.divf (broadcastInDim S2x16384x1 ![0, 1] bcast_S2x16384_S2x16384x1_0_1 (Host.reduceAdd c (constant S_ .f32 0x00000000#32) reducesTo_S2x16384x256_S2x16384_d2 h_S_)) (broadcastInDim S2x16384x1 ![] bcast_S_S2x16384x1 (constant S_ .f32 0x43800000#32))))
/-- The layer norm. -/
def rLN (c : FVec Ideal S2x16384x256 .f32) (g h : FVec Ideal S256 .f32) : FVec Ideal S2x16384x256 .f32 :=
  addf (mulf (mulf (rCen c) (broadcastInDim S2x16384x256 ![0, 1, 2] bcast_S2x16384x1_S2x16384x256_0_1_2 (Host.rsqrt (addf (Host.divf (broadcastInDim S2x16384x1 ![0, 1] bcast_S2x16384_S2x16384x1_0_1 (Host.reduceAdd (mulf (rCen c) (rCen c)) (constant S_ .f32 0x00000000#32) reducesTo_S2x16384x256_S2x16384_d2 h_S_)) (broadcastInDim S2x16384x1 ![] bcast_S_S2x16384x1 (constant S_ .f32 0x43800000#32))) (broadcastInDim S2x16384x1 ![] bcast_S_S2x16384x1 (constant S_ .f32 0x358637BD#32)))))) (broadcastInDim S2x16384x256 ![0, 1, 2] bcast_S1x1x256_S2x16384x256_0_1_2 (broadcastInDim S1x1x256 ![2] bcast_S256_S1x1x256_2 g))) (broadcastInDim S2x16384x256 ![0, 1, 2] bcast_S1x1x256_S2x16384x256_0_1_2 (broadcastInDim S1x1x256 ![2] bcast_S256_S1x1x256_2 h))
/-- Its rows times their logistic function. -/
def rSilu (l : FVec Ideal S2x16384x256 .f32) : FVec Ideal S2x16384x256 .f32 :=
  mulf l (Host.divf (broadcastInDim S2x16384x256 ![] bcast_S_S2x16384x256 (constant S_ .f32 0x3F800000#32)) (addf (broadcastInDim S2x16384x256 ![] bcast_S_S2x16384x256 (constant S_ .f32 0x3F800000#32)) (Host.exp (Host.negf l))))
/-- The group's norm, cast. -/
def rRms (y : FVec Ideal S2x16384x256 .f32) (w : FVec Ideal S1024 .f32) : FVec Ideal S2x16384x256 .bf16 :=
  truncf .bf16 (mulf (mulf y (broadcastInDim S2x16384x256 ![0, 1, 2] bcast_S2x16384x1_S2x16384x256_0_1_2 (Host.rsqrt (addf (Host.divf (broadcastInDim S2x16384x1 ![0, 1] bcast_S2x16384_S2x16384x1_0_1 (Host.reduceAdd (mulf y y) (constant S_ .f32 0x00000000#32) reducesTo_S2x16384x256_S2x16384_d2 h_S_)) (broadcastInDim S2x16384x1 ![] bcast_S_S2x16384x1 (constant S_ .f32 0x43800000#32))) (broadcastInDim S2x16384x1 ![] bcast_S_S2x16384x1 (constant S_ .f32 0x358637BD#32)))))) (broadcastInDim S2x16384x256 ![0, 1, 2] bcast_S1x1x256_S2x16384x256_0_1_2 (broadcastInDim S1x1x256 ![2] bcast_S256_S1x1x256_2 (extractStridedSlice S256 ![768] w slices_S1024_S256_768)))) bitsLt_bf16_f32

theorem ln_at (c : FVec Ideal S2x16384x256 .f32) (g h : FVec Ideal S256 .f32) (b : Fin 2) (n : Fin 16384) (j : Fin 256) :
    (rLN c g h (ix3 b n j) : EReal) = lnorm (fun y => c (ix3 b n y)) (fun y => g (ix1 y)) (fun y => h (ix1 y)) j := by
  pointwise [rLN, rCen]
  rfl
theorem silu_at (l : FVec Ideal S2x16384x256 .f32) (b : Fin 2) (n : Fin 16384) (j : Fin 256) : (rSilu l (ix3 b n j) : EReal) = silu (l (ix3 b n j)) := by
  pointwise [rSilu]
  rfl
theorem rms_at (y : FVec Ideal S2x16384x256 .f32) (w : FVec Ideal S1024 .f32) (b : Fin 2) (n : Fin 16384) (j : Fin 256) :
    (rRms y w (ix3 b n j) : EReal) = rms (fun x => y (ix3 b n x)) (w (ix1 ⟨768 + j, by omega⟩)) j := by
  pointwise [rRms]
  rfl

/-! ## What the results read -/

variable (m : (ℓ : Loc nD τ sig) → Buf (Elt Ideal) ℓ)

/-- The contents after the loop's last trip. -/
def last (c : Dev nD) : Valuation τ sig (Elt Ideal) := STEP^[16384] (entryContents preI m c)

/-- The row of state `n` of batch `b`. -/
theorem last_row (c : Dev nD) (n : Fin 16384) (b : Fin 2) (j : Fin 256) :
    (show FVec Ideal S16384x2x256 .f32 from last m c (Proc.devRef .tc main_v61_4)) (ix3 n b j) = (lru m c b).h j (n + 1) := by
  refine (loop_rows (entryContents preI m c) (ctr_entry m c) (fun b j => (lru m c b).a j) (fun b j => (lru m c b).u j) ?_ ?_ ?_ 16384 le_rfl).2 n b j n.isLt
  · intro n b j; rw [entA]; exact a_at m c n b j
  · intro n b j; rw [entU]; exact u_at m c n b j
  · intro b j; rw [entH]; show ((broadcastInDim S2x256 ![] bcast_S_S2x256 (constant (F := Ideal) S_ .f32 0#32)) (ix2 b j) : EReal) = 0; pointwise []
theorem out_L (V : Valuation τ sig (Elt Ideal)) (b : Fin 2) (n : Fin 16384) (j : Fin 256) :
    ((show FVec Ideal S2x16384x256 .bf16 from out_main_v142 (F := Ideal) V) (ix3 b n j) : EReal) =
      rms (fun x => (show FVec Ideal S16384x2x256 .f32 from V (Proc.devRef .tc main_v61_4)) (ix3 n b x)
        * gelu ((show FVec Ideal S2x16384x512 .f32 from V (Proc.devRef .tc main_arg0)) (ix3 b n ⟨256 + x, by omega⟩)))
        ((show FVec Ideal S1024 .f32 from V (Proc.devRef .tc main_arg13)) (ix1 ⟨512 + j, by omega⟩)) j := by
  pointwise [out_main_v142]
  rfl
set_option maxRecDepth 65536 in
theorem out_C (V : Valuation τ sig (Elt Ideal)) : out_main_v157 (F := Ideal) V =
    rRms (rSilu (rLN (rC (V (Proc.devRef .tc main_arg1)) (V (Proc.devRef .tc main_arg9)) (V (Proc.devRef .tc main_arg10))) (V (Proc.devRef .tc main_arg11)) (V (Proc.devRef .tc main_arg12))))
      (V (Proc.devRef .tc main_arg13)) := by
  unfold out_main_v157
  rfl

/-- The first result, over the arguments. -/
def resL (c : Dev nD) : FVec Ideal S2x16384x256 .bf16 := fun i => (lru m c (i 0)).out (fun j => nrm m c ⟨512 + j, by omega⟩) (i 1) (i 2)
/-- The second result, over the arguments. -/
def resC (c : Dev nD) : FVec Ideal S2x16384x256 .bf16 := fun i => (cvm m c (i 0)).out (fun j => nrm m c ⟨768 + j, by omega⟩) (i 1) (i 2)

theorem result_L (c : Dev nD) : out_main_v142 (STEP^[16384] (entryContents preI m c)) = resL m c := by
  funext i
  idx_vars i
  have h0 : last m c (Proc.devRef .tc main_arg0) = m ((c.tc : Thread nD τ).loc main_arg0) := iter_main_arg0 m c 16384
  have h13 : last m c (Proc.devRef .tc main_arg13) = m ((c.tc : Thread nD τ).loc main_arg13) := iter_main_arg13 m c 16384
  change (out_main_v142 (F := Ideal) (last m c) _ : EReal) = (lru m c i0).out (fun j => nrm m c ⟨512 + j, by omega⟩) i1 i2
  refine (out_L (last m c) _ _ _).trans ?_
  rw [h0, h13]
  unfold Lru.out
  exact congrArg (fun y => rms y (nrm m c ⟨512 + i2, by omega⟩) i2)
    (funext fun x => congrArg (· * gelu ((lru m c i0).z i1 ⟨256 + x, by omega⟩)) (last_row m c i1 i0 x))
theorem result_C (c : Dev nD) : out_main_v157 (STEP^[16384] (entryContents preI m c)) = resC m c := by
  rw [out_C, iter_main_arg1, iter_main_arg9, iter_main_arg10, iter_main_arg11, iter_main_arg12, iter_main_arg13]
  funext i
  idx_vars i
  refine (rms_at _ _ _ _ _).trans ?_
  simp only [silu_at, ln_at, c_at]
  rfl

/-- The reference's run: its two results over the arguments, and the arguments as they were. -/
theorem run_res (ρ : Dev nD → PrngReg) : θ_run (defs (F := Ideal)) (onTc (τ := τ) (main (F := Ideal))) ⟨m, fun _ => 0, ρ⟩ fun r => ∀ c : Dev nD,
      r.2.mem ((c.tc : Thread nD τ).loc main_v142) = resL m c
      ∧ r.2.mem ((c.tc : Thread nD τ).loc main_v157) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  have h := run m ρ
  simp only [result_L, result_C] at h
  exact h

end Cert.ReferenceIdeal.ValueProof
end
-- ==== Proof.MlpSpec.lean ====
/- The output projection with its MLP, one token's row at a time, in plain mathematics over the extended reals. -/
module

public import Idealize.ShloMosaic.Lib.Pipeline.ValueKit

@[expose] public section

set_option maxRecDepth 16384

noncomputable section

namespace Cert.Mlp
open Idealize.ShloMosaic

/-- A row's root mean square norm (`d` is its length as a float), at channel `k`, times the channel's weight. -/
def norm {N : ℕ} (d : EReal) (y g : Fin N → EReal) (k : Fin N) : EReal :=
  y k * Ideal.rsqrt (Ideal.div (∑ x, y x * y x) d + Ideal.ofBits .f32 897988541#32) * g k

/-- One token: its residual row, its three mixers' rows (the second and third already normalised), and the layer's weights. -/
structure Tok where
  x : Fin 1024 → EReal
  ya : Fin 512 → EReal
  yl : Fin 256 → EReal
  yc : Fin 256 → EReal
  ga : Fin 512 → EReal
  wo : Fin 1024 → Fin 1024 → EReal
  gm : Fin 1024 → EReal
  w1 : Fin 1024 → Fin 4096 → EReal
  w2 : Fin 4096 → Fin 1024 → EReal

namespace Tok
variable (P : Tok)
/-- The row after the output projection. -/
def x1 (j : Fin 1024) : EReal :=
  P.x j + (∑ k : Fin 512, norm (Ideal.ofBits .f32 1140850688#32) P.ya P.ga k * P.wo ⟨k, by omega⟩ j)
    + (∑ k : Fin 256, P.yl k * P.wo ⟨512 + k, by omega⟩ j) + ∑ k : Fin 256, P.yc k * P.wo ⟨768 + k, by omega⟩ j
/-- Its norm. -/
def hm (j : Fin 1024) : EReal := norm (Ideal.ofBits .f32 1149239296#32) P.x1 P.gm j
/-- The rectified hidden channel `k`. -/
def act (k : Fin 4096) : EReal := max (∑ l : Fin 1024, P.hm l * P.w1 l k) 0
/-- The row after the MLP. -/
def out (j : Fin 1024) : EReal := P.x1 j + ∑ k : Fin 4096, P.act k * P.act k * P.w2 k j
end Tok

/-- A sum over the hidden channels is four sums over 1024 of them. -/
theorem sum_hidden (f : Fin 4096 → EReal) :
    (∑ k : Fin 4096, f k) = (∑ k : Fin 1024, f ⟨k, by omega⟩) + (∑ k : Fin 1024, f ⟨1024 + k, by omega⟩)
      + (∑ k : Fin 1024, f ⟨2048 + k, by omega⟩) + ∑ k : Fin 1024, f ⟨3072 + k, by omega⟩ := by
  have h := Fin.sum_univ_add (a := 1024 + 1024 + 1024) (b := 1024) f
  rw [Fin.sum_univ_add (a := 1024 + 1024) (b := 1024), Fin.sum_univ_add (a := 1024) (b := 1024)] at h
  exact h
/-- A sum over the mixers' channels is a sum over each mixer's. -/
theorem sum_groups (f : Fin 1024 → EReal) :
    (∑ k : Fin 1024, f k) = (∑ k : Fin 512, f ⟨k, by omega⟩) + (∑ k : Fin 256, f ⟨512 + k, by omega⟩) + ∑ k : Fin 256, f ⟨768 + k, by omega⟩ := by
  have h := Fin.sum_univ_add (a := 512 + 256) (b := 256) f
  rw [Fin.sum_univ_add (a := 512) (b := 256)] at h
  exact h
end Cert.Mlp
end
-- ==== Proof.MlpKernel.lean ====
/- The output projection's kernel: its result array, row by row. -/
module

public import proofs.«01_k».proof.Proof.Gen.Kernel2Ideal.Value
public import proofs.«01_k».proof.Proof.MlpSpec

@[expose] public section

set_option maxRecDepth 16384

noncomputable section

namespace Cert.Kernel2Ideal.ValueProof
open Idealize.ShloMosaic.StableHlo Cert.Kernel2Ideal Cert.Kernel2Ideal.Gen Cert.Kernel2Ideal.Value Idealize.ShloMosaic Idealize.ShloMosaic.TcCoe Idealize.SL.Sem Cert.Mlp

/-! ## The body's stages at coordinates -/

theorem pay2_at (v0 : Vec Ideal S512x512 .f32) (v12 : Vec Ideal S1x512 .f32) (v17 : Vec Ideal S512x1024 .f32) (v19 : Vec Ideal S512x1024 .bf16) (v23 : Vec Ideal S512x256 .bf16)
    (v25 : Vec Ideal S256x1024 .bf16) (v29 : Vec Ideal S512x256 .bf16) (v31 : Vec Ideal S256x1024 .bf16) (i : Fin 512) (j : Fin 1024) :
    (k0_pay2 v0 v12 v17 v19 v23 v25 v29 v31 (ix2 i j) : EReal) =
      v17 (ix2 i j) + (∑ k : Fin 512, norm (Ideal.ofBits .f32 1140850688#32) (fun x => v0 (ix2 i x)) (fun x => v12 (ix2 0 x)) k * v19 (ix2 k j))
        + (∑ k : Fin 256, v23 (ix2 i k) * v25 (ix2 k j)) + ∑ k : Fin 256, v29 (ix2 i k) * v31 (ix2 k j) := by
  pointwise [k0_pay2]
  rfl
theorem pay4_at (v34 : FVec Ideal S512x1024 .f32) (v45 : Vec Ideal S1x1024 .f32) (i : Fin 512) (j : Fin 1024) :
    (k0_pay4 v34 (mulf v34 v34) v45 (ix2 i j) : EReal) = norm (Ideal.ofBits .f32 1149239296#32) (fun x => v34 (ix2 i x)) (fun x => v45 (ix2 0 x)) j := by
  pointwise [k0_pay4]
  rfl
theorem tail_at (v34 : FVec Ideal S512x1024 .f32) (q : FVec Ideal S512x1024 .f32) (g : Vec Ideal S1x1024 .f32) (a0 a1 a2 a3 b0 b1 b2 b3 : Vec Ideal S1024x1024 .bf16) (i : Fin 512) (j : Fin 1024) :
    (k0_pay1 (k0_pay9 (k0_pay8 (k0_pay4 v34 q g) a2 (k0_pay7 (k0_pay6 v34 q g a1) (k0_pay5 v34 q g a0 v34 b0) b1) b2)) (k0_pay10 (k0_pay4 v34 q g) a3) (k0_pay11 b3)
      (constant S512x1024 FTy.f32 0#32) (ix2 i j) : EReal) =
      v34 (ix2 i j) + (∑ k : Fin 1024, max (∑ l : Fin 1024, k0_pay4 v34 q g (ix2 i l) * a0 (ix2 l k)) 0 * max (∑ l : Fin 1024, k0_pay4 v34 q g (ix2 i l) * a0 (ix2 l k)) 0 * b0 (ix2 k j))
        + (∑ k : Fin 1024, max (∑ l : Fin 1024, k0_pay4 v34 q g (ix2 i l) * a1 (ix2 l k)) 0 * max (∑ l : Fin 1024, k0_pay4 v34 q g (ix2 i l) * a1 (ix2 l k)) 0 * b1 (ix2 k j))
        + (∑ k : Fin 1024, max (∑ l : Fin 1024, k0_pay4 v34 q g (ix2 i l) * a2 (ix2 l k)) 0 * max (∑ l : Fin 1024, k0_pay4 v34 q g (ix2 i l) * a2 (ix2 l k)) 0 * b2 (ix2 k j))
        + ∑ k : Fin 1024, max (∑ l : Fin 1024, k0_pay4 v34 q g (ix2 i l) * a3 (ix2 l k)) 0 * max (∑ l : Fin 1024, k0_pay4 v34 q g (ix2 i l) * a3 (ix2 l k)) 0 * b3 (ix2 k j) := by
  pointwise [k0_pay1, k0_pay9, k0_pay8, k0_pay7, k0_pay6, k0_pay5, k0_pay10, k0_pay11]

/-! ## Parts of the weights -/

theorem ld5a (x : Vec Ideal S1024x1024 .bf16) (k : Fin 512) (j : Fin 1024) :
    (View.ld x (Rect.unit ![0, 0] ![512, 1024] inb_S1024x1024_S512x1024_0_0) (ix2 k j) : EReal) = x (ix2 ⟨k, by omega⟩ j) := by
  pointwise []
theorem ld5b (x : Vec Ideal S1024x1024 .bf16) (k : Fin 256) (j : Fin 1024) :
    (View.ld x (Rect.unit ![512, 0] ![256, 1024] inb_S1024x1024_S256x1024_512_0) (ix2 k j) : EReal) = x (ix2 ⟨512 + k, by omega⟩ j) := by
  pointwise []
theorem ld5c (x : Vec Ideal S1024x1024 .bf16) (k : Fin 256) (j : Fin 1024) :
    (View.ld x (Rect.unit ![768, 0] ![256, 1024] inb_S1024x1024_S256x1024_768_0) (ix2 k j) : EReal) = x (ix2 ⟨768 + k, by omega⟩ j) := by
  pointwise []
theorem ld7_0 (x : Vec Ideal S1024x4096 .bf16) (k : Fin 1024) (j : Fin 1024) :
    (View.ld x (Rect.unit ![0, 0] ![1024, 1024] inb_S1024x4096_S1024x1024_0_0) (ix2 k j) : EReal) = x (ix2 k ⟨j, by omega⟩) := by
  pointwise []
theorem ld8_0 (x : Vec Ideal S4096x1024 .bf16) (k : Fin 1024) (j : Fin 1024) :
    (View.ld x (Rect.unit ![0, 0] ![1024, 1024] inb_S4096x1024_S1024x1024_0_0) (ix2 k j) : EReal) = x (ix2 ⟨k, by omega⟩ j) := by
  pointwise []
theorem ld7_1 (x : Vec Ideal S1024x4096 .bf16) (k : Fin 1024) (j : Fin 1024) :
    (View.ld x (Rect.unit ![0, 1024] ![1024, 1024] inb_S1024x4096_S1024x1024_0_1024) (ix2 k j) : EReal) = x (ix2 k ⟨1024 + j, by omega⟩) := by
  pointwise []
theorem ld8_1 (x : Vec Ideal S4096x1024 .bf16) (k : Fin 1024) (j : Fin 1024) :
    (View.ld x (Rect.unit ![1024, 0] ![1024, 1024] inb_S4096x1024_S1024x1024_1024_0) (ix2 k j) : EReal) = x (ix2 ⟨1024 + k, by omega⟩ j) := by
  pointwise []
theorem ld7_2 (x : Vec Ideal S1024x4096 .bf16) (k : Fin 1024) (j : Fin 1024) :
    (View.ld x (Rect.unit ![0, 2048] ![1024, 1024] inb_S1024x4096_S1024x1024_0_2048) (ix2 k j) : EReal) = x (ix2 k ⟨2048 + j, by omega⟩) := by
  pointwise []
theorem ld8_2 (x : Vec Ideal S4096x1024 .bf16) (k : Fin 1024) (j : Fin 1024) :
    (View.ld x (Rect.unit ![2048, 0] ![1024, 1024] inb_S4096x1024_S1024x1024_2048_0) (ix2 k j) : EReal) = x (ix2 ⟨2048 + k, by omega⟩ j) := by
  pointwise []
theorem ld7_3 (x : Vec Ideal S1024x4096 .bf16) (k : Fin 1024) (j : Fin 1024) :
    (View.ld x (Rect.unit ![0, 3072] ![1024, 1024] inb_S1024x4096_S1024x1024_0_3072) (ix2 k j) : EReal) = x (ix2 k ⟨3072 + j, by omega⟩) := by
  pointwise []
theorem ld8_3 (x : Vec Ideal S4096x1024 .bf16) (k : Fin 1024) (j : Fin 1024) :
    (View.ld x (Rect.unit ![3072, 0] ![1024, 1024] inb_S4096x1024_S1024x1024_3072_0) (ix2 k j) : EReal) = x (ix2 ⟨3072 + k, by omega⟩ j) := by
  pointwise []

variable (m : (ℓ : Loc nD τ sig) → Buf (Elt Ideal) ℓ)

/-! ## The blocks -/

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ t.val < 64 :=
  (by decide +kernel : ∀ t : Fin grid0.N, _)
/-- The token of row `i` of a grid point's tile. -/
def row (t : Fin cfg0.N) (i : Fin 512) : Fin 32768 := ⟨512 * t.val + i, by have := (idx t).2.2.2.2.2.2.2.2.2.2; omega⟩

/-- Token `n`'s arrays: token `n` of the 32768 is step `n mod 16384` of batch `n / 16384`. -/
def tok (c : Dev nD) (n : Fin 32768) : Tok where
  x j := (show FVec Ideal S2x16384x1024 .f32 from m ((c : Thread nD τ).loc main_arg0)) (ix3 ⟨n / 16384, by omega⟩ ⟨n % 16384, by omega⟩ j)
  ya j := (show FVec Ideal S2x16384x512 .f32 from m ((c : Thread nD τ).loc main_arg1)) (ix3 ⟨n / 16384, by omega⟩ ⟨n % 16384, by omega⟩ j)
  yl j := (show FVec Ideal S2x16384x256 .bf16 from m ((c : Thread nD τ).loc main_arg2)) (ix3 ⟨n / 16384, by omega⟩ ⟨n % 16384, by omega⟩ j)
  yc j := (show FVec Ideal S2x16384x256 .bf16 from m ((c : Thread nD τ).loc main_arg3)) (ix3 ⟨n / 16384, by omega⟩ ⟨n % 16384, by omega⟩ j)
  ga j := (show FVec Ideal S1024 .f32 from m ((c : Thread nD τ).loc main_arg4)) (ix1 ⟨j, by omega⟩)
  wo k j := (show FVec Ideal S1024x1024 .f32 from m ((c : Thread nD τ).loc main_arg5)) (ix2 k j)
  gm j := (show FVec Ideal S1024 .f32 from m ((c : Thread nD τ).loc main_arg6)) (ix1 j)
  w1 k j := (show FVec Ideal S1024x4096 .f32 from m ((c : Thread nD τ).loc main_arg7)) (ix2 k j)
  w2 k j := (show FVec Ideal S4096x1024 .f32 from m ((c : Thread nD τ).loc main_arg8)) (ix2 k j)
/-- The result over the arguments. -/
def res (c : Dev nD) : FVec Ideal S32768x1024 .f32 := fun i => (tok m c (i 0)).out (i 1)

theorem blk0 (c : Dev nD) (t : Fin cfg0.N) (i : Fin 512) (j : Fin 1024) :
    ((show FVec Ideal S512x1024 .f32 from iblk m c 0 t) (ix2 i j) : EReal) = (tok m c (row t i)).x j := by
  have := (idx t).2.2.2.2.2.2.2.2.2.2
  blk_point [iblk, V, row, tok, idx t]
theorem blk1 (c : Dev nD) (t : Fin cfg0.N) (i : Fin 512) (j : Fin 512) :
    ((show FVec Ideal S512x512 .f32 from iblk m c 1 t) (ix2 i j) : EReal) = (tok m c (row t i)).ya j := by
  have := (idx t).2.2.2.2.2.2.2.2.2.2
  blk_point [iblk, V, row, tok, idx t]
theorem blk2 (c : Dev nD) (t : Fin cfg0.N) (i : Fin 512) (j : Fin 256) :
    ((show FVec Ideal S512x256 .bf16 from iblk m c 2 t) (ix2 i j) : EReal) = (tok m c (row t i)).yl j := by
  have := (idx t).2.2.2.2.2.2.2.2.2.2
  blk_point [iblk, V, row, tok, idx t]
theorem blk3 (c : Dev nD) (t : Fin cfg0.N) (i : Fin 512) (j : Fin 256) :
    ((show FVec Ideal S512x256 .bf16 from iblk m c 3 t) (ix2 i j) : EReal) = (tok m c (row t i)).yc j := by
  have := (idx t).2.2.2.2.2.2.2.2.2.2
  blk_point [iblk, V, row, tok, idx t]
theorem blk4 (c : Dev nD) (t : Fin cfg0.N) (n : Fin 32768) (j : Fin 512) :
    ((show FVec Ideal S1x512 .f32 from iblk m c 4 t) (ix2 0 j) : EReal) = (tok m c n).ga j := by
  have := (idx t).2.2.2.2.2.2.2.2.2.2
  blk_point [iblk, V, row, tok, idx t]
theorem blk5 (c : Dev nD) (t : Fin cfg0.N) (n : Fin 32768) (k : Fin 1024) (j : Fin 1024) :
    ((show FVec Ideal S1024x1024 .bf16 from iblk m c 5 t) (ix2 k j) : EReal) = (tok m c n).wo k j := by
  have := (idx t).2.2.2.2.2.2.2.2.2.2
  blk_point [iblk, V, row, tok, idx t]
theorem blk6 (c : Dev nD) (t : Fin cfg0.N) (n : Fin 32768) (j : Fin 1024) :
    ((show FVec Ideal S1x1024 .f32 from iblk m c 6 t) (ix2 0 j) : EReal) = (tok m c n).gm j := by
  have := (idx t).2.2.2.2.2.2.2.2.2.2
  blk_point [iblk, V, row, tok, idx t]
theorem blk7 (c : Dev nD) (t : Fin cfg0.N) (n : Fin 32768) (k : Fin 1024) (j : Fin 4096) :
    ((show FVec Ideal S1024x4096 .bf16 from iblk m c 7 t) (ix2 k j) : EReal) = (tok m c n).w1 k j := by
  have := (idx t).2.2.2.2.2.2.2.2.2.2
  blk_point [iblk, V, row, tok, idx t]
theorem blk8 (c : Dev nD) (t : Fin cfg0.N) (n : Fin 32768) (k : Fin 4096) (j : Fin 1024) :
    ((show FVec Ideal S4096x1024 .bf16 from iblk m c 8 t) (ix2 k j) : EReal) = (tok m c n).w2 k j := by
  have := (idx t).2.2.2.2.2.2.2.2.2.2
  blk_point [iblk, V, row, tok, idx t]

/-! ## A tile -/

/-- The projected rows of a tile. -/
def proj (c : Dev nD) (t : Fin cfg0.N) : FVec Ideal S512x1024 .f32 :=
  k0_pay2 (iblk m c 1 t) (iblk m c 4 t) (iblk m c 0 t)
    (View.ld (iblk m c 5 t) (Rect.unit ![0, 0] ![512, 1024] inb_S1024x1024_S512x1024_0_0)) (iblk m c 2 t)
    (View.ld (iblk m c 5 t) (Rect.unit ![512, 0] ![256, 1024] inb_S1024x1024_S256x1024_512_0)) (iblk m c 3 t)
    (View.ld (iblk m c 5 t) (Rect.unit ![768, 0] ![256, 1024] inb_S1024x1024_S256x1024_768_0))
theorem proj_at (c : Dev nD) (t : Fin cfg0.N) (i : Fin 512) (j : Fin 1024) : (proj m c t (ix2 i j) : EReal) = (tok m c (row t i)).x1 j := by
  refine (pay2_at _ _ _ _ _ _ _ _ i j).trans ?_
  refine congrArg₂ _ (congrArg₂ _ (congrArg₂ _ (blk0 m c t i j) ?_) ?_) ?_
  · exact Finset.sum_congr rfl fun k _ => congrArg₂ _ (congrArg₂ (fun a b => norm _ a b k) (funext fun x => blk1 m c t i x) (funext fun x => blk4 m c t (row t i) x))
      ((ld5a _ k j).trans (blk5 m c t (row t i) _ j))
  · exact Finset.sum_congr rfl fun k _ => congrArg₂ _ (blk2 m c t i k) ((ld5b _ k j).trans (blk5 m c t (row t i) _ j))
  · exact Finset.sum_congr rfl fun k _ => congrArg₂ _ (blk3 m c t i k) ((ld5c _ k j).trans (blk5 m c t (row t i) _ j))
theorem tile (c : Dev nD) (t : Fin cfg0.N) (i : Fin 512) (j : Fin 1024) : (outsAt0 m c t (ix2 i j) : EReal) = (tok m c (row t i)).out j := by
  unfold Gen.outsAt0
  frame_out
  have hm4 : ∀ l, (k0_pay4 (proj m c t) (mulf (proj m c t) (proj m c t)) (iblk m c 6 t) (ix2 i l) : EReal) = (tok m c (row t i)).hm l := fun l =>
    (pay4_at _ _ i l).trans (congrArg₂ (fun a b => norm _ a b l) (funext fun x => proj_at m c t i x) (funext fun x => blk6 m c t (row t i) x))
  refine (tail_at (proj m c t) (mulf (proj m c t) (proj m c t)) (iblk m c 6 t) _ _ _ _ _ _ _ _ i j).trans ?_
  simp only [hm4]
  refine Eq.trans ?_ (congrArg ((tok m c (row t i)).x1 j + ·) (sum_hidden _).symm)
  simp only [add_assoc]
  have a0 : ∀ k : Fin 1024, max (∑ l : Fin 1024, (tok m c (row t i)).hm l * View.ld (iblk m c 7 t) (Rect.unit ![0, 0] ![1024, 1024] inb_S1024x4096_S1024x1024_0_0) (ix2 l k)) 0 = (tok m c (row t i)).act ⟨k, by omega⟩ :=
    fun k => congrArg (max · 0) (Finset.sum_congr rfl fun l _ => congrArg _ ((ld7_0 _ l k).trans (blk7 m c t (row t i) l _)))
  have a1 : ∀ k : Fin 1024, max (∑ l : Fin 1024, (tok m c (row t i)).hm l * View.ld (iblk m c 7 t) (Rect.unit ![0, 1024] ![1024, 1024] inb_S1024x4096_S1024x1024_0_1024) (ix2 l k)) 0 = (tok m c (row t i)).act ⟨1024 + k, by omega⟩ :=
    fun k => congrArg (max · 0) (Finset.sum_congr rfl fun l _ => congrArg _ ((ld7_1 _ l k).trans (blk7 m c t (row t i) l _)))
  have a2 : ∀ k : Fin 1024, max (∑ l : Fin 1024, (tok m c (row t i)).hm l * View.ld (iblk m c 7 t) (Rect.unit ![0, 2048] ![1024, 1024] inb_S1024x4096_S1024x1024_0_2048) (ix2 l k)) 0 = (tok m c (row t i)).act ⟨2048 + k, by omega⟩ :=
    fun k => congrArg (max · 0) (Finset.sum_congr rfl fun l _ => congrArg _ ((ld7_2 _ l k).trans (blk7 m c t (row t i) l _)))
  have a3 : ∀ k : Fin 1024, max (∑ l : Fin 1024, (tok m c (row t i)).hm l * View.ld (iblk m c 7 t) (Rect.unit ![0, 3072] ![1024, 1024] inb_S1024x4096_S1024x1024_0_3072) (ix2 l k)) 0 = (tok m c (row t i)).act ⟨3072 + k, by omega⟩ :=
    fun k => congrArg (max · 0) (Finset.sum_congr rfl fun l _ => congrArg _ ((ld7_3 _ l k).trans (blk7 m c t (row t i) l _)))
  exact congrArg₂ _ (proj_at m c t i j) (congrArg₂ _ (Finset.sum_congr rfl fun k _ => congrArg₂ _ (congrArg₂ _ (a0 k) (a0 k)) ((ld8_0 _ k j).trans (blk8 m c t (row t i) _ j)))
    (congrArg₂ _ (Finset.sum_congr rfl fun k _ => congrArg₂ _ (congrArg₂ _ (a1 k) (a1 k)) ((ld8_1 _ k j).trans (blk8 m c t (row t i) _ j)))
      (congrArg₂ _ (Finset.sum_congr rfl fun k _ => congrArg₂ _ (congrArg₂ _ (a2 k) (a2 k)) ((ld8_2 _ k j).trans (blk8 m c t (row t i) _ j)))
        (Finset.sum_congr rfl fun k _ => congrArg₂ _ (congrArg₂ _ (a3 k) (a3 k)) ((ld8_3 _ k j).trans (blk8 m c t (row t i) _ j))))))

theorem final (c : Dev nD) : (dats m 0 c).arrAt 9 cfg0.N = res m c := by
  refine (dats m 0 c).arrAt_eq_of_covers 9 (res m c) (by decide +kernel) fun t _ y => ?_
  idx_vars y
  have h1 := (idx t).2.2.2.2.2.2.2.2.2
  rw [after0_9]
  blk_simp
  have e : (win0_9.blk t).view.emb (ix2 y0 y1) = (ix2 (row t y0) y1 : S32768x1024.Idx) := by
    blk_ext [h1, row]
  rw [e]
  exact tile m c t y0 y1
end Cert.Kernel2Ideal.ValueProof
end
-- ==== Proof.MlpRef.lean ====
/- The output projection with its MLP, as the reference writes it: its result, row by row. -/
module

public import proofs.«01_k».proof.Proof.Gen.Reference2Ideal.Run
public import proofs.«01_k».proof.Proof.MlpSpec

@[expose] public section

set_option maxRecDepth 16384

noncomputable section

namespace Cert.Reference2Ideal.ValueProof
open Idealize.ShloMosaic.StableHlo Cert.Reference2Ideal Cert.Reference2Ideal.Gen Cert.Reference2Ideal.Value Idealize.ShloMosaic Idealize.ShloMosaic.TcCoe Idealize.SL.Sem Cert.Mlp

/-- The mixers' rows side by side. -/
def rCat (A1 : FVec Ideal S2x16384x512 .f32) (A2 A3 : FVec Ideal S2x16384x256 .bf16) (A4 : FVec Ideal S1024 .f32) : FVec Ideal S2x16384x1024 .f32 :=
  (concatenate S2x16384x1024 2 [⟨S2x16384x512, ((mulf (mulf A1 (broadcastInDim S2x16384x512 ![0, 1, 2] bcast_S2x16384x1_S2x16384x512_0_1_2 (Host.rsqrt (addf (Host.divf (broadcastInDim S2x16384x1 ![0, 1] bcast_S2x16384_S2x16384x1_0_1 (Host.reduceAdd (mulf A1 A1) (constant S_ .f32 0x00000000#32) reducesTo_S2x16384x512_S2x16384_d2 h_S_)) (broadcastInDim S2x16384x1 ![] bcast_S_S2x16384x1 (constant S_ .f32 0x44000000#32))) (broadcastInDim S2x16384x1 ![] bcast_S_S2x16384x1 (constant S_ .f32 0x358637BD#32)))))) (broadcastInDim S2x16384x512 ![0, 1, 2] bcast_S1x1x512_S2x16384x512_0_1_2 (broadcastInDim S1x1x512 ![2] bcast_S512_S1x1x512_2 (extractStridedSlice S512 ![0] A4 slices_S1024_S512_0)))) : (⟨S2x16384x512, .f32⟩ : BufTy).Contents (Elt Ideal))⟩, ⟨S2x16384x256, ((extf .f32 A2 bitsLt_bf16_f32) : (⟨S2x16384x256, .f32⟩ : BufTy).Contents (Elt Ideal))⟩, ⟨S2x16384x256, ((extf .f32 A3 bitsLt_bf16_f32) : (⟨S2x16384x256, .f32⟩ : BufTy).Contents (Elt Ideal))⟩] concatenates_S2x16384x512_S2x16384x256_S2x16384x256_S2x16384x1024_d2 : (⟨S2x16384x1024, .f32⟩ : BufTy).Contents (Elt Ideal))
/-- The residual after the projection. -/
def rX1 (A0 CAT : FVec Ideal S2x16384x1024 .f32) (A5 : FVec Ideal S1024x1024 .f32) : FVec Ideal S2x16384x1024 .f32 :=
  addf A0 (Host.dotGeneral dot_S2x16384x1024_S1024x1024_S2x16384x1024_2_0_01_1_n_n none CAT A5)
/-- Its norm. -/
def rHm (X1 : FVec Ideal S2x16384x1024 .f32) (A6 : FVec Ideal S1024 .f32) : FVec Ideal S2x16384x1024 .f32 :=
  mulf (mulf X1 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X1 X1) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 A6))
/-- The rectified hidden rows. -/
def rAct (HM : FVec Ideal S2x16384x1024 .f32) (A7 : FVec Ideal S1024x4096 .f32) : FVec Ideal S2x16384x4096 .f32 :=
  maximumf (Host.dotGeneral dot_S2x16384x1024_S1024x4096_S2x16384x4096_2_0_01_1_n_n none HM A7) (broadcastInDim S2x16384x4096 ![] bcast_S_S2x16384x4096 (constant S_ .f32 0x00000000#32))
/-- The result. -/
def rOut (X1 : FVec Ideal S2x16384x1024 .f32) (ACT : FVec Ideal S2x16384x4096 .f32) (A8 : FVec Ideal S4096x1024 .f32) : FVec Ideal S32768x1024 .f32 :=
  shapeCast _ (addf X1 (Host.dotGeneral dot_S2x16384x4096_S4096x1024_S2x16384x1024_2_0_01_1_n_n none (mulf ACT ACT) A8)) shapeCasts_S2x16384x1024_S32768x1024

theorem x1_at (A0 : FVec Ideal S2x16384x1024 .f32) (A1 : FVec Ideal S2x16384x512 .f32) (A2 A3 : FVec Ideal S2x16384x256 .bf16) (A4 : FVec Ideal S1024 .f32) (A5 : FVec Ideal S1024x1024 .f32)
    (b : Fin 2) (n : Fin 16384) (j : Fin 1024) : (rX1 A0 (rCat A1 A2 A3 A4) A5 (ix3 b n j) : EReal) =
      A0 (ix3 b n j) + (∑ k : Fin 512, norm (Ideal.ofBits .f32 1140850688#32) (fun x => A1 (ix3 b n x)) (fun x => A4 (ix1 ⟨x, by omega⟩)) k * A5 (ix2 ⟨k, by omega⟩ j))
        + (∑ k : Fin 256, A2 (ix3 b n k) * A5 (ix2 ⟨512 + k, by omega⟩ j)) + ∑ k : Fin 256, A3 (ix3 b n k) * A5 (ix2 ⟨768 + k, by omega⟩ j) := by
  have c0 : ∀ k : Fin 512, (rCat A1 A2 A3 A4 (ix3 b n ⟨k, by omega⟩) : EReal) = norm (Ideal.ofBits .f32 1140850688#32) (fun x => A1 (ix3 b n x)) (fun x => A4 (ix1 ⟨x, by omega⟩)) k := by
    intro k; pointwise [rCat]; rfl
  have c1 : ∀ k : Fin 256, (rCat A1 A2 A3 A4 (ix3 b n ⟨512 + k, by omega⟩) : EReal) = A2 (ix3 b n k) := by
    intro k; pointwise [rCat]
  have c2 : ∀ k : Fin 256, (rCat A1 A2 A3 A4 (ix3 b n ⟨768 + k, by omega⟩) : EReal) = A3 (ix3 b n k) := by
    intro k
    pointwise [rCat]
    rw [dif_neg (by omega), dif_neg (by omega)]
    exact congrArg _ (congrArg (ix3 b n) (Fin.ext (by show 768 + k.val - 512 - 256 = k.val; omega)))
  have h : (rX1 A0 (rCat A1 A2 A3 A4) A5 (ix3 b n j) : EReal) = A0 (ix3 b n j) + ∑ k : Fin 1024, rCat A1 A2 A3 A4 (ix3 b n k) * A5 (ix2 k j) := by
    pointwise [rX1]
  rw [h, sum_groups]
  simp only [c0, c1, c2, add_assoc]
theorem hm_at (X1 : FVec Ideal S2x16384x1024 .f32) (A6 : FVec Ideal S1024 .f32) (b : Fin 2) (n : Fin 16384) (j : Fin 1024) :
    (rHm X1 A6 (ix3 b n j) : EReal) = norm (Ideal.ofBits .f32 1149239296#32) (fun x => X1 (ix3 b n x)) (fun x => A6 (ix1 x)) j := by
  pointwise [rHm]
  rfl
theorem act_at (HM : FVec Ideal S2x16384x1024 .f32) (A7 : FVec Ideal S1024x4096 .f32) (b : Fin 2) (n : Fin 16384) (k : Fin 4096) :
    (rAct HM A7 (ix3 b n k) : EReal) = max (∑ l : Fin 1024, HM (ix3 b n l) * A7 (ix2 l k)) 0 := by
  pointwise [rAct]
theorem out_at (X1 : FVec Ideal S2x16384x1024 .f32) (ACT : FVec Ideal S2x16384x4096 .f32) (A8 : FVec Ideal S4096x1024 .f32) (n : Fin 32768) (j : Fin 1024) :
    (rOut X1 ACT A8 (ix2 n j) : EReal) = X1 (ix3 ⟨n / 16384, by omega⟩ ⟨n % 16384, by omega⟩ j)
      + ∑ k : Fin 4096, ACT (ix3 ⟨n / 16384, by omega⟩ ⟨n % 16384, by omega⟩ k) * ACT (ix3 ⟨n / 16384, by omega⟩ ⟨n % 16384, by omega⟩ k) * A8 (ix2 k j) := by
  pointwise [rOut]

variable (m : (ℓ : Loc nD τ sig) → Buf (Elt Ideal) ℓ)

/-- Token `n`'s arrays: token `n` of the 32768 is step `n mod 16384` of batch `n / 16384`. -/
def tok (c : Dev nD) (n : Fin 32768) : Tok where
  x j := (show FVec Ideal S2x16384x1024 .f32 from m ((c.tc : Thread nD τ).loc main_arg0)) (ix3 ⟨n / 16384, by omega⟩ ⟨n % 16384, by omega⟩ j)
  ya j := (show FVec Ideal S2x16384x512 .f32 from m ((c.tc : Thread nD τ).loc main_arg1)) (ix3 ⟨n / 16384, by omega⟩ ⟨n % 16384, by omega⟩ j)
  yl j := (show FVec Ideal S2x16384x256 .bf16 from m ((c.tc : Thread nD τ).loc main_arg2)) (ix3 ⟨n / 16384, by omega⟩ ⟨n % 16384, by omega⟩ j)
  yc j := (show FVec Ideal S2x16384x256 .bf16 from m ((c.tc : Thread nD τ).loc main_arg3)) (ix3 ⟨n / 16384, by omega⟩ ⟨n % 16384, by omega⟩ j)
  ga j := (show FVec Ideal S1024 .f32 from m ((c.tc : Thread nD τ).loc main_arg4)) (ix1 ⟨j, by omega⟩)
  wo k j := (show FVec Ideal S1024x1024 .f32 from m ((c.tc : Thread nD τ).loc main_arg5)) (ix2 k j)
  gm j := (show FVec Ideal S1024 .f32 from m ((c.tc : Thread nD τ).loc main_arg6)) (ix1 j)
  w1 k j := (show FVec Ideal S1024x4096 .f32 from m ((c.tc : Thread nD τ).loc main_arg7)) (ix2 k j)
  w2 k j := (show FVec Ideal S4096x1024 .f32 from m ((c.tc : Thread nD τ).loc main_arg8)) (ix2 k j)
/-- The result over the arguments. -/
def res (c : Dev nD) : FVec Ideal S32768x1024 .f32 := fun i => (tok m c (i 0)).out (i 1)

set_option maxRecDepth 65536 in
theorem result (c : Dev nD) : res_main_v37 m c = res m c := by
  have e : res_main_v37 m c =
      (let X1 := rX1 (m ((c.tc : Thread nD τ).loc main_arg0)) (rCat (m ((c.tc : Thread nD τ).loc main_arg1)) (m ((c.tc : Thread nD τ).loc main_arg2))
          (m ((c.tc : Thread nD τ).loc main_arg3)) (m ((c.tc : Thread nD τ).loc main_arg4))) (m ((c.tc : Thread nD τ).loc main_arg5))
       rOut X1 (rAct (rHm X1 (m ((c.tc : Thread nD τ).loc main_arg6))) (m ((c.tc : Thread nD τ).loc main_arg7))) (m ((c.tc : Thread nD τ).loc main_arg8))) := by
    unfold res_main_v37
    rfl
  rw [e]
  funext i
  idx_vars i
  refine (out_at _ _ _ _ _).trans ?_
  simp only [act_at, hm_at, x1_at]
  rfl
end Cert.Reference2Ideal.ValueProof
end
-- ==== Proof.InSpec.lean ====
/- The input projection, one token at a time, in plain mathematics over the extended reals. -/
module

public import proofs.«01_k».proof.Proof.MlpSpec

@[expose] public section

set_option maxRecDepth 16384

noncomputable section

namespace Cert.InProj
open Idealize.ShloMosaic Cert.Mlp

theorem coe_sum {N : ℕ} (f : Fin N → ℝ) : ((∑ k, f k : ℝ) : EReal) = ∑ k, (f k : EReal) :=
  map_sum (⟨⟨Real.toEReal, EReal.coe_zero⟩, EReal.coe_add⟩ : ℝ →+ EReal) f Finset.univ
/-- An extended real that is a real. -/
def Fin? (x : EReal) : Prop := ∃ r : ℝ, x = (r : EReal)
theorem Fin?.mul {x y : EReal} (hx : Fin? x) (hy : Fin? y) : Fin? (x * y) := by
  obtain ⟨a, rfl⟩ := hx
  obtain ⟨b, rfl⟩ := hy
  exact ⟨a * b, (EReal.coe_mul a b).symm⟩
theorem Fin?.sum {N : ℕ} {f : Fin N → EReal} (hf : ∀ k, Fin? (f k)) : Fin? (∑ k, f k) := by
  choose r hr using hf
  exact ⟨∑ k, r k, by rw [coe_sum]; exact Finset.sum_congr rfl fun k _ => hr k⟩

/-- The norm's small addend is a positive real. -/
theorem eps_pos : ∃ e : ℝ, 0 < e ∧ Ideal.ofBits .f32 897988541#32 = (e : EReal) := by
  refine ⟨_, ?_, show Ideal.ofBits .f32 897988541#32 = ((_ : ℝ) : EReal) from by simp [Ideal.ofBits, Ideal.ieee, -EReal.coe_mul]; rfl⟩
  positivity
theorem d1024 : Ideal.ofBits .f32 1149239296#32 = ((1024 : ℝ) : EReal) := by
  simp [Ideal.ofBits, Ideal.ieee, -EReal.coe_mul]; norm_num
theorem d64 : Ideal.ofBits .f32 0x42800000#32 = ((64 : ℝ) : EReal) := by
  simp [Ideal.ofBits, Ideal.ieee, -EReal.coe_mul]; norm_num

/-- A finite row's norm is finite. -/
theorem norm_fin (y g : Fin 1024 → EReal) (hy : ∀ k, Fin? (y k)) (hg : ∀ k, Fin? (g k)) (k : Fin 1024) :
    Fin? (norm (Ideal.ofBits .f32 1149239296#32) y g k) := by
  refine Fin?.mul (Fin?.mul (hy k) ?_) (hg k)
  choose r hr using hy
  obtain ⟨e, he, he'⟩ := eps_pos
  have h : (∑ x, y x * y x) = ((∑ x, r x * r x : ℝ) : EReal) := by
    rw [coe_sum]
    exact Finset.sum_congr rfl fun x _ => by rw [hr x, EReal.coe_mul]
  have hp : 0 < (∑ x, r x * r x) * (1 / 1024) + e := by
    have := Finset.sum_nonneg fun x (_ : x ∈ Finset.univ) => mul_self_nonneg (r x)
    positivity
  rw [h, d1024, Ideal.div_coe (by norm_num), he', ← EReal.coe_mul, ← EReal.coe_add, Ideal.rsqrt_coe, if_neg (not_lt.mpr hp.le), if_neg hp.ne']
  exact ⟨_, rfl⟩

/-- The mean over a head's 64 channels, taken as the contraction of a row of 256 with the block diagonal of 1/64, in two parts of which the second is nothing. -/
theorem head_mean (s : Fin 256 → EReal) (hs : ∀ k, Fin? (s k)) (b : Fin 256 → EReal) (c : Fin 256)
    (hb : ∀ k, b k = if k.val / 64 = c.val / 64 then ((1 / 64 : ℝ) : EReal) else 0) :
    (∑ k, s k * b k) + (∑ k, (s k - s k) * b k) = Ideal.div (∑ x : Fin 64, s ⟨64 * (c / 64) + x, by omega⟩) (Ideal.ofBits .f32 0x42800000#32) := by
  choose r hr using hs
  have h2 : (∑ k, (s k - s k) * b k) = 0 := Finset.sum_eq_zero fun k _ => by
    rw [hr k, ← EReal.coe_sub, sub_self, EReal.coe_zero, zero_mul]
  have h1 : (∑ k, s k * b k) = ((∑ k, r k * (if k.val / 64 = c.val / 64 then 1 / 64 else 0) : ℝ) : EReal) := by
    rw [coe_sum]
    refine Finset.sum_congr rfl fun k _ => ?_
    rw [hb k, hr k]
    split
    · rw [EReal.coe_mul]
    · rw [EReal.coe_mul, EReal.coe_zero]
  have h3 : (∑ x : Fin 64, s ⟨64 * (c / 64) + x, by omega⟩) = ((∑ x : Fin 64, r ⟨64 * (c / 64) + x, by omega⟩ : ℝ) : EReal) := by
    rw [coe_sum]
    exact Finset.sum_congr rfl fun x _ => hr _
  rw [h2, add_zero, h1, h3, d64, Ideal.div_coe (by norm_num), ← EReal.coe_mul]
  congr 1
  have e := Fin.sum_univ_tiles 4 64 rfl fun k : Fin 256 => r k * (if k.val / 64 = c.val / 64 then (1 / 64 : ℝ) else 0)
  rw [e, Finset.sum_eq_single (⟨c / 64, by omega⟩ : Fin 4), Finset.sum_mul]
  · refine Finset.sum_congr rfl fun x _ => ?_
    have hx : (c.val / 64 * 64 + x.val) / 64 = c.val / 64 := by omega
    simp only [hx, if_true]
    congr 2
    exact Fin.ext (by simp only; omega)
  · intro a _ ha
    refine Finset.sum_eq_zero fun x _ => ?_
    have hx : ¬ (a.val * 64 + x.val) / 64 = c.val / 64 := fun h => ha (Fin.ext (by simp only; omega))
    simp only [hx, if_false, mul_zero]
  · exact fun h => absurd (Finset.mem_univ _) h

/-- The layer's input, and the weights of the projection and of the heads' norms. -/
structure Args where
  x : Fin 32768 → Fin 1024 → EReal
  g : Fin 1024 → EReal
  w : Fin 1024 → Fin 2328 → EReal
  qn : Fin 64 → EReal
  kn : Fin 3 → Fin 64 → EReal

namespace Args
variable (P : Args)
/-- Token `n`'s normalised input. -/
def hn (n : Fin 32768) (k : Fin 1024) : EReal := norm (Ideal.ofBits .f32 1149239296#32) (P.x n) P.g k
/-- Token `n`'s projection. -/
def z (n : Fin 32768) (c : Fin 2328) : EReal := ∑ k, P.hn n k * P.w k c
/-- The reciprocal root mean square of the 64 channels from `b` on. -/
def inv (n : Fin 32768) (b : Fin 2265) : EReal :=
  Ideal.rsqrt (Ideal.div (∑ x : Fin 64, P.z n ⟨b + x, by omega⟩ * P.z n ⟨b + x, by omega⟩) (Ideal.ofBits .f32 0x42800000#32) + Ideal.ofBits .f32 897988541#32)
/-- The queries: each head normalised, and scaled. -/
def q (n : Fin 32768) (j : Fin 512) : EReal :=
  P.z n ⟨j, by omega⟩ * P.inv n ⟨64 * (j / 64), by omega⟩ * P.qn ⟨j % 64, by omega⟩ * Ideal.ofBits .f32 0x3E38AA3B#32
/-- The keys and values to be compressed: 16 tokens in a row. -/
def cmp (r : Fin 2048) (c : Fin 4096) : EReal := P.z ⟨16 * r + c / 256, by omega⟩ ⟨512 + c % 256, by omega⟩
/-- Step `s` of batch `b`. -/
def at_ (b : Fin 2) (s : Fin 16384) : Fin 32768 := ⟨16384 * b + s, by omega⟩
/-- The selected branch's keys, normalised, each followed by the one-hot of its block among 64. -/
def kslc (b h : Fin 2) (s : Fin 16384) (d : Fin 128) : EReal :=
  if hd : d.val < 64 then P.z (at_ b s) ⟨768 + 64 * h + d, by omega⟩ * P.inv (at_ b s) ⟨768 + 64 * h, by omega⟩ * P.kn 1 ⟨d, hd⟩
  else if d.val = 64 + s.val / 64 % 64 then 1 else 0
/-- The window branch's keys, normalised, each followed by 0. -/
def kwin (b h : Fin 2) (s : Fin 16384) (d : Fin 128) : EReal :=
  if hd : d.val < 64 then P.z (at_ b s) ⟨1024 + 64 * h + d, by omega⟩ * P.inv (at_ b s) ⟨1024 + 64 * h, by omega⟩ * P.kn 2 ⟨d, hd⟩ else 0
/-- The 64 channels from `o` on of a head's values, 128 tokens at a time, transposed, over a row of 1 and 15 of 0. -/
def vals (o : ℕ) (ho : o ≤ 2000) (b h : Fin 2) (a : Fin 128) (d : Fin 80) (l : Fin 128) : EReal :=
  if hd : d.val < 64 then P.z (at_ b ⟨128 * a + l, by omega⟩) ⟨o + 64 * h + d, by omega⟩ else if d.val = 64 then 1 else 0
/-- The recurrence's and the convolution's channels. -/
def lru (n : Fin 32768) (j : Fin 512) : EReal := P.z n ⟨1304 + j, by omega⟩
def cv (n : Fin 32768) (j : Fin 512) : EReal := P.z n ⟨1816 + j, by omega⟩
/-- The gates, one row each, and 8 rows of one half. -/
def gates (b : Fin 2) (i : Fin 32) (s : Fin 16384) : EReal :=
  if hi : i.val < 24 then Ideal.div 1 (1 + Ideal.exp (-P.z (at_ b s) ⟨1280 + i, by omega⟩)) else Ideal.ofBits .f32 0x3F000000#32

/-- The inputs and weights are finite. -/
def Finite : Prop := (∀ n k, Fin? (P.x n k)) ∧ (∀ k, Fin? (P.g k)) ∧ ∀ k c, Fin? (P.w k c)
theorem z_fin (h : P.Finite) (n : Fin 32768) (c : Fin 2328) : Fin? (P.z n c) :=
  Fin?.sum fun k => Fin?.mul (norm_fin _ _ (h.1 n) h.2.1 k) (h.2.2 k c)
end Args

/-- The logistic function at 0 is one half. -/
theorem half : Ideal.div 1 (1 + Ideal.exp (-(0 : EReal))) = Ideal.ofBits .f32 0x3F000000#32 := by
  have h : Ideal.ofBits .f32 0x3F000000#32 = ((1 / 2 : ℝ) : EReal) := by
    simp [Ideal.ofBits, Ideal.ieee, -EReal.coe_mul]; norm_num
  have e : Ideal.exp (-(0 : EReal)) = ((1 : ℝ) : EReal) := by
    rw [neg_zero]
    exact congrArg (fun r : ℝ => (r : EReal)) Real.exp_zero
  rw [h, e, ← EReal.coe_one, ← EReal.coe_add, Ideal.div_coe (by norm_num), ← EReal.coe_mul]
  norm_num
end Cert.InProj
end
-- ==== Proof.InPay.lean ====
/- The input projection's kernel: the stages of its body at coordinates. -/
module

public import proofs.«01_k».proof.Proof.Gen.Kernel3Ideal.Value
public import proofs.«01_k».proof.Proof.InSpec

@[expose] public section

set_option maxRecDepth 16384

noncomputable section

namespace Cert.Kernel3Ideal.ValueProof
open Idealize.ShloMosaic.StableHlo Cert.Kernel3Ideal Cert.Kernel3Ideal.Gen Cert.Kernel3Ideal.Value Idealize.ShloMosaic Idealize.ShloMosaic.TcCoe Idealize.SL.Sem Cert.Mlp

theorem pay2_at (x : Vec Ideal S512x1024 .f32) (g : Vec Ideal S1x1024 .f32) (i : Fin 512) (k : Fin 1024) :
    (k0_pay2 x g (ix2 i k) : EReal) = norm (Ideal.ofBits .f32 1149239296#32) (fun k => x (ix2 i k)) (fun k => g (ix2 0 k)) k := by
  pointwise [k0_pay2]
  rfl
theorem pay3_at (x : Vec Ideal S512x1024 .f32) (g : Vec Ideal S1x1024 .f32) (w : Vec Ideal S1024x512 .bf16) (i : Fin 512) (j : Fin 512) :
    (k0_pay3 x g w (ix2 i j) : EReal) = ∑ k : Fin 1024, k0_pay2 x g (ix2 i k) * w (ix2 k j) := by
  pointwise [k0_pay3]
/-- A column's head scale over a row of 256. -/
def scale (z : Fin 256 → EReal) (b : Fin 256 → EReal) : EReal :=
  Ideal.rsqrt ((∑ k, z k * z k * b k) + (∑ k, (z k * z k - z k * z k) * b k) + Ideal.ofBits .f32 897988541#32)
theorem pay9_lo (x : Vec Ideal S512x1024 .f32) (g : Vec Ideal S1x1024 .f32) (w : Vec Ideal S1024x512 .bf16) (bd : Vec Ideal S256x256 .bf16) (v : Vec Ideal S1x512 .f32) (i : Fin 512) (j : Fin 256) :
    (k0_pay9 (k0_pay3 x g w) (k0_pay4 x g w bd) (k0_pay5 bd) (k0_pay7 x g w) (k0_pay8 x g w) v (ix2 i ⟨j, by omega⟩) : EReal) =
      k0_pay3 x g w (ix2 i ⟨j, by omega⟩) * scale (fun k => k0_pay3 x g w (ix2 i ⟨k, by omega⟩)) (fun k => bd (ix2 k j)) * v (ix2 0 ⟨j, by omega⟩) := by
  pointwise [k0_pay9, k0_pay4]
  rfl
theorem pay9_hi (x : Vec Ideal S512x1024 .f32) (g : Vec Ideal S1x1024 .f32) (w : Vec Ideal S1024x512 .bf16) (bd : Vec Ideal S256x256 .bf16) (v : Vec Ideal S1x512 .f32) (i : Fin 512) (j : Fin 256) :
    (k0_pay9 (k0_pay3 x g w) (k0_pay4 x g w bd) (k0_pay5 bd) (k0_pay7 x g w) (k0_pay8 x g w) v (ix2 i ⟨256 + j, by omega⟩) : EReal) =
      k0_pay3 x g w (ix2 i ⟨256 + j, by omega⟩) * scale (fun k => k0_pay3 x g w (ix2 i ⟨256 + k, by omega⟩)) (fun k => bd (ix2 k j)) * v (ix2 0 ⟨256 + j, by omega⟩) := by
  pointwise [k0_pay9, k0_pay5, k0_pay6, k0_pay7, k0_pay8]
  rfl
theorem pay11_at (h : FVec Ideal S512x1024 .bf16) (w : Vec Ideal S1024x256 .bf16) (i : Fin 512) (j : Fin 128) :
    (k0_pay11 h w (ix3 0 i j) : EReal) = ∑ k : Fin 1024, h (ix2 i k) * w (ix2 k ⟨j, by omega⟩) := by
  pointwise [k0_pay11, k0_pay10]
theorem pay12_at (h : FVec Ideal S512x1024 .bf16) (w : Vec Ideal S1024x256 .bf16) (i : Fin 512) (j : Fin 128) :
    (k0_pay12 h w (ix3 0 i j) : EReal) = ∑ k : Fin 1024, h (ix2 i k) * w (ix2 k ⟨128 + j, by omega⟩) := by
  pointwise [k0_pay12, k0_pay10]
theorem pay45_at (h : FVec Ideal S512x1024 .bf16) (w : Vec Ideal S1024x256 .bf16) (bd : Vec Ideal S256x256 .bf16) (v : Vec Ideal S1x256 .f32) (i : Fin 512) (j : Fin 256) :
    (k0_pay45 h w bd v (ix2 i j) : EReal) =
      (∑ k : Fin 1024, h (ix2 i k) * w (ix2 k j)) * scale (fun l => ∑ k : Fin 1024, h (ix2 i k) * w (ix2 k l)) (fun k => bd (ix2 k j)) * v (ix2 0 j) := by
  pointwise [k0_pay45]
  rfl
theorem pay56_at (h : FVec Ideal S512x1024 .bf16) (w : Vec Ideal S1024x256 .bf16) (i : Fin 256) (j : Fin 512) :
    (k0_pay56 h w (ix2 i j) : EReal) = ∑ k : Fin 1024, h (ix2 j k) * w (ix2 k i) := by
  pointwise [k0_pay56]
theorem pay90_at (h : FVec Ideal S512x1024 .bf16) (w : Vec Ideal S1024x512 .bf16) (i : Fin 512) (j : Fin 512) :
    (k0_pay90 h w (ix2 i j) : EReal) = ∑ k : Fin 1024, h (ix2 i k) * w (ix2 k j) := by
  pointwise [k0_pay90]
theorem pay91_at (h : FVec Ideal S512x1024 .bf16) (w : Vec Ideal S1024x512 .bf16) (i : Fin 512) (j : Fin 512) :
    (k0_pay91 h w (ix2 i j) : EReal) = ∑ k : Fin 1024, h (ix2 i k) * w (ix2 k j) := by
  pointwise [k0_pay91]
theorem pay1_at (h : FVec Ideal S512x1024 .bf16) (w : Vec Ideal S1024x128 .bf16) (i : Fin 32) (j : Fin 512) :
    (k0_pay1 h w (ix3 0 i j) : EReal) = Ideal.div 1 (1 + Ideal.exp (-∑ k : Fin 1024, h (ix2 j k) * w (ix2 k ⟨i, by omega⟩))) := by
  pointwise [k0_pay1]
  rfl

/-! ## The constant lanes -/

theorem select_one (c : BitVec 1) (p : Prop) [Decidable p] (hc : c = if p then 1#1 else 0#1) (a b : EReal) : Scalar.select c a b = if p then a else b := by
  subst hc
  split <;> rfl
theorem pay57_at (i : Fin 16) (l : Fin 128) : (k0_pay57 (F := Ideal) (ix2 i l) : EReal) = if i.val = 0 then 1 else 0 := by
  pointwise [k0_pay57]
  exact select_one _ _ ((by decide +kernel : ∀ i : Fin 16, IntOp.cmpi CmpIPredicate.eq (BitVec.ofNat 32 ↑i) 0#32 = if i.val = 0 then 1#1 else 0#1) i) _ _
theorem lane_lt : ∀ d : Fin 128, IntOp.cmpi CmpIPredicate.slt (BitVec.ofNat 32 ↑d) 64#32 = if d.val < 64 then 1#1 else 0#1 := by decide +kernel
theorem lane_eq : ∀ (d : Fin 128) (n : Fin 64), IntOp.cmpi CmpIPredicate.eq (BitVec.ofNat 32 ↑d) (IntOp.addi (64#32) (IntOp.andi (BitVec.ofNat 32 n) 63#32)) = if d.val = 64 + n.val then 1#1 else 0#1 := by
  decide +kernel
theorem tile_start : ∀ t : Fin 64, Scalar.muli (Scalar.select
            (Scalar.andi
              (Scalar.xori
                (Scalar.cmpi CmpIPredicate.slt
                  (Scalar.remsi (BitVec.ofNat 32 ↑t)
                    (Scalar.select (Scalar.cmpi CmpIPredicate.eq 32#32 0#32) 1#32 32#32))
                  0#32)
                (Scalar.cmpi CmpIPredicate.slt (Scalar.select (Scalar.cmpi CmpIPredicate.eq 32#32 0#32) 1#32 32#32)
                  0#32))
              (Scalar.cmpi CmpIPredicate.ne
                (Scalar.remsi (BitVec.ofNat 32 ↑t) (Scalar.select (Scalar.cmpi CmpIPredicate.eq 32#32 0#32) 1#32 32#32))
                0#32))
            (Scalar.addi
              (Scalar.remsi (BitVec.ofNat 32 ↑t) (Scalar.select (Scalar.cmpi CmpIPredicate.eq 32#32 0#32) 1#32 32#32))
              (Scalar.select (Scalar.cmpi CmpIPredicate.eq 32#32 0#32) 1#32 32#32))
            (Scalar.remsi (BitVec.ofNat 32 ↑t) (Scalar.select (Scalar.cmpi CmpIPredicate.eq 32#32 0#32) 1#32 32#32)))
          512#32 = BitVec.ofNat 32 (512 * (t % 32)) := by decide +kernel
theorem block_of : ∀ (t : Fin 32) (i : Fin 512), IntOp.shrui ArithUnit.vector (IntOp.addi (BitVec.ofNat 32 (512 * t)) (BitVec.ofNat 32 i)) 6#32 = BitVec.ofNat 32 ((512 * t + i) / 64) := by
  decide +kernel
theorem block_mod : ∀ n : Fin 256, IntOp.andi (BitVec.ofNat 32 n) 63#32 = IntOp.andi (BitVec.ofNat 32 (n % 64)) 63#32 := by
  decide +kernel
theorem pay46_at (t : Fin 64) (i : Fin 512) (d : Fin 128) : k0_pay46 (BitVec.ofNat 32 t) (ix2 i d) = BitVec.ofNat 32 ((512 * (t % 32) + i) / 64) := by
  pointwise [k0_pay46]
  rw [tile_start]
  exact block_of ⟨t % 32, by omega⟩ i
/-- The lanes after the keys: one at the block's. -/
theorem lane_block (t : Fin 64) (i : Fin 512) (d : Fin 128) :
    (Scalar.select (IntOp.cmpi CmpIPredicate.eq (BitVec.ofNat 32 ↑d) (IntOp.addi (64#32) (IntOp.andi (k0_pay46 (BitVec.ofNat 32 t) (ix2 i d)) 63#32))) (1 : EReal) 0) =
      if d.val = 64 + (512 * (t % 32) + i) / 64 % 64 then 1 else 0 := by
  refine select_one _ _ ?_ _ _
  rw [pay46_at, block_mod ⟨(512 * (t % 32) + i) / 64, by omega⟩]
  exact lane_eq d ⟨(512 * (t % 32) + i) / 64 % 64, by omega⟩
theorem pay51_at (z : FVec Ideal S512x256 .f32) (t : Fin 64) (i : Fin 512) (d : Fin 128) :
    (k0_pay51 z (iota Kind.tc S512x128 32 [1] iota_S512x128_d1_w32) (k0_pay46 (BitVec.ofNat 32 t)) (ix4 0 0 i d) : EReal) =
      if d.val < 64 then z (ix2 i ⟨d, by omega⟩) else if d.val = 64 + (512 * (t % 32) + i) / 64 % 64 then 1 else 0 := by
  pointwise [k0_pay51, k0_pay48, k0_pay49, k0_pay47]
  rw [lane_block]
  exact select_one _ _ (lane_lt d) _ _
theorem pay52_at (z : FVec Ideal S512x256 .f32) (t : Fin 64) (i : Fin 512) (d : Fin 128) :
    (k0_pay52 z (iota Kind.tc S512x128 32 [1] iota_S512x128_d1_w32) (k0_pay46 (BitVec.ofNat 32 t)) (ix4 0 0 i d) : EReal) =
      if d.val < 64 then z (ix2 i ⟨(d + 128 - 64) % 128, by omega⟩) else if d.val = 64 + (512 * (t % 32) + i) / 64 % 64 then 1 else 0 := by
  pointwise [k0_pay52, k0_pay48, k0_pay49, k0_pay47]
  rw [lane_block]
  exact select_one _ _ (lane_lt d) _ _
theorem pay53_at (z : FVec Ideal S512x256 .f32) (i : Fin 512) (d : Fin 128) :
    (k0_pay53 z (iota Kind.tc S512x128 32 [1] iota_S512x128_d1_w32) (ix4 0 0 i d) : EReal) = if d.val < 64 then z (ix2 i ⟨128 + d, by omega⟩) else 0 := by
  pointwise [k0_pay53, k0_pay48, k0_pay50]
  exact select_one _ _ (lane_lt d) _ _
theorem pay54_at (z : FVec Ideal S512x256 .f32) (i : Fin 512) (d : Fin 128) :
    (k0_pay55 (k0_pay54 z (iota Kind.tc S512x128 32 [1] iota_S512x128_d1_w32)) (ix4 0 0 i d) : EReal) =
      if d.val < 64 then z (ix2 i ⟨128 + (d + 128 - 64) % 128, by omega⟩) else 0 := by
  pointwise [k0_pay54, k0_pay55, k0_pay48, k0_pay50]
  exact select_one _ _ (lane_lt d) _ _
end Cert.Kernel3Ideal.ValueProof
end
-- ==== Proof.InBlocks.lean ====
/- The input projection's kernel: the blocks its grid points read, over the arguments. -/
module

public import proofs.«01_k».proof.Proof.InPay

@[expose] public section

set_option maxRecDepth 16384

noncomputable section

namespace Cert.Kernel3Ideal.ValueProof
open Idealize.ShloMosaic.StableHlo Cert.Kernel3Ideal Cert.Kernel3Ideal.Gen Cert.Kernel3Ideal.Value Idealize.ShloMosaic Idealize.ShloMosaic.TcCoe Idealize.SL.Sem Cert.Mlp Cert.InProj

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0]
    ∧ win0_8.index t = ![t.val / 32, 0, t.val % 32, 0] ∧ win0_9.index t = ![t.val / 32, 0, t.val % 32, 0]
    ∧ win0_10.index t = ![t.val / 32, 0, t.val % 32, 0, 0] ∧ win0_11.index t = ![t.val / 32, 0, t.val % 32, 0, 0]
    ∧ win0_12.index t = ![t.val, 0] ∧ win0_13.index t = ![t.val, 0] ∧ win0_14.index t = ![t.val / 32, 0, t.val % 32] :=
  (by decide +kernel : ∀ t : Fin grid0.N, _)
theorem t_lt (t : Fin cfg0.N) : t.val < 64 := (by decide +kernel : ∀ t : Fin grid0.N, t.val < 64) t
/-- The token of row `i` of a grid point's tile. -/
def row (t : Fin cfg0.N) (i : Fin 512) : Fin 32768 := ⟨512 * t.val + i, by have := t_lt t; omega⟩

/-- The arguments: token `n` of the 32768 is step `n mod 16384` of batch `n / 16384`. -/
def args (c : Dev nD) : Args where
  x n j := (show FVec Ideal S2x16384x1024 .f32 from m ((c : Thread nD τ).loc main_arg0)) (ix3 ⟨n / 16384, by omega⟩ ⟨n % 16384, by omega⟩ j)
  g j := (show FVec Ideal S1024 .f32 from m ((c : Thread nD τ).loc main_arg1)) (ix1 j)
  w k j := (show FVec Ideal S1024x2328 .f32 from m ((c : Thread nD τ).loc main_arg2)) (ix2 k j)
  qn j := (show FVec Ideal S64 .f32 from m ((c : Thread nD τ).loc main_arg3)) (ix1 j)
  kn b j := (show FVec Ideal S3x64 .f32 from m ((c : Thread nD τ).loc main_arg4)) (ix2 b j)

/-! ## The arrays the call is given -/

theorem V_18 (c : Dev nD) (n : Fin 32768) (j : Fin 1024) : ((show FVec Ideal S32768x1024 .f32 from V m c main_v18) (ix2 n j) : EReal) = (args m c).x n j := by
  unfold V
  simp only [List.flatten_cons, List.flatten_nil, List.append_nil, List.cons_append, List.nil_append]
  after_results
  pointwise [args]
theorem V_19 (c : Dev nD) (j : Fin 1024) : ((show FVec Ideal S1x1024 .f32 from V m c main_v19) (ix2 0 j) : EReal) = (args m c).g j := by
  unfold V
  simp only [List.flatten_cons, List.flatten_nil, List.append_nil, List.cons_append, List.nil_append]
  after_results
  pointwise [args]
theorem V_5 (c : Dev nD) (j : Fin 512) : ((show FVec Ideal S1x512 .f32 from V m c main_v5) (ix2 0 j) : EReal) = (args m c).qn ⟨j % 64, by omega⟩ * Ideal.ofBits .f32 0x3E38AA3B#32 := by
  unfold V
  simp only [List.flatten_cons, List.flatten_nil, List.append_nil, List.cons_append, List.nil_append]
  after_results
  pointwise [args]
theorem V_17 (c : Dev nD) (j : Fin 256) : ((show FVec Ideal S1x256 .f32 from V m c main_v17) (ix2 0 j) : EReal) = if j.val < 128 then (args m c).kn 1 ⟨j % 64, by omega⟩ else (args m c).kn 2 ⟨j % 64, by omega⟩ := by
  unfold V
  simp only [List.flatten_cons, List.flatten_nil, List.append_nil, List.cons_append, List.nil_append]
  after_results
  pointwise [args]
  split_ifs <;> first
    | rfl
    | exact congrArg (fun q => (show FVec Ideal S3x64 .f32 from m ((c : Thread nD τ).loc main_arg4)) (ix2 2 q)) (Fin.ext (show (j.val - 128) % 64 = j.val % 64 by omega))
theorem quot : ∀ k : Fin 256, IntOp.divsi ArithUnit.host (BitVec.ofNat 32 ↑k) 64#32 = BitVec.ofNat 32 (k / 64) := by decide +kernel
theorem same : ∀ a b : Fin 4, IntOp.cmpi CmpIPredicate.eq (BitVec.ofNat 32 a) (BitVec.ofNat 32 b) = if a.val = b.val then 1#1 else 0#1 := by decide +kernel
theorem V_43 (c : Dev nD) (k : Fin 256) (j : Fin 256) : ((show FVec Ideal S256x256 .bf16 from V m c main_v43) (ix2 k j) : EReal) = if k.val / 64 = j.val / 64 then ((1 / 64 : ℝ) : EReal) else 0 := by
  unfold V
  simp only [List.flatten_cons, List.flatten_nil, List.append_nil, List.cons_append, List.nil_append]
  after_results
  pointwise []
  rw [quot k, quot j, same ⟨k / 64, by omega⟩ ⟨j / 64, by omega⟩, show Ideal.ofBits .f32 1115684864#32 = ((64 : ℝ) : EReal) from d64, Ideal.div_coe (by norm_num)]
  simp only
  split
  · exact (congrArg (fun q : EReal => q * ((1 / 64 : ℝ) : EReal)) (show FloatOps.uitofp (F := Ideal) FTy.f32 1#1 = (1 : EReal) from by show (((1#1 : BitVec 1).toNat : ℝ) : EReal) = 1; simp)).trans (one_mul _)
  · exact (congrArg (fun q : EReal => q * ((1 / 64 : ℝ) : EReal)) (show FloatOps.uitofp (F := Ideal) FTy.f32 0#1 = (0 : EReal) from by show (((0#1 : BitVec 1).toNat : ℝ) : EReal) = 0; simp)).trans (zero_mul _)
/-- The weights' column that stands at column `c`. -/
def col (c : Fin 2328) : Fin 2328 :=
  if h : c.val < 896 then c else if h1 : c.val < 1024 then ⟨c + 128, by omega⟩ else if h2 : c.val < 1152 then ⟨c - 128, by omega⟩
  else if h3 : c.val < 1280 then c else if h4 : c.val < 2304 then ⟨c + 24, by omega⟩ else ⟨c - 1024, by omega⟩
/-- The weights with their columns in the call's order, then 104 columns of 0. -/
def perm (W : FVec Ideal S1024x2328 .f32) : FVec Ideal S1024x2432 .bf16 := truncf .bf16 (show FVec Ideal S1024x2432 .f32 from (concatenate S1024x2432 1 [⟨S1024x512, (extractStridedSlice S1024x512 ![0, 0] W slices_S1024x2328_S1024x512_0_0)⟩, ⟨S1024x128, (extractStridedSlice S1024x128 ![0, 512] W slices_S1024x2328_S1024x128_0_512)⟩, ⟨S1024x128, (extractStridedSlice S1024x128 ![0, 640] W slices_S1024x2328_S1024x128_0_640)⟩, ⟨S1024x128, (extractStridedSlice S1024x128 ![0, 768] W slices_S1024x2328_S1024x128_0_768)⟩, ⟨S1024x128, (extractStridedSlice S1024x128 ![0, 1024] W slices_S1024x2328_S1024x128_0_1024)⟩, ⟨S1024x128, (extractStridedSlice S1024x128 ![0, 896] W slices_S1024x2328_S1024x128_0_896)⟩, ⟨S1024x128, (extractStridedSlice S1024x128 ![0, 1152] W slices_S1024x2328_S1024x128_0_1152)⟩, ⟨S1024x1024, (extractStridedSlice S1024x1024 ![0, 1304] W slices_S1024x2328_S1024x1024_0_1304)⟩, ⟨S1024x128, (pad S1024x128 ![0, 0] ![0, 104] ![0, 0] (extractStridedSlice S1024x24 ![0, 1280] W slices_S1024x2328_S1024x24_0_1280) (show FVec Ideal S_ .f32 from sitofp .f32 (constantI S_ 32 0#32)) pads_S1024x24_S1024x128_000_01040 h_S_)⟩] concatenates_S1024x512_S1024x128_S1024x128_S1024x128_S1024x128_S1024x128_S1024x128_S1024x1024_S1024x128_S1024x2432_d1 : (⟨S1024x2432, .f32⟩ : BufTy).Contents (Elt Ideal))) bitsLt_bf16_f32
theorem perm_at (W : FVec Ideal S1024x2328 .f32) (k : Fin 1024) (j : Fin 2328) : (perm W (ix2 k ⟨j, by omega⟩) : EReal) = W (ix2 k (col j)) := by
  unfold perm
  pointwise []
  have e : ∀ q q' : Fin 2328, q.val = q'.val → W (ix2 k q) = W (ix2 k q') := fun q q' h => congrArg (fun q => W (ix2 k q)) (Fin.ext h)
  by_cases h512 : j.val < 512
  · have hc : col j = j := (dif_pos (by omega))
    refine (dif_pos (by omega)).trans ?_
    exact e _ _ ((by first | rfl | omega | (simp only; omega) : _ = _).trans (congrArg Fin.val hc.symm))
  by_cases h640 : j.val < 640
  · have hc : col j = j := (dif_pos (by omega))
    refine (dif_neg (by omega)).trans ?_
    refine (dif_pos (by omega)).trans ?_
    exact e _ _ ((by first | rfl | omega | (simp only; omega) : _ = _).trans (congrArg Fin.val hc.symm))
  by_cases h768 : j.val < 768
  · have hc : col j = j := (dif_pos (by omega))
    refine (dif_neg (by omega)).trans ?_
    refine (dif_neg (by omega)).trans ?_
    refine (dif_pos (by omega)).trans ?_
    exact e _ _ ((by first | rfl | omega | (simp only; omega) : _ = _).trans (congrArg Fin.val hc.symm))
  by_cases h896 : j.val < 896
  · have hc : col j = j := (dif_pos (by omega))
    refine (dif_neg (by omega)).trans ?_
    refine (dif_neg (by omega)).trans ?_
    refine (dif_neg (by omega)).trans ?_
    refine (dif_pos (by omega)).trans ?_
    exact e _ _ ((by first | rfl | omega | (simp only; omega) : _ = _).trans (congrArg Fin.val hc.symm))
  by_cases h1024 : j.val < 1024
  · have hc : col j = ⟨j + 128, by omega⟩ := ((dif_neg (by omega)).trans (dif_pos (by omega)))
    refine (dif_neg (by omega)).trans ?_
    refine (dif_neg (by omega)).trans ?_
    refine (dif_neg (by omega)).trans ?_
    refine (dif_neg (by omega)).trans ?_
    refine (dif_pos (by omega)).trans ?_
    exact e _ _ ((by first | rfl | omega | (simp only; omega) : _ = _).trans (congrArg Fin.val hc.symm))
  by_cases h1152 : j.val < 1152
  · have hc : col j = ⟨j - 128, by omega⟩ := ((dif_neg (by omega)).trans ((dif_neg (by omega)).trans (dif_pos (by omega))))
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact e _ _ ((by first | rfl | omega | (simp only; omega) : _ = _).trans (congrArg Fin.val hc.symm))
  by_cases h1280 : j.val < 1280
  · have hc : col j = j := ((dif_neg (by omega)).trans ((dif_neg (by omega)).trans ((dif_neg (by omega)).trans (dif_pos (by omega)))))
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact e _ _ ((by first | rfl | omega | (simp only; omega) : _ = _).trans (congrArg Fin.val hc.symm))
  by_cases h2304 : j.val < 2304
  · have hc : col j = ⟨j + 24, by omega⟩ := ((dif_neg (by omega)).trans ((dif_neg (by omega)).trans ((dif_neg (by omega)).trans ((dif_neg (by omega)).trans (dif_pos (by omega))))))
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact e _ _ ((by first | rfl | omega | (simp only; omega) : _ = _).trans (congrArg Fin.val hc.symm))
  have hc : col j = ⟨j - 1024, by omega⟩ := ((dif_neg (by omega)).trans ((dif_neg (by omega)).trans ((dif_neg (by omega)).trans ((dif_neg (by omega)).trans ((dif_neg (by omega)).trans rfl)))))
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact e _ _ ((by first | rfl | omega | (simp only; omega) : _ = _).trans (congrArg Fin.val hc.symm))
theorem perm_pad (W : FVec Ideal S1024x2328 .f32) (k : Fin 1024) (j : Fin 104) : (perm W (ix2 k ⟨2328 + j, by omega⟩) : EReal) = 0 := by
  unfold perm
  pointwise []
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  show (((0#32 : BitVec 32).toInt : ℝ) : EReal) = 0
  simp
theorem V_31 (c : Dev nD) : (show FVec Ideal S1024x2432 .bf16 from V m c main_v31) = perm (m ((c : Thread nD τ).loc main_arg2)) := by
  unfold V
  simp only [List.flatten_cons, List.flatten_nil, List.append_nil, List.cons_append, List.nil_append]
  after_results
  rfl

/-! ## Their blocks -/

theorem blk0 (c : Dev nD) (t : Fin cfg0.N) (i : Fin 512) (j : Fin 1024) :
    ((show FVec Ideal S512x1024 .f32 from iblk m c 0 t) (ix2 i j) : EReal) = (args m c).x (row t i) j := by
  have := t_lt t
  refine Eq.trans ?_ (V_18 m c (row t i) j)
  blk_point [iblk, row, idx t]
theorem blk1 (c : Dev nD) (t : Fin cfg0.N) (j : Fin 1024) :
    ((show FVec Ideal S1x1024 .f32 from iblk m c 1 t) (ix2 0 j) : EReal) = (args m c).g j := by
  refine Eq.trans ?_ (V_19 m c j)
  blk_point [iblk, idx t]
theorem blk2 (c : Dev nD) (t : Fin cfg0.N) (k : Fin 1024) (j : Fin 2432) :
    ((show FVec Ideal S1024x2432 .bf16 from iblk m c 2 t) (ix2 k j) : EReal) = perm (m ((c : Thread nD τ).loc main_arg2)) (ix2 k j) := by
  refine Eq.trans ?_ (congrFun (V_31 m c) (ix2 k j))
  blk_point [iblk, idx t]
theorem blk3 (c : Dev nD) (t : Fin cfg0.N) (k : Fin 256) (j : Fin 256) :
    ((show FVec Ideal S256x256 .bf16 from iblk m c 3 t) (ix2 k j) : EReal) = if k.val / 64 = j.val / 64 then ((1 / 64 : ℝ) : EReal) else 0 := by
  refine Eq.trans ?_ (V_43 m c k j)
  blk_point [iblk, idx t]
theorem blk4 (c : Dev nD) (t : Fin cfg0.N) (j : Fin 512) :
    ((show FVec Ideal S1x512 .f32 from iblk m c 4 t) (ix2 0 j) : EReal) = (args m c).qn ⟨j % 64, by omega⟩ * Ideal.ofBits .f32 0x3E38AA3B#32 := by
  refine Eq.trans ?_ (V_5 m c j)
  blk_point [iblk, idx t]
theorem blk5 (c : Dev nD) (t : Fin cfg0.N) (j : Fin 256) :
    ((show FVec Ideal S1x256 .f32 from iblk m c 5 t) (ix2 0 j) : EReal) = if j.val < 128 then (args m c).kn 1 ⟨j % 64, by omega⟩ else (args m c).kn 2 ⟨j % 64, by omega⟩ := by
  refine Eq.trans ?_ (V_17 m c j)
  blk_point [iblk, idx t]
end Cert.Kernel3Ideal.ValueProof
end
-- ==== Proof.InKernel.lean ====
/- The input projection's kernel: the tiles its grid points leave, over the arguments. -/
module

public import proofs.«01_k».proof.Proof.InBlocks

@[expose] public section

set_option maxRecDepth 16384

noncomputable section

namespace Cert.Kernel3Ideal.ValueProof
open Idealize.ShloMosaic.StableHlo Cert.Kernel3Ideal Cert.Kernel3Ideal.Gen Cert.Kernel3Ideal.Value Idealize.ShloMosaic Idealize.ShloMosaic.TcCoe Idealize.SL.Sem Cert.Mlp Cert.InProj

/-! ## A tile's products with the permuted weights -/

/-- Row `i` of a tile times column `j` of the permuted weights. -/
def dot (h : FVec Ideal S512x1024 .bf16) (x : Vec Ideal S1024x2432 .bf16) (i : Fin 512) (j : Fin 2432) : EReal := ∑ k : Fin 1024, h (ix2 i k) * x (ix2 k j)
theorem dot_0 (h : FVec Ideal S512x1024 .bf16) (x : Vec Ideal S1024x2432 .bf16) (i : Fin 512) (j : Fin 512) :
    (∑ k : Fin 1024, h (ix2 i k) * View.ld x (Rect.unit ![0, 0] ![1024, 512] inb_S1024x2432_S1024x512_0_0) (ix2 k j)) = dot h x i ⟨j, by omega⟩ := by
  pointwise [dot]
theorem dot_512 (h : FVec Ideal S512x1024 .bf16) (x : Vec Ideal S1024x2432 .bf16) (i : Fin 512) (j : Fin 256) :
    (∑ k : Fin 1024, h (ix2 i k) * View.ld x (Rect.unit ![0, 512] ![1024, 256] inb_S1024x2432_S1024x256_0_512) (ix2 k j)) = dot h x i ⟨512 + j, by omega⟩ := by
  pointwise [dot]
theorem dot_768 (h : FVec Ideal S512x1024 .bf16) (x : Vec Ideal S1024x2432 .bf16) (i : Fin 512) (j : Fin 256) :
    (∑ k : Fin 1024, h (ix2 i k) * View.ld x (Rect.unit ![0, 768] ![1024, 256] inb_S1024x2432_S1024x256_0_768) (ix2 k j)) = dot h x i ⟨768 + j, by omega⟩ := by
  pointwise [dot]
theorem dot_1024 (h : FVec Ideal S512x1024 .bf16) (x : Vec Ideal S1024x2432 .bf16) (i : Fin 512) (j : Fin 256) :
    (∑ k : Fin 1024, h (ix2 i k) * View.ld x (Rect.unit ![0, 1024] ![1024, 256] inb_S1024x2432_S1024x256_0_1024) (ix2 k j)) = dot h x i ⟨1024 + j, by omega⟩ := by
  pointwise [dot]
theorem dot_1280 (h : FVec Ideal S512x1024 .bf16) (x : Vec Ideal S1024x2432 .bf16) (i : Fin 512) (j : Fin 512) :
    (∑ k : Fin 1024, h (ix2 i k) * View.ld x (Rect.unit ![0, 1280] ![1024, 512] inb_S1024x2432_S1024x512_0_1280) (ix2 k j)) = dot h x i ⟨1280 + j, by omega⟩ := by
  pointwise [dot]
theorem dot_1792 (h : FVec Ideal S512x1024 .bf16) (x : Vec Ideal S1024x2432 .bf16) (i : Fin 512) (j : Fin 512) :
    (∑ k : Fin 1024, h (ix2 i k) * View.ld x (Rect.unit ![0, 1792] ![1024, 512] inb_S1024x2432_S1024x512_0_1792) (ix2 k j)) = dot h x i ⟨1792 + j, by omega⟩ := by
  pointwise [dot]
theorem dot_2304 (h : FVec Ideal S512x1024 .bf16) (x : Vec Ideal S1024x2432 .bf16) (i : Fin 512) (j : Fin 128) :
    (∑ k : Fin 1024, h (ix2 i k) * View.ld x (Rect.unit ![0, 2304] ![1024, 128] inb_S1024x2432_S1024x128_0_2304) (ix2 k j)) = dot h x i ⟨2304 + j, by omega⟩ := by
  pointwise [dot]

/-- A row of 256's head scale is the reciprocal root mean square of the column's head. -/
theorem scale_eq (z b : Fin 256 → EReal) (hz : ∀ k, Fin? (z k)) (c : Fin 256) (hb : ∀ k, b k = if k.val / 64 = c.val / 64 then ((1 / 64 : ℝ) : EReal) else 0) :
    scale z b = Ideal.rsqrt (Ideal.div (∑ x : Fin 64, z ⟨64 * (c / 64) + x, by omega⟩ * z ⟨64 * (c / 64) + x, by omega⟩) (Ideal.ofBits .f32 0x42800000#32) + Ideal.ofBits .f32 897988541#32) :=
  congrArg (fun s => Ideal.rsqrt (s + Ideal.ofBits .f32 897988541#32)) (head_mean (fun k => z k * z k) (fun k => (hz k).mul (hz k)) b c hb)

variable (m : (ℓ : Loc nD τ sig) → Buf (Elt Ideal) ℓ)

/-- Grid point `t`'s products. -/
def zt (c : Dev nD) (t : Fin cfg0.N) (i : Fin 512) (j : Fin 2432) : EReal := dot (k0_pay2 (iblk m c 0 t) (iblk m c 1 t)) (iblk m c 2 t) i j
theorem hid_at (c : Dev nD) (t : Fin cfg0.N) (i : Fin 512) (k : Fin 1024) : (k0_pay2 (iblk m c 0 t) (iblk m c 1 t) (ix2 i k) : EReal) = (args m c).hn (row t i) k :=
  (pay2_at _ _ i k).trans (congrArg₂ (fun a b => norm _ a b k) (funext fun x => blk0 m c t i x) (funext fun x => blk1 m c t x))
theorem zt_at (c : Dev nD) (t : Fin cfg0.N) (i : Fin 512) (j : Fin 2328) : zt m c t i ⟨j, by omega⟩ = (args m c).z (row t i) (col j) := by
  unfold zt dot Args.z
  exact Finset.sum_congr rfl fun k _ => congrArg₂ _ (hid_at m c t i k) ((blk2 m c t k _).trans (perm_at _ k j))
theorem zt_pad (c : Dev nD) (t : Fin cfg0.N) (i : Fin 512) (j : Fin 104) : zt m c t i ⟨2328 + j, by omega⟩ = 0 := by
  unfold zt dot
  exact Finset.sum_eq_zero fun k _ => (congrArg _ ((blk2 m c t k _).trans (perm_pad _ k j))).trans (mul_zero _)
theorem col_val (j : Fin 2328) : (col j).val = if j.val < 896 then j.val else if j.val < 1024 then j.val + 128 else if j.val < 1152 then j.val - 128 else if j.val < 1280 then j.val else if j.val < 2304 then j.val + 24 else j.val - 1024 := by
  unfold col
  split_ifs <;> rfl
/-- A product's column among the weights' own. -/
theorem zt_of (c : Dev nD) (t : Fin cfg0.N) (i : Fin 512) (j : Fin 2432) (n : Fin 2328) (hj : j.val < 2328)
    (hn : n.val = if j.val < 896 then j.val else if j.val < 1024 then j.val + 128 else if j.val < 1152 then j.val - 128 else if j.val < 1280 then j.val else if j.val < 2304 then j.val + 24 else j.val - 1024) :
    zt m c t i j = (args m c).z (row t i) n :=
  (zt_at m c t i ⟨j, hj⟩).trans (congrArg _ (Fin.ext ((col_val _).trans hn.symm)))
theorem zt_fin (c : Dev nD) (hf : (args m c).Finite) (t : Fin cfg0.N) (i : Fin 512) (j : Fin 2328) : Fin? (zt m c t i ⟨j, by omega⟩) := by
  rw [zt_at]
  exact (args m c).z_fin hf _ _

/-! ## The tiles -/

theorem tile_lru (c : Dev nD) (t : Fin cfg0.N) (i : Fin 512) (j : Fin 512) : ((outsAt0 m c t).2.2.2.2.2.2.1 (ix2 i j) : EReal) = (args m c).lru (row t i) j := by
  unfold Gen.outsAt0
  frame_out
  exact (pay90_at _ _ i j).trans ((dot_1280 _ _ i j).trans (zt_of m c t i _ _ (by simp only; omega) (by simp only; split_ifs <;> omega)))
theorem tile_cv (c : Dev nD) (t : Fin cfg0.N) (i : Fin 512) (j : Fin 512) : ((outsAt0 m c t).2.2.2.2.2.2.2.1 (ix2 i j) : EReal) = (args m c).cv (row t i) j := by
  unfold Gen.outsAt0
  frame_out
  exact (pay91_at _ _ i j).trans ((dot_1792 _ _ i j).trans (zt_of m c t i _ _ (by simp only; omega) (by simp only; split_ifs <;> omega)))
/-- A tile's tokens lie in one batch. -/
theorem row_eq (t : Fin cfg0.N) (i : Fin 512) : row t i = Args.at_ ⟨t.val / 32, by have := t_lt t; omega⟩ ⟨512 * (t.val % 32) + i, by omega⟩ :=
  Fin.ext (by show 512 * t.val + i.val = 16384 * (t.val / 32) + (512 * (t.val % 32) + i.val); omega)
theorem tile_gates (c : Dev nD) (t : Fin cfg0.N) (i : Fin 32) (j : Fin 512) :
    ((outsAt0 m c t).2.2.2.2.2.2.2.2 (ix3 0 i j) : EReal) = (args m c).gates ⟨t.val / 32, by have := t_lt t; omega⟩ i ⟨512 * (t.val % 32) + j, by omega⟩ := by
  unfold Gen.outsAt0
  frame_out
  refine (pay1_at _ _ i j).trans ((congrArg (fun s => Ideal.div 1 (1 + Ideal.exp (-s))) (dot_2304 _ _ j ⟨i, by omega⟩)).trans ?_)
  by_cases hi : i.val < 24
  · refine Eq.trans ?_ (dif_pos hi).symm
    rw [← row_eq]
    exact congrArg (fun s => Ideal.div 1 (1 + Ideal.exp (-s))) (zt_of m c t j _ _ (by simp only; omega) (by simp only; split_ifs <;> omega))
  · refine Eq.trans ?_ (dif_neg hi).symm
    refine Eq.trans (congrArg (fun s => Ideal.div 1 (1 + Ideal.exp (-s))) ?_) half
    exact (congrArg (fun q => zt m c t j q) (Fin.ext (by simp only; omega))).trans (zt_pad m c t j ⟨i - 24, by omega⟩)
end Cert.Kernel3Ideal.ValueProof
end
-- ==== Proof.InTiles.lean ====
/- The input projection's kernel: the tiles of the queries, of the keys and values, and of what is to be compressed. -/
module

public import proofs.«01_k».proof.Proof.InKernel

@[expose] public section

set_option maxRecDepth 16384

noncomputable section

namespace Cert.Kernel3Ideal.ValueProof
open Idealize.ShloMosaic.StableHlo Cert.Kernel3Ideal Cert.Kernel3Ideal.Gen Cert.Kernel3Ideal.Value Idealize.ShloMosaic Idealize.ShloMosaic.TcCoe Idealize.SL.Sem Cert.Mlp Cert.InProj

/-! ## The normalised products -/

/-- Entry `c` of a row over the root mean square of the 64 entries from `b` on. -/
def over (z : Fin 2432 → EReal) (c : Fin 2432) (b : Fin 2369) : EReal :=
  z c * Ideal.rsqrt (Ideal.div (∑ l : Fin 64, z ⟨b + l, by omega⟩ * z ⟨b + l, by omega⟩) (Ideal.ofBits .f32 0x42800000#32) + Ideal.ofBits .f32 897988541#32)
theorem over_congr (z : Fin 2432 → EReal) (P : Args) (r : Fin 32768) (c : Fin 2432) (b : Fin 2369) (n : Fin 2328) (b' : Fin 2265) (hz : z c = P.z r n)
    (hb : ∀ l : Fin 64, z ⟨b + l, by omega⟩ = P.z r ⟨b' + l, by omega⟩) : over z c b = P.z r n * P.inv r b' := by
  unfold over Args.inv
  simp only [hz, hb]
theorem over_of (z : Fin 2432 → EReal) (hf : ∀ j : Fin 2328, Fin? (z ⟨j, by omega⟩))
    (bd : Fin 256 → EReal) (o : ℕ) (ho : o ≤ 2000) (j : Fin 256) (hbd : ∀ k, bd k = if k.val / 64 = j.val / 64 then ((1 / 64 : ℝ) : EReal) else 0) :
    z ⟨o + j, by omega⟩ * scale (fun k => z ⟨o + k, by omega⟩) bd = over z ⟨o + j, by omega⟩ ⟨o + 64 * (j / 64), by omega⟩ := by
  unfold over
  refine congrArg _ ((scale_eq _ _ (fun k => hf ⟨o + k, by omega⟩) j hbd).trans ?_)
  refine congrArg (fun s => Ideal.rsqrt (Ideal.div s (Ideal.ofBits .f32 0x42800000#32) + Ideal.ofBits .f32 897988541#32)) (Finset.sum_congr rfl fun l _ => ?_)
  have e : z ⟨o + (64 * (j.val / 64) + l.val), by omega⟩ = z ⟨o + 64 * (j.val / 64) + l.val, by omega⟩ := congrArg _ (Fin.ext (Nat.add_assoc _ _ _).symm)
  exact congrArg₂ _ e e

variable (m : (ℓ : Loc nD τ sig) → Buf (Elt Ideal) ℓ)

theorem bd_at (c : Dev nD) (t : Fin cfg0.N) (j k : Fin 256) : ((show FVec Ideal S256x256 .bf16 from iblk m c 3 t) (ix2 k j) : EReal) = if k.val / 64 = j.val / 64 then ((1 / 64 : ℝ) : EReal) else 0 := blk3 m c t k j
/-! ## The queries -/

theorem tile_q_lo (c : Dev nD) (hf : (args m c).Finite) (t : Fin cfg0.N) (i : Fin 512) (j : Fin 256) : ((outsAt0 m c t).1 (ix2 i ⟨j, by omega⟩) : EReal) = (args m c).q (row t i) ⟨j, by omega⟩ := by
  unfold Gen.outsAt0
  frame_out
  have hd : ∀ k : Fin 512, (k0_pay3 (iblk m c 0 t) (iblk m c 1 t) (View.ld (iblk m c 2 t) (Rect.unit ![0, 0] ![1024, 512] inb_S1024x2432_S1024x512_0_0)) (ix2 i k) : EReal) =
      zt m c t i ⟨k, by omega⟩ := fun k => (pay3_at _ _ _ i k).trans (dot_0 _ _ i k)
  refine (pay9_lo _ _ _ _ _ i j).trans ?_
  have e : ∀ k : Fin 256, zt m c t i ⟨k, by omega⟩ = zt m c t i ⟨0 + k, by omega⟩ :=
    fun k => congrArg _ (Fin.ext (Nat.zero_add _).symm)
  refine (congrArg₂ _ (congrArg₂ _ ((hd ⟨j, by omega⟩).trans (e j)) (congrArg₂ scale (funext fun k => (hd ⟨k, by omega⟩).trans (e k)) rfl)) (blk4 m c t _)).trans ?_
  rw [over_of (zt m c t i) (zt_fin m c hf t i) _ 0 (by omega) j (bd_at m c t j),
    over_congr (zt m c t i) (args m c) (row t i) _ _ ⟨j, by omega⟩ ⟨64 * (j / 64), by omega⟩ (zt_of m c t i _ _ (by simp only; omega) (by simp only; split_ifs <;> omega)) fun l => zt_of m c t i _ _ (by simp only; omega) (by simp only; split_ifs <;> omega)]
  exact (mul_assoc _ _ _).symm
theorem tile_q_hi (c : Dev nD) (hf : (args m c).Finite) (t : Fin cfg0.N) (i : Fin 512) (j : Fin 256) : ((outsAt0 m c t).1 (ix2 i ⟨256 + j, by omega⟩) : EReal) = (args m c).q (row t i) ⟨256 + j, by omega⟩ := by
  unfold Gen.outsAt0
  frame_out
  have hd : ∀ k : Fin 512, (k0_pay3 (iblk m c 0 t) (iblk m c 1 t) (View.ld (iblk m c 2 t) (Rect.unit ![0, 0] ![1024, 512] inb_S1024x2432_S1024x512_0_0)) (ix2 i k) : EReal) =
      zt m c t i ⟨k, by omega⟩ := fun k => (pay3_at _ _ _ i k).trans (dot_0 _ _ i k)
  refine (pay9_hi _ _ _ _ _ i j).trans ?_
  refine (congrArg₂ _ (congrArg₂ _ (hd _) (congrArg₂ scale (funext fun k => hd _) rfl)) (blk4 m c t _)).trans ?_
  rw [over_of (zt m c t i) (zt_fin m c hf t i) _ 256 (by omega) j (bd_at m c t j),
    over_congr (zt m c t i) (args m c) (row t i) _ _ ⟨256 + j, by omega⟩ ⟨64 * ((256 + j) / 64), by omega⟩ (zt_of m c t i _ _ (by simp only; omega) (by simp only; split_ifs <;> omega)) fun l => zt_of m c t i _ _ (by simp only; omega) (by simp only; split_ifs <;> omega)]
  exact (mul_assoc _ _ _).symm
theorem tile_q (c : Dev nD) (hf : (args m c).Finite) (t : Fin cfg0.N) (i : Fin 512) (j : Fin 512) : ((outsAt0 m c t).1 (ix2 i j) : EReal) = (args m c).q (row t i) j := by
  by_cases h : j.val < 256
  · exact tile_q_lo m c hf t i ⟨j, h⟩
  · have e : j = ⟨256 + (j.val - 256), by omega⟩ := Fin.ext (by simp only; omega)
    rw [e]
    exact tile_q_hi m c hf t i ⟨j - 256, by omega⟩

/-! ## The keys -/

theorem coords (t : Fin cfg0.N) : (grid0.coords t 0).val = t.val := (by decide +kernel : ∀ t : Fin grid0.N, (grid0.coords t 0).val = t.val) t
theorem keys_at (c : Dev nD) (hf : (args m c).Finite) (t : Fin cfg0.N) (i : Fin 512) (j : Fin 256) :
    (k0_pay45 (k0_pay2 (iblk m c 0 t) (iblk m c 1 t)) (View.ld (iblk m c 2 t) (Rect.unit ![0, 768] ![1024, 256] inb_S1024x2432_S1024x256_0_768)) (iblk m c 3 t) (iblk m c 5 t) (ix2 i j) : EReal) =
      over (zt m c t i) ⟨768 + j, by omega⟩ ⟨768 + 64 * (j / 64), by omega⟩
        * if j.val < 128 then (args m c).kn 1 ⟨j % 64, by omega⟩ else (args m c).kn 2 ⟨j % 64, by omega⟩ := by
  refine (pay45_at _ _ _ _ i j).trans ?_
  refine (congrArg₂ _ (congrArg₂ _ (show _ = zt m c t i _ from dot_768 _ _ i j) (congrArg₂ scale (funext fun k => show _ = zt m c t i _ from dot_768 _ _ i k) rfl)) (blk5 m c t _)).trans ?_
  rw [over_of (zt m c t i) (zt_fin m c hf t i) _ 768 (by omega) j (bd_at m c t j)]
theorem slc_at (c : Dev nD) (hf : (args m c).Finite) (t : Fin cfg0.N) (h : Fin 2) (i : Fin 512) (d : Fin 64) :
    (k0_pay45 (k0_pay2 (iblk m c 0 t) (iblk m c 1 t)) (View.ld (iblk m c 2 t) (Rect.unit ![0, 768] ![1024, 256] inb_S1024x2432_S1024x256_0_768)) (iblk m c 3 t) (iblk m c 5 t) (ix2 i ⟨64 * h + d, by omega⟩) : EReal) =
      (args m c).z (row t i) ⟨768 + 64 * h + d, by omega⟩ * (args m c).inv (row t i) ⟨768 + 64 * h, by omega⟩ * (args m c).kn 1 d := by
  refine (keys_at m c hf t i _).trans (congrArg₂ _ ?_ ((if_pos (by simp only; omega)).trans (congrArg _ (Fin.ext (by simp only; omega)))))
  exact over_congr (zt m c t i) (args m c) (row t i) _ _ _ _ (zt_of m c t i _ _ (by simp only; omega) (by simp only; split_ifs <;> omega)) fun l => zt_of m c t i _ _ (by simp only; omega) (by simp only; split_ifs <;> omega)
theorem win_at (c : Dev nD) (hf : (args m c).Finite) (t : Fin cfg0.N) (h : Fin 2) (i : Fin 512) (d : Fin 64) :
    (k0_pay45 (k0_pay2 (iblk m c 0 t) (iblk m c 1 t)) (View.ld (iblk m c 2 t) (Rect.unit ![0, 768] ![1024, 256] inb_S1024x2432_S1024x256_0_768)) (iblk m c 3 t) (iblk m c 5 t) (ix2 i ⟨128 + (64 * h + d), by omega⟩) : EReal) =
      (args m c).z (row t i) ⟨1024 + 64 * h + d, by omega⟩ * (args m c).inv (row t i) ⟨1024 + 64 * h, by omega⟩ * (args m c).kn 2 d := by
  refine (keys_at m c hf t i _).trans (congrArg₂ _ ?_ ((if_neg (by simp only; omega)).trans (congrArg _ (Fin.ext (by simp only; omega)))))
  exact over_congr (zt m c t i) (args m c) (row t i) _ _ _ _ (zt_of m c t i _ _ (by simp only; omega) (by simp only; split_ifs <;> omega)) fun l => zt_of m c t i _ _ (by simp only; omega) (by simp only; split_ifs <;> omega)
theorem tile_kslc (c : Dev nD) (fin : (args m c).Finite) (t : Fin cfg0.N) (a : Fin 2) (i : Fin 512) (d : Fin 128) :
    ((outsAt0 m c t).2.2.1 (ix4 0 a i d) : EReal) = (args m c).kslc ⟨t.val / 32, by have := t_lt t; omega⟩ a ⟨512 * (t.val % 32) + i, by omega⟩ d := by
  unfold Gen.outsAt0
  frame_out
  rw [coords]
  canon_tiles x h
  all_goals
    idx_vars x
    obtain rfl : x0 = 0 := Subsingleton.elim _ _
    obtain rfl : x1 = 0 := Subsingleton.elim _ _
    obtain rfl : x2 = i := Fin.ext h2.symm
    obtain rfl : x3 = d := Fin.ext h3.symm
    unfold Args.kslc
    rw [← row_eq]
  · obtain rfl : a = 1 := Fin.ext h1
    refine (pay52_at _ ⟨t.val, t_lt t⟩ x2 x3).trans ?_
    by_cases hd : x3.val < 64
    · rw [if_pos hd, dif_pos hd]
      exact (congrArg _ (congrArg (ix2 x2) (Fin.ext (by simp only [Fin.val_zero, Fin.val_one]; omega)))).trans (slc_at m c fin t 1 x2 ⟨x3, hd⟩)
    · rw [if_neg hd, dif_neg hd]
  · obtain rfl : a = 0 := Fin.ext h1
    refine (pay51_at _ ⟨t.val, t_lt t⟩ x2 x3).trans ?_
    by_cases hd : x3.val < 64
    · rw [if_pos hd, dif_pos hd]
      exact (congrArg _ (congrArg (ix2 x2) (Fin.ext (by simp only [Fin.val_zero, Fin.val_one]; omega)))).trans (slc_at m c fin t 0 x2 ⟨x3, hd⟩)
    · rw [if_neg hd, dif_neg hd]
theorem tile_kwin (c : Dev nD) (fin : (args m c).Finite) (t : Fin cfg0.N) (a : Fin 2) (i : Fin 512) (d : Fin 128) :
    ((outsAt0 m c t).2.2.2.1 (ix4 0 a i d) : EReal) = (args m c).kwin ⟨t.val / 32, by have := t_lt t; omega⟩ a ⟨512 * (t.val % 32) + i, by omega⟩ d := by
  unfold Gen.outsAt0
  frame_out
  canon_tiles x h
  all_goals
    idx_vars x
    obtain rfl : x0 = 0 := Subsingleton.elim _ _
    obtain rfl : x1 = 0 := Subsingleton.elim _ _
    obtain rfl : x2 = i := Fin.ext h2.symm
    obtain rfl : x3 = d := Fin.ext h3.symm
    unfold Args.kwin
    rw [← row_eq]
  · obtain rfl : a = 1 := Fin.ext h1
    refine (pay54_at _ x2 x3).trans ?_
    by_cases hd : x3.val < 64
    · rw [if_pos hd, dif_pos hd]
      exact (congrArg _ (congrArg (ix2 x2) (Fin.ext (by simp only [Fin.val_zero, Fin.val_one]; omega)))).trans (win_at m c fin t 1 x2 ⟨x3, hd⟩)
    · rw [if_neg hd, dif_neg hd]
  · obtain rfl : a = 0 := Fin.ext h1
    refine (pay53_at _ x2 x3).trans ?_
    by_cases hd : x3.val < 64
    · rw [if_pos hd, dif_pos hd]
      exact (congrArg _ (congrArg (ix2 x2) (Fin.ext (by simp only [Fin.val_zero, Fin.val_one]; omega)))).trans (win_at m c fin t 0 x2 ⟨x3, hd⟩)
    · rw [if_neg hd, dif_neg hd]

/-! ## The values -/

theorem vals_top (c : Dev nD) (t : Fin cfg0.N) (o : ℕ) (ho : o ≤ 2000) (a : Fin 2) (b : Fin 4) (d : Fin 80) (l : Fin 128) (i : Fin 512) (j : Fin 2432) (n : Fin 2328)
    (hd : d.val < 64) (hi : i.val = 128 * b.val + l.val) (hz : zt m c t i j = (args m c).z (row t i) n) (hn : n.val = o + 64 * a.val + d.val) :
    zt m c t i j = (args m c).vals o ho ⟨t.val / 32, by have := t_lt t; omega⟩ a ⟨4 * (t.val % 32) + b, by omega⟩ d l := by
  refine hz.trans (Eq.trans ?_ (dif_pos hd).symm)
  refine congrArg₂ _ ?_ (Fin.ext hn)
  rw [row_eq]
  exact congrArg _ (Fin.ext (by simp only; omega))
theorem vals_bot (c : Dev nD) (t : Fin cfg0.N) (o : ℕ) (ho : o ≤ 2000) (a : Fin 2) (b : Fin 4) (d : Fin 80) (l : Fin 128) (x : Fin 16) (hd : d.val = 64 + x.val) :
    (k0_pay57 (F := Ideal) (ix2 x l) : EReal) = (args m c).vals o ho ⟨t.val / 32, by have := t_lt t; omega⟩ a ⟨4 * (t.val % 32) + b, by omega⟩ d l := by
  refine (pay57_at x l).trans (Eq.trans ?_ (dif_neg (by omega)).symm)
  exact if_congr (by omega) rfl rfl
theorem tile_vslc (c : Dev nD) (t : Fin cfg0.N) (a : Fin 2) (b : Fin 4) (d : Fin 80) (l : Fin 128) :
    ((outsAt0 m c t).2.2.2.2.1 (ix5 0 a b d l) : EReal) = (args m c).vals 896 (by omega) ⟨t.val / 32, by have := t_lt t; omega⟩ a ⟨4 * (t.val % 32) + b, by omega⟩ d l := by
  unfold Gen.outsAt0
  frame_out
  canon_tiles x h using (View.cover_of_tiledBy _ ![1, 1, 1, 16, 128] (by sl_kernel_rfl) _)
  all_goals
    idx_vars x
    obtain rfl : x0 = 0 := Subsingleton.elim _ _
    obtain rfl : x1 = 0 := Subsingleton.elim _ _
    obtain rfl : x2 = 0 := Subsingleton.elim _ _
    obtain rfl : x4 = l := Fin.ext h4.symm
    simp only [Fin.val_zero, Nat.add_zero] at h1 h2
    first
      | (have hd : d.val = 64 + x3.val := h3
         pointwise [k0_pay59, k0_pay63, k0_pay67, k0_pay71, k0_pay75, k0_pay79, k0_pay83, k0_pay87]
         exact vals_bot m c t 896 (by omega) a b d x4 x3 hd)
      | (have hd : d.val < 64 := by omega
         pointwise [k0_pay58, k0_pay62, k0_pay66, k0_pay70, k0_pay74, k0_pay78, k0_pay82, k0_pay86, k0_pay56]
         refine vals_top m c t 896 (by omega) a b d x4 _ _ ⟨896 + 64 * a + d, by omega⟩ hd ?_ ?_ rfl
         · simp only; omega
         · exact zt_of m c t _ _ _ (by simp only; omega) (by simp only; split_ifs <;> omega))
theorem tile_vwin (c : Dev nD) (t : Fin cfg0.N) (a : Fin 2) (b : Fin 4) (d : Fin 80) (l : Fin 128) :
    ((outsAt0 m c t).2.2.2.2.2.1 (ix5 0 a b d l) : EReal) = (args m c).vals 1152 (by omega) ⟨t.val / 32, by have := t_lt t; omega⟩ a ⟨4 * (t.val % 32) + b, by omega⟩ d l := by
  unfold Gen.outsAt0
  frame_out
  canon_tiles x h using (View.cover_of_tiledBy _ ![1, 1, 1, 16, 128] (by sl_kernel_rfl) _)
  all_goals
    idx_vars x
    obtain rfl : x0 = 0 := Subsingleton.elim _ _
    obtain rfl : x1 = 0 := Subsingleton.elim _ _
    obtain rfl : x2 = 0 := Subsingleton.elim _ _
    obtain rfl : x4 = l := Fin.ext h4.symm
    simp only [Fin.val_zero, Nat.add_zero] at h1 h2
    first
      | (have hd : d.val = 64 + x3.val := h3
         pointwise [k0_pay61, k0_pay65, k0_pay69, k0_pay73, k0_pay77, k0_pay81, k0_pay85, k0_pay89]
         exact vals_bot m c t 1152 (by omega) a b d x4 x3 hd)
      | (have hd : d.val < 64 := by omega
         pointwise [k0_pay60, k0_pay64, k0_pay68, k0_pay72, k0_pay76, k0_pay80, k0_pay84, k0_pay88, k0_pay56]
         refine vals_top m c t 1152 (by omega) a b d x4 _ _ ⟨1152 + 64 * a + d, by omega⟩ hd ?_ ?_ rfl
         · simp only; omega
         · exact zt_of m c t _ _ _ (by simp only; omega) (by simp only; split_ifs <;> omega))
end Cert.Kernel3Ideal.ValueProof
end
-- ==== Proof.InFinal.lean ====
/- The input projection's kernel: the tiles of what is to be compressed, and its nine result arrays. -/
module

public import proofs.«01_k».proof.Proof.InTiles

@[expose] public section

set_option maxRecDepth 16384

noncomputable section

namespace Cert.Kernel3Ideal.ValueProof
open Idealize.ShloMosaic.StableHlo Cert.Kernel3Ideal Cert.Kernel3Ideal.Gen Cert.Kernel3Ideal.Value Idealize.ShloMosaic Idealize.ShloMosaic.TcCoe Idealize.SL.Sem Cert.Mlp Cert.InProj

variable (m : (ℓ : Loc nD τ sig) → Buf (Elt Ideal) ℓ)

/-! ## What is to be compressed -/

/-- The rows to be compressed: two slabs of 128 columns. -/
def slabs (P0 P1 : FVec Ideal S1x512x128 .f32) : Vec Ideal S2x512x128 .f32 :=
  View.canon (Val := Elt Ideal) [⟨Rect.unit ![1, 0, 0] ![1, 512, 128] inb_S2x512x128_S1x512x128_1_0_0, P1⟩, ⟨Rect.unit ![0, 0, 0] ![1, 512, 128] inb_S2x512x128_S1x512x128_0_0_0, P0⟩]
theorem slabs_at (P0 P1 : FVec Ideal S1x512x128 .f32) (w : Fin 2) (r : Fin 512) (l : Fin 128) : (slabs P0 P1 (ix3 w r l) : EReal) = if w.val = 0 then P0 (ix3 0 r l) else P1 (ix3 0 r l) := by
  unfold slabs
  canon_tiles x h
  all_goals
    idx_vars x
    obtain rfl : x0 = 0 := Subsingleton.elim _ _
    obtain rfl : x1 = r := Fin.ext h1.symm
    obtain rfl : x2 = l := Fin.ext h2.symm
    simp only [Fin.val_zero, Nat.add_zero] at h0
  · exact (if_neg (by omega)).symm
  · exact (if_pos (by omega)).symm
/-- The tile: row `i` is 16 of the slabs' rows, one after another. -/
def strides (B : Vec Ideal S2x512x128 .f32) : Vec Ideal S32x4096 .bf16 :=
  View.canon (Val := Elt Ideal) [⟨Rect.unit ![0, 3968] ![32, 128] inb_S32x4096_S32x128_0_3968, k0_pay44 (fun y => B (LoadRect.idx { off := ![1, 15, 0], size := ![1, 32, 128], stride := ![1, 16, 1], inb := inb_S2x512x128_S1x32x128_1_15_0_s_1_16_1 } y))⟩,
    ⟨Rect.unit ![0, 3840] ![32, 128] inb_S32x4096_S32x128_0_3840, k0_pay43 (fun y => B (LoadRect.idx { off := ![0, 15, 0], size := ![1, 32, 128], stride := ![1, 16, 1], inb := inb_S2x512x128_S1x32x128_0_15_0_s_1_16_1 } y))⟩,
    ⟨Rect.unit ![0, 3712] ![32, 128] inb_S32x4096_S32x128_0_3712, k0_pay42 (fun y => B (LoadRect.idx { off := ![1, 14, 0], size := ![1, 32, 128], stride := ![1, 16, 1], inb := inb_S2x512x128_S1x32x128_1_14_0_s_1_16_1 } y))⟩,
    ⟨Rect.unit ![0, 3584] ![32, 128] inb_S32x4096_S32x128_0_3584, k0_pay41 (fun y => B (LoadRect.idx { off := ![0, 14, 0], size := ![1, 32, 128], stride := ![1, 16, 1], inb := inb_S2x512x128_S1x32x128_0_14_0_s_1_16_1 } y))⟩,
    ⟨Rect.unit ![0, 3456] ![32, 128] inb_S32x4096_S32x128_0_3456, k0_pay40 (fun y => B (LoadRect.idx { off := ![1, 13, 0], size := ![1, 32, 128], stride := ![1, 16, 1], inb := inb_S2x512x128_S1x32x128_1_13_0_s_1_16_1 } y))⟩,
    ⟨Rect.unit ![0, 3328] ![32, 128] inb_S32x4096_S32x128_0_3328, k0_pay39 (fun y => B (LoadRect.idx { off := ![0, 13, 0], size := ![1, 32, 128], stride := ![1, 16, 1], inb := inb_S2x512x128_S1x32x128_0_13_0_s_1_16_1 } y))⟩,
    ⟨Rect.unit ![0, 3200] ![32, 128] inb_S32x4096_S32x128_0_3200, k0_pay38 (fun y => B (LoadRect.idx { off := ![1, 12, 0], size := ![1, 32, 128], stride := ![1, 16, 1], inb := inb_S2x512x128_S1x32x128_1_12_0_s_1_16_1 } y))⟩,
    ⟨Rect.unit ![0, 3072] ![32, 128] inb_S32x4096_S32x128_0_3072, k0_pay37 (fun y => B (LoadRect.idx { off := ![0, 12, 0], size := ![1, 32, 128], stride := ![1, 16, 1], inb := inb_S2x512x128_S1x32x128_0_12_0_s_1_16_1 } y))⟩,
    ⟨Rect.unit ![0, 2944] ![32, 128] inb_S32x4096_S32x128_0_2944, k0_pay36 (fun y => B (LoadRect.idx { off := ![1, 11, 0], size := ![1, 32, 128], stride := ![1, 16, 1], inb := inb_S2x512x128_S1x32x128_1_11_0_s_1_16_1 } y))⟩,
    ⟨Rect.unit ![0, 2816] ![32, 128] inb_S32x4096_S32x128_0_2816, k0_pay35 (fun y => B (LoadRect.idx { off := ![0, 11, 0], size := ![1, 32, 128], stride := ![1, 16, 1], inb := inb_S2x512x128_S1x32x128_0_11_0_s_1_16_1 } y))⟩,
    ⟨Rect.unit ![0, 2688] ![32, 128] inb_S32x4096_S32x128_0_2688, k0_pay34 (fun y => B (LoadRect.idx { off := ![1, 10, 0], size := ![1, 32, 128], stride := ![1, 16, 1], inb := inb_S2x512x128_S1x32x128_1_10_0_s_1_16_1 } y))⟩,
    ⟨Rect.unit ![0, 2560] ![32, 128] inb_S32x4096_S32x128_0_2560, k0_pay33 (fun y => B (LoadRect.idx { off := ![0, 10, 0], size := ![1, 32, 128], stride := ![1, 16, 1], inb := inb_S2x512x128_S1x32x128_0_10_0_s_1_16_1 } y))⟩,
    ⟨Rect.unit ![0, 2432] ![32, 128] inb_S32x4096_S32x128_0_2432, k0_pay32 (fun y => B (LoadRect.idx { off := ![1, 9, 0], size := ![1, 32, 128], stride := ![1, 16, 1], inb := inb_S2x512x128_S1x32x128_1_9_0_s_1_16_1 } y))⟩,
    ⟨Rect.unit ![0, 2304] ![32, 128] inb_S32x4096_S32x128_0_2304, k0_pay31 (fun y => B (LoadRect.idx { off := ![0, 9, 0], size := ![1, 32, 128], stride := ![1, 16, 1], inb := inb_S2x512x128_S1x32x128_0_9_0_s_1_16_1 } y))⟩,
    ⟨Rect.unit ![0, 2176] ![32, 128] inb_S32x4096_S32x128_0_2176, k0_pay30 (fun y => B (LoadRect.idx { off := ![1, 8, 0], size := ![1, 32, 128], stride := ![1, 16, 1], inb := inb_S2x512x128_S1x32x128_1_8_0_s_1_16_1 } y))⟩,
    ⟨Rect.unit ![0, 2048] ![32, 128] inb_S32x4096_S32x128_0_2048, k0_pay29 (fun y => B (LoadRect.idx { off := ![0, 8, 0], size := ![1, 32, 128], stride := ![1, 16, 1], inb := inb_S2x512x128_S1x32x128_0_8_0_s_1_16_1 } y))⟩,
    ⟨Rect.unit ![0, 1920] ![32, 128] inb_S32x4096_S32x128_0_1920, k0_pay28 (fun y => B (LoadRect.idx { off := ![1, 7, 0], size := ![1, 32, 128], stride := ![1, 16, 1], inb := inb_S2x512x128_S1x32x128_1_7_0_s_1_16_1 } y))⟩,
    ⟨Rect.unit ![0, 1792] ![32, 128] inb_S32x4096_S32x128_0_1792, k0_pay27 (fun y => B (LoadRect.idx { off := ![0, 7, 0], size := ![1, 32, 128], stride := ![1, 16, 1], inb := inb_S2x512x128_S1x32x128_0_7_0_s_1_16_1 } y))⟩,
    ⟨Rect.unit ![0, 1664] ![32, 128] inb_S32x4096_S32x128_0_1664, k0_pay26 (fun y => B (LoadRect.idx { off := ![1, 6, 0], size := ![1, 32, 128], stride := ![1, 16, 1], inb := inb_S2x512x128_S1x32x128_1_6_0_s_1_16_1 } y))⟩,
    ⟨Rect.unit ![0, 1536] ![32, 128] inb_S32x4096_S32x128_0_1536, k0_pay25 (fun y => B (LoadRect.idx { off := ![0, 6, 0], size := ![1, 32, 128], stride := ![1, 16, 1], inb := inb_S2x512x128_S1x32x128_0_6_0_s_1_16_1 } y))⟩,
    ⟨Rect.unit ![0, 1408] ![32, 128] inb_S32x4096_S32x128_0_1408, k0_pay24 (fun y => B (LoadRect.idx { off := ![1, 5, 0], size := ![1, 32, 128], stride := ![1, 16, 1], inb := inb_S2x512x128_S1x32x128_1_5_0_s_1_16_1 } y))⟩,
    ⟨Rect.unit ![0, 1280] ![32, 128] inb_S32x4096_S32x128_0_1280, k0_pay23 (fun y => B (LoadRect.idx { off := ![0, 5, 0], size := ![1, 32, 128], stride := ![1, 16, 1], inb := inb_S2x512x128_S1x32x128_0_5_0_s_1_16_1 } y))⟩,
    ⟨Rect.unit ![0, 1152] ![32, 128] inb_S32x4096_S32x128_0_1152, k0_pay22 (fun y => B (LoadRect.idx { off := ![1, 4, 0], size := ![1, 32, 128], stride := ![1, 16, 1], inb := inb_S2x512x128_S1x32x128_1_4_0_s_1_16_1 } y))⟩,
    ⟨Rect.unit ![0, 1024] ![32, 128] inb_S32x4096_S32x128_0_1024, k0_pay21 (fun y => B (LoadRect.idx { off := ![0, 4, 0], size := ![1, 32, 128], stride := ![1, 16, 1], inb := inb_S2x512x128_S1x32x128_0_4_0_s_1_16_1 } y))⟩,
    ⟨Rect.unit ![0, 896] ![32, 128] inb_S32x4096_S32x128_0_896, k0_pay20 (fun y => B (LoadRect.idx { off := ![1, 3, 0], size := ![1, 32, 128], stride := ![1, 16, 1], inb := inb_S2x512x128_S1x32x128_1_3_0_s_1_16_1 } y))⟩,
    ⟨Rect.unit ![0, 768] ![32, 128] inb_S32x4096_S32x128_0_768, k0_pay19 (fun y => B (LoadRect.idx { off := ![0, 3, 0], size := ![1, 32, 128], stride := ![1, 16, 1], inb := inb_S2x512x128_S1x32x128_0_3_0_s_1_16_1 } y))⟩,
    ⟨Rect.unit ![0, 640] ![32, 128] inb_S32x4096_S32x128_0_640, k0_pay18 (fun y => B (LoadRect.idx { off := ![1, 2, 0], size := ![1, 32, 128], stride := ![1, 16, 1], inb := inb_S2x512x128_S1x32x128_1_2_0_s_1_16_1 } y))⟩,
    ⟨Rect.unit ![0, 512] ![32, 128] inb_S32x4096_S32x128_0_512, k0_pay17 (fun y => B (LoadRect.idx { off := ![0, 2, 0], size := ![1, 32, 128], stride := ![1, 16, 1], inb := inb_S2x512x128_S1x32x128_0_2_0_s_1_16_1 } y))⟩,
    ⟨Rect.unit ![0, 384] ![32, 128] inb_S32x4096_S32x128_0_384, k0_pay16 (fun y => B (LoadRect.idx { off := ![1, 1, 0], size := ![1, 32, 128], stride := ![1, 16, 1], inb := inb_S2x512x128_S1x32x128_1_1_0_s_1_16_1 } y))⟩,
    ⟨Rect.unit ![0, 256] ![32, 128] inb_S32x4096_S32x128_0_256, k0_pay15 (fun y => B (LoadRect.idx { off := ![0, 1, 0], size := ![1, 32, 128], stride := ![1, 16, 1], inb := inb_S2x512x128_S1x32x128_0_1_0_s_1_16_1 } y))⟩,
    ⟨Rect.unit ![0, 128] ![32, 128] inb_S32x4096_S32x128_0_128, k0_pay14 (fun y => B (LoadRect.idx { off := ![1, 0, 0], size := ![1, 32, 128], stride := ![1, 16, 1], inb := inb_S2x512x128_S1x32x128_1_0_0_s_1_16_1 } y))⟩,
    ⟨Rect.unit ![0, 0] ![32, 128] inb_S32x4096_S32x128_0_0, k0_pay13 (fun y => B (LoadRect.idx { off := ![0, 0, 0], size := ![1, 32, 128], stride := ![1, 16, 1], inb := inb_S2x512x128_S1x32x128_0_0_0_s_1_16_1 } y))⟩]
theorem strides_at (B : Vec Ideal S2x512x128 .f32) (f : EReal) (i : Fin 32) (j : Fin 4096)
    (main : ∀ (w : Fin 2) (r : Fin 512) (l : Fin 128), r.val = 16 * i.val + j.val / 256 → j.val % 256 = 128 * w.val + l.val → (B (ix3 w r l) : EReal) = f) :
    (strides B (ix2 i j) : EReal) = f := by
  unfold strides
  canon_tiles x h
  all_goals
    idx_vars x
    pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, h0, h1]
    refine main _ _ _ ?_ ?_ <;> (try simp only [Fin.val_zero, Fin.val_one]) <;> omega
theorem tile_cmp (c : Dev nD) (t : Fin cfg0.N) (i : Fin 32) (j : Fin 4096) :
    ((outsAt0 m c t).2.1 (ix2 i j) : EReal) = (args m c).cmp ⟨32 * t.val + i, by have := t_lt t; omega⟩ j := by
  unfold Gen.outsAt0
  frame_out
  simp only [View.readCov_eq_canon']
  have slab : ∀ (w : Fin 2) (r : Fin 512) (l : Fin 128), (slabs (k0_pay11 (k0_pay2 (iblk m c 0 t) (iblk m c 1 t)) (View.ld (iblk m c 2 t) (Rect.unit ![0, 512] ![1024, 256] inb_S1024x2432_S1024x256_0_512)))
      (k0_pay12 (k0_pay2 (iblk m c 0 t) (iblk m c 1 t)) (View.ld (iblk m c 2 t) (Rect.unit ![0, 512] ![1024, 256] inb_S1024x2432_S1024x256_0_512))) (ix3 w r l) : EReal) = zt m c t r ⟨512 + (128 * w + l), by omega⟩ := by
    intro w r l
    refine (slabs_at _ _ w r l).trans ?_
    by_cases hw : w.val = 0
    · exact (if_pos hw).trans ((pay11_at _ _ r l).trans ((dot_512 _ _ r _).trans (congrArg (zt m c t r) (Fin.ext (by simp only; omega)))))
    · exact (if_neg hw).trans ((pay12_at _ _ r l).trans ((dot_512 _ _ r _).trans (congrArg (zt m c t r) (Fin.ext (by simp only; omega)))))
  refine strides_at (slabs _ _) _ i j fun w r l er ej => ?_
  have ht := t_lt t
  refine (slab w r l).trans ((zt_of m c t r _ ⟨512 + j % 256, by omega⟩ (by simp only; omega) (by simp only; split_ifs <;> omega)).trans ?_)
  unfold Args.cmp row
  exact congrArg₂ _ (Fin.ext (by simp only; omega)) rfl

/-! ## The result arrays -/

def res_q (c : Dev nD) : FVec Ideal S32768x512 .bf16 := fun i => (args m c).q (i 0) (i 1)
theorem final_q (c : Dev nD) (fin : (args m c).Finite) : (dats m 0 c).arrAt 6 cfg0.N = res_q m c := by
  refine (dats m 0 c).arrAt_eq_of_covers 6 (res_q m c) (by decide +kernel) fun t _ y => ?_
  idx_vars y
  have hi := (idx t).2.2.2.2.2.2.1
  have ht := t_lt t
  rw [after0_6]
  blk_simp
  have e : (win0_6.blk t).view.emb (ix2 y0 y1) = (ix2 (row t y0) y1 : S32768x512.Idx) := by
    blk_ext [hi, row]
  rw [e]
  exact tile_q m c fin t y0 y1
def res_cmp (c : Dev nD) : FVec Ideal S2048x4096 .bf16 := fun i => (args m c).cmp (i 0) (i 1)
theorem final_cmp (c : Dev nD) : (dats m 0 c).arrAt 7 cfg0.N = res_cmp m c := by
  refine (dats m 0 c).arrAt_eq_of_covers 7 (res_cmp m c) (by decide +kernel) fun t _ y => ?_
  idx_vars y
  have hi := (idx t).2.2.2.2.2.2.2.1
  have ht := t_lt t
  rw [after0_7]
  blk_simp
  have e : (win0_7.blk t).view.emb (ix2 y0 y1) = (ix2 ⟨32 * t.val + y0, by have := t_lt t; omega⟩ y1 : S2048x4096.Idx) := by
    blk_ext [hi, row]
  rw [e]
  exact tile_cmp m c t y0 y1
def res_kslc (c : Dev nD) : FVec Ideal S2x2x16384x128 .bf16 := fun i => (args m c).kslc (i 0) (i 1) (i 2) (i 3)
theorem final_kslc (c : Dev nD) (fin : (args m c).Finite) : (dats m 0 c).arrAt 8 cfg0.N = res_kslc m c := by
  refine (dats m 0 c).arrAt_eq_of_covers 8 (res_kslc m c) (by decide +kernel) fun t _ y => ?_
  idx_vars y
  obtain rfl : y0 = 0 := Subsingleton.elim _ _
  have hi := (idx t).2.2.2.2.2.2.2.2.1
  have ht := t_lt t
  rw [after0_8]
  blk_simp
  have e : (win0_8.blk t).view.emb (ix4 0 y1 y2 y3) = (ix4 ⟨t.val / 32, by have := t_lt t; omega⟩ y1 ⟨512 * (t.val % 32) + y2, by omega⟩ y3 : S2x2x16384x128.Idx) := by
    blk_ext [hi, row]
  rw [e]
  exact tile_kslc m c fin t y1 y2 y3
def res_kwin (c : Dev nD) : FVec Ideal S2x2x16384x128 .bf16 := fun i => (args m c).kwin (i 0) (i 1) (i 2) (i 3)
theorem final_kwin (c : Dev nD) (fin : (args m c).Finite) : (dats m 0 c).arrAt 9 cfg0.N = res_kwin m c := by
  refine (dats m 0 c).arrAt_eq_of_covers 9 (res_kwin m c) (by decide +kernel) fun t _ y => ?_
  idx_vars y
  obtain rfl : y0 = 0 := Subsingleton.elim _ _
  have hi := (idx t).2.2.2.2.2.2.2.2.2.1
  have ht := t_lt t
  rw [after0_9]
  blk_simp
  have e : (win0_9.blk t).view.emb (ix4 0 y1 y2 y3) = (ix4 ⟨t.val / 32, by have := t_lt t; omega⟩ y1 ⟨512 * (t.val % 32) + y2, by omega⟩ y3 : S2x2x16384x128.Idx) := by
    blk_ext [hi, row]
  rw [e]
  exact tile_kwin m c fin t y1 y2 y3
def res_vslc (c : Dev nD) : FVec Ideal S2x2x128x80x128 .bf16 := fun i => (args m c).vals 896 (by omega) (i 0) (i 1) (i 2) (i 3) (i 4)
theorem final_vslc (c : Dev nD) : (dats m 0 c).arrAt 10 cfg0.N = res_vslc m c := by
  refine (dats m 0 c).arrAt_eq_of_covers 10 (res_vslc m c) (by decide +kernel) fun t _ y => ?_
  idx_vars y
  obtain rfl : y0 = 0 := Subsingleton.elim _ _
  have hi := (idx t).2.2.2.2.2.2.2.2.2.2.1
  have ht := t_lt t
  rw [after0_10]
  blk_simp
  have e : (win0_10.blk t).view.emb (ix5 0 y1 y2 y3 y4) = (ix5 ⟨t.val / 32, by have := t_lt t; omega⟩ y1 ⟨4 * (t.val % 32) + y2, by omega⟩ y3 y4 : S2x2x128x80x128.Idx) := by
    blk_ext [hi, row]
  rw [e]
  exact tile_vslc m c t y1 y2 y3 y4
def res_vwin (c : Dev nD) : FVec Ideal S2x2x128x80x128 .bf16 := fun i => (args m c).vals 1152 (by omega) (i 0) (i 1) (i 2) (i 3) (i 4)
theorem final_vwin (c : Dev nD) : (dats m 0 c).arrAt 11 cfg0.N = res_vwin m c := by
  refine (dats m 0 c).arrAt_eq_of_covers 11 (res_vwin m c) (by decide +kernel) fun t _ y => ?_
  idx_vars y
  obtain rfl : y0 = 0 := Subsingleton.elim _ _
  have hi := (idx t).2.2.2.2.2.2.2.2.2.2.2.1
  have ht := t_lt t
  rw [after0_11]
  blk_simp
  have e : (win0_11.blk t).view.emb (ix5 0 y1 y2 y3 y4) = (ix5 ⟨t.val / 32, by have := t_lt t; omega⟩ y1 ⟨4 * (t.val % 32) + y2, by omega⟩ y3 y4 : S2x2x128x80x128.Idx) := by
    blk_ext [hi, row]
  rw [e]
  exact tile_vwin m c t y1 y2 y3 y4
def res_lru (c : Dev nD) : FVec Ideal S32768x512 .f32 := fun i => (args m c).lru (i 0) (i 1)
theorem final_lru (c : Dev nD) : (dats m 0 c).arrAt 12 cfg0.N = res_lru m c := by
  refine (dats m 0 c).arrAt_eq_of_covers 12 (res_lru m c) (by decide +kernel) fun t _ y => ?_
  idx_vars y
  have hi := (idx t).2.2.2.2.2.2.2.2.2.2.2.2.1
  have ht := t_lt t
  rw [after0_12]
  blk_simp
  have e : (win0_12.blk t).view.emb (ix2 y0 y1) = (ix2 (row t y0) y1 : S32768x512.Idx) := by
    blk_ext [hi, row]
  rw [e]
  exact tile_lru m c t y0 y1
def res_cv (c : Dev nD) : FVec Ideal S32768x512 .f32 := fun i => (args m c).cv (i 0) (i 1)
theorem final_cv (c : Dev nD) : (dats m 0 c).arrAt 13 cfg0.N = res_cv m c := by
  refine (dats m 0 c).arrAt_eq_of_covers 13 (res_cv m c) (by decide +kernel) fun t _ y => ?_
  idx_vars y
  have hi := (idx t).2.2.2.2.2.2.2.2.2.2.2.2.2.1
  have ht := t_lt t
  rw [after0_13]
  blk_simp
  have e : (win0_13.blk t).view.emb (ix2 y0 y1) = (ix2 (row t y0) y1 : S32768x512.Idx) := by
    blk_ext [hi, row]
  rw [e]
  exact tile_cv m c t y0 y1
def res_gates (c : Dev nD) : FVec Ideal S2x32x16384 .f32 := fun i => (args m c).gates (i 0) (i 1) (i 2)
theorem final_gates (c : Dev nD) : (dats m 0 c).arrAt 14 cfg0.N = res_gates m c := by
  refine (dats m 0 c).arrAt_eq_of_covers 14 (res_gates m c) (by decide +kernel) fun t _ y => ?_
  idx_vars y
  obtain rfl : y0 = 0 := Subsingleton.elim _ _
  have hi := (idx t).2.2.2.2.2.2.2.2.2.2.2.2.2.2
  have ht := t_lt t
  rw [after0_14]
  blk_simp
  have e : (win0_14.blk t).view.emb (ix3 0 y1 y2) = (ix3 ⟨t.val / 32, by have := t_lt t; omega⟩ y1 ⟨512 * (t.val % 32) + y2, by omega⟩ : S2x32x16384.Idx) := by
    blk_ext [hi, row]
  rw [e]
  exact tile_gates m c t y1 y2
end Cert.Kernel3Ideal.ValueProof
end
-- ==== Proof.InRef.lean ====
/- The input projection, as the reference writes it: its nine results, entry by entry. -/
module

public import proofs.«01_k».proof.Proof.Gen.Reference3Ideal.Run
public import proofs.«01_k».proof.Proof.InSpec

@[expose] public section

set_option maxRecDepth 16384

noncomputable section

namespace Cert.Reference3Ideal.ValueProof
open Idealize.ShloMosaic.StableHlo Cert.Reference3Ideal Cert.Reference3Ideal.Gen Cert.Reference3Ideal.Value Idealize.ShloMosaic Idealize.ShloMosaic.TcCoe Idealize.SL.Sem Cert.Mlp Cert.InProj

/-! ## The reference's stages -/

/-- The normalised input. -/
def rHn (A0 : FVec Ideal S2x16384x1024 .f32) (A1 : FVec Ideal S1024 .f32) : FVec Ideal S2x16384x1024 .f32 :=
  (mulf (mulf A0 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf A0 A0) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 A1)))
/-- Its projection. -/
def rZ (HN : FVec Ideal S2x16384x1024 .f32) (A2 : FVec Ideal S1024x2328 .f32) : FVec Ideal S2x16384x2328 .f32 :=
  (Host.dotGeneral dot_S2x16384x1024_S1024x2328_S2x16384x2328_2_0_01_1_n_n none HN A2)
/-- The queries. -/
def r_q (Z : FVec Ideal S2x16384x2328 .f32) (A3 : FVec Ideal S64 .f32) : FVec Ideal S32768x512 .bf16 :=
  truncf .bf16 (shapeCast _ (mulf (mulf (mulf (shapeCast _ (extractStridedSlice S2x16384x512 ![0, 0, 0] Z slices_S2x16384x2328_S2x16384x512_0_0_0) shapeCasts_S2x16384x512_S2x16384x8x64) (broadcastInDim S2x16384x8x64 ![0, 1, 2, 3] bcast_S2x16384x8x1_S2x16384x8x64_0_1_2_3 (Host.rsqrt (addf (Host.divf (broadcastInDim S2x16384x8x1 ![0, 1, 2] bcast_S2x16384x8_S2x16384x8x1_0_1_2 (Host.reduceAdd (mulf (shapeCast _ (extractStridedSlice S2x16384x512 ![0, 0, 0] Z slices_S2x16384x2328_S2x16384x512_0_0_0) shapeCasts_S2x16384x512_S2x16384x8x64) (shapeCast _ (extractStridedSlice S2x16384x512 ![0, 0, 0] Z slices_S2x16384x2328_S2x16384x512_0_0_0) shapeCasts_S2x16384x512_S2x16384x8x64)) (constant S_ .f32 0x00000000#32) reducesTo_S2x16384x8x64_S2x16384x8_d3 h_S_)) (broadcastInDim S2x16384x8x1 ![] bcast_S_S2x16384x8x1 (constant S_ .f32 0x42800000#32))) (broadcastInDim S2x16384x8x1 ![] bcast_S_S2x16384x8x1 (constant S_ .f32 0x358637BD#32)))))) (broadcastInDim S2x16384x8x64 ![0, 1, 2, 3] bcast_S1x1x1x64_S2x16384x8x64_0_1_2_3 (broadcastInDim S1x1x1x64 ![3] bcast_S64_S1x1x1x64_3 A3))) (broadcastInDim S2x16384x8x64 ![] bcast_S_S2x16384x8x64 (constant S_ .f32 0x3E38AA3B#32))) shapeCasts_S2x16384x8x64_S32768x512) bitsLt_bf16_f32
/-- What is to be compressed. -/
def r_cmp (Z : FVec Ideal S2x16384x2328 .f32) : FVec Ideal S2048x4096 .bf16 :=
  truncf .bf16 (shapeCast _ (extractStridedSlice S2x16384x2x2x64 ![0, 0, 0, 0, 0] (shapeCast _ (extractStridedSlice S2x16384x768 ![0, 0, 512] Z slices_S2x16384x2328_S2x16384x768_0_0_512) shapeCasts_S2x16384x768_S2x16384x6x2x64) slices_S2x16384x6x2x64_S2x16384x2x2x64_0_0_0_0_0) shapeCasts_S2x16384x2x2x64_S2048x4096) bitsLt_bf16_f32
/-- The selected branch's keys. -/
def r_kslc (Z : FVec Ideal S2x16384x2328 .f32) (A4 : FVec Ideal S3x64 .f32) : FVec Ideal S2x2x16384x128 .bf16 :=
  truncf .bf16 (concatenate S2x2x16384x128 3 [⟨S2x2x16384x64, (transpose S2x2x16384x64 [0, 2, 1, 3] (mulf (mulf (shapeCast _ (extractStridedSlice S2x16384x1x2x64 ![0, 0, 2, 0, 0] (shapeCast _ (extractStridedSlice S2x16384x768 ![0, 0, 512] Z slices_S2x16384x2328_S2x16384x768_0_0_512) shapeCasts_S2x16384x768_S2x16384x6x2x64) slices_S2x16384x6x2x64_S2x16384x1x2x64_0_0_2_0_0) shapeCasts_S2x16384x1x2x64_S2x16384x2x64) (broadcastInDim S2x16384x2x64 ![0, 1, 2, 3] bcast_S2x16384x2x1_S2x16384x2x64_0_1_2_3 (Host.rsqrt (addf (Host.divf (broadcastInDim S2x16384x2x1 ![0, 1, 2] bcast_S2x16384x2_S2x16384x2x1_0_1_2 (Host.reduceAdd (mulf (shapeCast _ (extractStridedSlice S2x16384x1x2x64 ![0, 0, 2, 0, 0] (shapeCast _ (extractStridedSlice S2x16384x768 ![0, 0, 512] Z slices_S2x16384x2328_S2x16384x768_0_0_512) shapeCasts_S2x16384x768_S2x16384x6x2x64) slices_S2x16384x6x2x64_S2x16384x1x2x64_0_0_2_0_0) shapeCasts_S2x16384x1x2x64_S2x16384x2x64) (shapeCast _ (extractStridedSlice S2x16384x1x2x64 ![0, 0, 2, 0, 0] (shapeCast _ (extractStridedSlice S2x16384x768 ![0, 0, 512] Z slices_S2x16384x2328_S2x16384x768_0_0_512) shapeCasts_S2x16384x768_S2x16384x6x2x64) slices_S2x16384x6x2x64_S2x16384x1x2x64_0_0_2_0_0) shapeCasts_S2x16384x1x2x64_S2x16384x2x64)) (constant S_ .f32 0x00000000#32) reducesTo_S2x16384x2x64_S2x16384x2_d3 h_S_)) (broadcastInDim S2x16384x2x1 ![] bcast_S_S2x16384x2x1 (constant S_ .f32 0x42800000#32))) (broadcastInDim S2x16384x2x1 ![] bcast_S_S2x16384x2x1 (constant S_ .f32 0x358637BD#32)))))) (broadcastInDim S2x16384x2x64 ![0, 1, 2, 3] bcast_S1x1x1x64_S2x16384x2x64_0_1_2_3 (broadcastInDim S1x1x1x64 ![3] bcast_S64_S1x1x1x64_3 (shapeCast _ (extractStridedSlice S1x64 ![1, 0] A4 slices_S3x64_S1x64_1_0) shapeCasts_S1x64_S64)))) transposes_S2x16384x2x64_S2x2x16384x64_0_2_1_3)⟩, ⟨S2x2x16384x64, (shapeCast _ (broadcastInDim S2x2x4x64x64x64 ![3, 4, 5] bcast_S64x1x64_S2x2x4x64x64x64_3_4_5 (broadcastInDim S64x1x64 ![0, 2] bcast_S64x64_S64x1x64_0_2 (uitofp .f32 (cmpi .eq (addi (iotaInDim S64x64 32 0) (broadcastInDim S64x64 ![] bcast_S_S64x64 (constantI S_ 32 0#32))) (iotaInDim S64x64 32 1))))) shapeCasts_S2x2x4x64x64x64_S2x2x16384x64)⟩] concatenates_S2x2x16384x64_S2x2x16384x64_S2x2x16384x128_d3) bitsLt_bf16_f32
/-- The window branch's keys. -/
def r_kwin (Z : FVec Ideal S2x16384x2328 .f32) (A4 : FVec Ideal S3x64 .f32) : FVec Ideal S2x2x16384x128 .bf16 :=
  truncf .bf16 (concatenate S2x2x16384x128 3 [⟨S2x2x16384x64, (transpose S2x2x16384x64 [0, 2, 1, 3] (mulf (mulf (shapeCast _ (extractStridedSlice S2x16384x1x2x64 ![0, 0, 4, 0, 0] (shapeCast _ (extractStridedSlice S2x16384x768 ![0, 0, 512] Z slices_S2x16384x2328_S2x16384x768_0_0_512) shapeCasts_S2x16384x768_S2x16384x6x2x64) slices_S2x16384x6x2x64_S2x16384x1x2x64_0_0_4_0_0) shapeCasts_S2x16384x1x2x64_S2x16384x2x64) (broadcastInDim S2x16384x2x64 ![0, 1, 2, 3] bcast_S2x16384x2x1_S2x16384x2x64_0_1_2_3 (Host.rsqrt (addf (Host.divf (broadcastInDim S2x16384x2x1 ![0, 1, 2] bcast_S2x16384x2_S2x16384x2x1_0_1_2 (Host.reduceAdd (mulf (shapeCast _ (extractStridedSlice S2x16384x1x2x64 ![0, 0, 4, 0, 0] (shapeCast _ (extractStridedSlice S2x16384x768 ![0, 0, 512] Z slices_S2x16384x2328_S2x16384x768_0_0_512) shapeCasts_S2x16384x768_S2x16384x6x2x64) slices_S2x16384x6x2x64_S2x16384x1x2x64_0_0_4_0_0) shapeCasts_S2x16384x1x2x64_S2x16384x2x64) (shapeCast _ (extractStridedSlice S2x16384x1x2x64 ![0, 0, 4, 0, 0] (shapeCast _ (extractStridedSlice S2x16384x768 ![0, 0, 512] Z slices_S2x16384x2328_S2x16384x768_0_0_512) shapeCasts_S2x16384x768_S2x16384x6x2x64) slices_S2x16384x6x2x64_S2x16384x1x2x64_0_0_4_0_0) shapeCasts_S2x16384x1x2x64_S2x16384x2x64)) (constant S_ .f32 0x00000000#32) reducesTo_S2x16384x2x64_S2x16384x2_d3 h_S_)) (broadcastInDim S2x16384x2x1 ![] bcast_S_S2x16384x2x1 (constant S_ .f32 0x42800000#32))) (broadcastInDim S2x16384x2x1 ![] bcast_S_S2x16384x2x1 (constant S_ .f32 0x358637BD#32)))))) (broadcastInDim S2x16384x2x64 ![0, 1, 2, 3] bcast_S1x1x1x64_S2x16384x2x64_0_1_2_3 (broadcastInDim S1x1x1x64 ![3] bcast_S64_S1x1x1x64_3 (shapeCast _ (extractStridedSlice S1x64 ![2, 0] A4 slices_S3x64_S1x64_2_0) shapeCasts_S1x64_S64)))) transposes_S2x16384x2x64_S2x2x16384x64_0_2_1_3)⟩, ⟨S2x2x16384x64, (broadcastInDim S2x2x16384x64 ![] bcast_S_S2x2x16384x64 (constant S_ .f32 0x00000000#32))⟩] concatenates_S2x2x16384x64_S2x2x16384x64_S2x2x16384x128_d3) bitsLt_bf16_f32
/-- The selected branch's values. -/
def r_vslc (Z : FVec Ideal S2x16384x2328 .f32) : FVec Ideal S2x2x128x80x128 .bf16 :=
  truncf .bf16 ((concatenate S2x2x128x80x128 3 [⟨S2x2x128x64x128, ((transpose S2x2x128x64x128 [0, 3, 1, 4, 2] (shapeCast _ (shapeCast _ (extractStridedSlice S2x16384x1x2x64 ![0, 0, 3, 0, 0] (shapeCast _ (extractStridedSlice S2x16384x768 ![0, 0, 512] Z slices_S2x16384x2328_S2x16384x768_0_0_512) shapeCasts_S2x16384x768_S2x16384x6x2x64) slices_S2x16384x6x2x64_S2x16384x1x2x64_0_0_3_0_0) shapeCasts_S2x16384x1x2x64_S2x16384x2x64) shapeCasts_S2x16384x2x64_S2x128x128x2x64) transposes_S2x128x128x2x64_S2x2x128x64x128_0_3_1_4_2) : (⟨S2x2x128x64x128, .f32⟩ : BufTy).Contents (Elt Ideal))⟩, ⟨S2x2x128x1x128, ((broadcastInDim S2x2x128x1x128 ![] bcast_S_S2x2x128x1x128 (constant (F := Ideal) S_ .f32 0x3F800000#32)) : (⟨S2x2x128x1x128, .f32⟩ : BufTy).Contents (Elt Ideal))⟩, ⟨S2x2x128x15x128, ((broadcastInDim S2x2x128x15x128 ![] bcast_S_S2x2x128x15x128 (constant (F := Ideal) S_ .f32 0x00000000#32)) : (⟨S2x2x128x15x128, .f32⟩ : BufTy).Contents (Elt Ideal))⟩] concatenates_S2x2x128x64x128_S2x2x128x1x128_S2x2x128x15x128_S2x2x128x80x128_d3 : (⟨S2x2x128x80x128, .f32⟩ : BufTy).Contents (Elt Ideal))) bitsLt_bf16_f32
/-- The window branch's values. -/
def r_vwin (Z : FVec Ideal S2x16384x2328 .f32) : FVec Ideal S2x2x128x80x128 .bf16 :=
  truncf .bf16 ((concatenate S2x2x128x80x128 3 [⟨S2x2x128x64x128, ((transpose S2x2x128x64x128 [0, 3, 1, 4, 2] (shapeCast _ (shapeCast _ (extractStridedSlice S2x16384x1x2x64 ![0, 0, 5, 0, 0] (shapeCast _ (extractStridedSlice S2x16384x768 ![0, 0, 512] Z slices_S2x16384x2328_S2x16384x768_0_0_512) shapeCasts_S2x16384x768_S2x16384x6x2x64) slices_S2x16384x6x2x64_S2x16384x1x2x64_0_0_5_0_0) shapeCasts_S2x16384x1x2x64_S2x16384x2x64) shapeCasts_S2x16384x2x64_S2x128x128x2x64) transposes_S2x128x128x2x64_S2x2x128x64x128_0_3_1_4_2) : (⟨S2x2x128x64x128, .f32⟩ : BufTy).Contents (Elt Ideal))⟩, ⟨S2x2x128x1x128, ((broadcastInDim S2x2x128x1x128 ![] bcast_S_S2x2x128x1x128 (constant (F := Ideal) S_ .f32 0x3F800000#32)) : (⟨S2x2x128x1x128, .f32⟩ : BufTy).Contents (Elt Ideal))⟩, ⟨S2x2x128x15x128, ((broadcastInDim S2x2x128x15x128 ![] bcast_S_S2x2x128x15x128 (constant (F := Ideal) S_ .f32 0x00000000#32)) : (⟨S2x2x128x15x128, .f32⟩ : BufTy).Contents (Elt Ideal))⟩] concatenates_S2x2x128x64x128_S2x2x128x1x128_S2x2x128x15x128_S2x2x128x80x128_d3 : (⟨S2x2x128x80x128, .f32⟩ : BufTy).Contents (Elt Ideal))) bitsLt_bf16_f32
/-- The recurrence's channels. -/
def r_lru (Z : FVec Ideal S2x16384x2328 .f32) : FVec Ideal S32768x512 .f32 :=
  shapeCast _ (extractStridedSlice S2x16384x512 ![0, 0, 1304] Z slices_S2x16384x2328_S2x16384x512_0_0_1304) shapeCasts_S2x16384x512_S32768x512
/-- The convolution's channels. -/
def r_cv (Z : FVec Ideal S2x16384x2328 .f32) : FVec Ideal S32768x512 .f32 :=
  shapeCast _ (extractStridedSlice S2x16384x512 ![0, 0, 1816] Z slices_S2x16384x2328_S2x16384x512_0_0_1816) shapeCasts_S2x16384x512_S32768x512
/-- The gates. -/
def r_gates (Z : FVec Ideal S2x16384x2328 .f32) : FVec Ideal S2x32x16384 .f32 :=
  transpose S2x32x16384 [0, 2, 1] (pad S2x16384x32 ![0, 0, 0] ![0, 0, 8] ![0, 0, 0] (Host.divf (broadcastInDim S2x16384x24 ![] bcast_S_S2x16384x24 (constant S_ .f32 0x3F800000#32)) (addf (broadcastInDim S2x16384x24 ![] bcast_S_S2x16384x24 (constant S_ .f32 0x3F800000#32)) (Host.exp (Host.negf (extractStridedSlice S2x16384x24 ![0, 0, 1280] Z slices_S2x16384x2328_S2x16384x24_0_0_1280))))) (id (constant S_ .f32 0x3F000000#32)) pads_S2x16384x24_S2x16384x32_000_000_080 h_S_) transposes_S2x16384x32_S2x32x16384_0_2_1

theorem hn_at (A0 : FVec Ideal S2x16384x1024 .f32) (A1 : FVec Ideal S1024 .f32) (b : Fin 2) (n : Fin 16384) (j : Fin 1024) :
    (rHn A0 A1 (ix3 b n j) : EReal) = norm (Ideal.ofBits .f32 1149239296#32) (fun x => A0 (ix3 b n x)) (fun x => A1 (ix1 x)) j := by
  pointwise [rHn]
  rfl
theorem z_at (HN : FVec Ideal S2x16384x1024 .f32) (A2 : FVec Ideal S1024x2328 .f32) (b : Fin 2) (n : Fin 16384) (j : Fin 2328) :
    (rZ HN A2 (ix3 b n j) : EReal) = ∑ k : Fin 1024, HN (ix3 b n k) * A2 (ix2 k j) := by
  pointwise [rZ]

/-! ## The results over a projection `Z` of the tokens of `P` -/

theorem at_split (n : Fin 32768) : Args.at_ ⟨n / 16384, by omega⟩ ⟨n % 16384, by omega⟩ = n := Fin.ext (by show 16384 * (n.val / 16384) + n.val % 16384 = n.val; omega)
theorem one_hot : ∀ n d : Fin 64, (IntOp.cmpi CmpIPredicate.eq (IntOp.addi (BitVec.ofNat 32 n.val) 0#32) (BitVec.ofNat 32 d.val)) = if d.val = n.val then 1#1 else 0#1 := by decide +kernel
section
variable (Z : FVec Ideal S2x16384x2328 .f32) (P : Args) (hZ : ∀ (b : Fin 2) (s : Fin 16384) (j : Fin 2328), (Z (ix3 b s j) : EReal) = P.z (Args.at_ b s) j)
include hZ

theorem q_at (A3 : FVec Ideal S64 .f32) (hq : ∀ j : Fin 64, (A3 (ix1 j) : EReal) = P.qn j) (n : Fin 32768) (j : Fin 512) : (r_q Z A3 (ix2 n j) : EReal) = P.q n j := by
  pointwise [r_q]
  simp only [hZ, hq, at_split]
  unfold Args.q Args.inv
  have e : ∀ x : Fin 64, (⟨j.val / 64 * 64 + x.val, by omega⟩ : Fin 2328) = ⟨64 * (j.val / 64) + x.val, by omega⟩ := fun x => Fin.ext (by simp only; omega)
  simp only [e]
theorem cmp_at (n : Fin 2048) (j : Fin 4096) : (r_cmp Z (ix2 n j) : EReal) = P.cmp n j := by
  pointwise [r_cmp]
  rw [hZ]
  unfold Args.cmp
  refine congrArg₂ _ (Fin.ext ?_) (Fin.ext ?_)
  · show 16384 * (n.val / 1024) + (n.val % 1024 * 16 + j.val / 256) = 16 * n.val + j.val / 256
    omega
  · simp only; omega
theorem kslc_at (A4 : FVec Ideal S3x64 .f32) (hk : ∀ (b : Fin 3) (j : Fin 64), (A4 (ix2 b j) : EReal) = P.kn b j) (b a : Fin 2) (s : Fin 16384) (d : Fin 128) : (r_kslc Z A4 (ix4 b a s d) : EReal) = P.kslc b a s d := by
  pointwise [r_kslc]
  simp only [hZ, hk]
  unfold Args.kslc Args.inv
  by_cases hd : d.val < 64
  · simp only [dif_pos hd]
    have e : ∀ x : Fin 64, (⟨512 + (256 + a.val * 64 + x.val), by omega⟩ : Fin 2328) = ⟨768 + 64 * a.val + x.val, by omega⟩ := fun x => Fin.ext (by simp only; omega)
    have e' := e ⟨d, hd⟩
    simp only at e'
    simp only [e, e']
  · simp only [dif_neg hd]
    rw [one_hot ⟨s / 64 % 64, by omega⟩ ⟨d - 64, by omega⟩]
    simp only
    by_cases h : d.val - 64 = s.val / 64 % 64
    · rw [if_pos h, if_pos (by omega)]
      show (((1#1 : BitVec 1).toNat : ℝ) : EReal) = 1
      simp
    · rw [if_neg h, if_neg (by omega)]
      show (((0#1 : BitVec 1).toNat : ℝ) : EReal) = 0
      simp
theorem kwin_at (A4 : FVec Ideal S3x64 .f32) (hk : ∀ (b : Fin 3) (j : Fin 64), (A4 (ix2 b j) : EReal) = P.kn b j) (b a : Fin 2) (s : Fin 16384) (d : Fin 128) : (r_kwin Z A4 (ix4 b a s d) : EReal) = P.kwin b a s d := by
  pointwise [r_kwin]
  simp only [hZ, hk]
  unfold Args.kwin Args.inv
  by_cases hd : d.val < 64
  · simp only [dif_pos hd]
    have e : ∀ x : Fin 64, (⟨512 + (512 + a.val * 64 + x.val), by omega⟩ : Fin 2328) = ⟨1024 + 64 * a.val + x.val, by omega⟩ := fun x => Fin.ext (by simp only; omega)
    have e' := e ⟨d, hd⟩
    simp only at e'
    simp only [e, e']
  · simp only [dif_neg hd]
theorem vslc_at (b a : Fin 2) (r : Fin 128) (d : Fin 80) (l : Fin 128) : (r_vslc Z (ix5 b a r d l) : EReal) = P.vals 896 (by omega) b a r d l := by
  pointwise [r_vslc]
  simp only [hZ]
  unfold Args.vals
  by_cases hd : d.val < 64
  · simp only [dif_pos hd]
    exact congrArg₂ (fun p q => P.z (Args.at_ b p) q) (Fin.ext (by simp only; omega)) (Fin.ext (by simp only; omega))
  · simp only [dif_neg hd]
    by_cases h : d.val = 64
    · rw [if_pos h, dif_pos (by omega)]
    · rw [if_neg h, dif_neg (by omega)]
theorem vwin_at (b a : Fin 2) (r : Fin 128) (d : Fin 80) (l : Fin 128) : (r_vwin Z (ix5 b a r d l) : EReal) = P.vals 1152 (by omega) b a r d l := by
  pointwise [r_vwin]
  simp only [hZ]
  unfold Args.vals
  by_cases hd : d.val < 64
  · simp only [dif_pos hd]
    exact congrArg₂ (fun p q => P.z (Args.at_ b p) q) (Fin.ext (by simp only; omega)) (Fin.ext (by simp only; omega))
  · simp only [dif_neg hd]
    by_cases h : d.val = 64
    · rw [if_pos h, dif_pos (by omega)]
    · rw [if_neg h, dif_neg (by omega)]
theorem lru_at (n : Fin 32768) (j : Fin 512) : (r_lru Z (ix2 n j) : EReal) = P.lru n j := by
  pointwise [r_lru]
  simp only [hZ, at_split]
  rfl
theorem cv_at (n : Fin 32768) (j : Fin 512) : (r_cv Z (ix2 n j) : EReal) = P.cv n j := by
  pointwise [r_cv]
  simp only [hZ, at_split]
  rfl
theorem gates_at (b : Fin 2) (i : Fin 32) (s : Fin 16384) : (r_gates Z (ix3 b i s) : EReal) = P.gates b i s := by
  pointwise [r_gates]
  simp only [hZ]
  rfl
end

variable (m : (ℓ : Loc nD τ sig) → Buf (Elt Ideal) ℓ)

/-- The arguments: token `n` of the 32768 is step `n mod 16384` of batch `n / 16384`. -/
def args (c : Dev nD) : Args where
  x n j := (show FVec Ideal S2x16384x1024 .f32 from m ((c.tc : Thread nD τ).loc main_arg0)) (ix3 ⟨n / 16384, by omega⟩ ⟨n % 16384, by omega⟩ j)
  g j := (show FVec Ideal S1024 .f32 from m ((c.tc : Thread nD τ).loc main_arg1)) (ix1 j)
  w k j := (show FVec Ideal S1024x2328 .f32 from m ((c.tc : Thread nD τ).loc main_arg2)) (ix2 k j)
  qn j := (show FVec Ideal S64 .f32 from m ((c.tc : Thread nD τ).loc main_arg3)) (ix1 j)
  kn b j := (show FVec Ideal S3x64 .f32 from m ((c.tc : Thread nD τ).loc main_arg4)) (ix2 b j)
/-- Their projection. -/
def proj (c : Dev nD) : FVec Ideal S2x16384x2328 .f32 := rZ (rHn (m ((c.tc : Thread nD τ).loc main_arg0)) (m ((c.tc : Thread nD τ).loc main_arg1))) (m ((c.tc : Thread nD τ).loc main_arg2))
theorem proj_at (c : Dev nD) (b : Fin 2) (s : Fin 16384) (j : Fin 2328) : (proj m c (ix3 b s j) : EReal) = (args m c).z (Args.at_ b s) j := by
  refine (z_at _ _ b s j).trans ?_
  unfold Args.z
  refine Finset.sum_congr rfl fun k _ => congrArg₂ _ ((hn_at _ _ b s k).trans ?_) rfl
  unfold Args.hn
  refine congrArg₂ (fun y g => norm _ y g k) (funext fun x => ?_) rfl
  have h0 : (Args.at_ b s).val / 16384 = b.val := by show (16384 * b.val + s.val) / 16384 = b.val; omega
  have h1 : (Args.at_ b s).val % 16384 = s.val := by show (16384 * b.val + s.val) % 16384 = s.val; omega
  exact congrArg₂ (fun p q => (show FVec Ideal S2x16384x1024 .f32 from m ((c.tc : Thread nD τ).loc main_arg0)) (ix3 p q x)) (Fin.ext h0.symm) (Fin.ext h1.symm)
def res_q (c : Dev nD) : FVec Ideal S32768x512 .bf16 := fun i => (args m c).q (i 0) (i 1)
theorem result_q (c : Dev nD) : r_q (proj m c) (m ((c.tc : Thread nD τ).loc main_arg3)) = res_q m c := by
  funext i
  idx_vars i
  exact q_at _ (args m c) (proj_at m c) _ (fun _ => rfl) _ _
def res_cmp (c : Dev nD) : FVec Ideal S2048x4096 .bf16 := fun i => (args m c).cmp (i 0) (i 1)
theorem result_cmp (c : Dev nD) : r_cmp (proj m c) = res_cmp m c := by
  funext i
  idx_vars i
  exact cmp_at _ (args m c) (proj_at m c) _ _
def res_kslc (c : Dev nD) : FVec Ideal S2x2x16384x128 .bf16 := fun i => (args m c).kslc (i 0) (i 1) (i 2) (i 3)
theorem result_kslc (c : Dev nD) : r_kslc (proj m c) (m ((c.tc : Thread nD τ).loc main_arg4)) = res_kslc m c := by
  funext i
  idx_vars i
  exact kslc_at _ (args m c) (proj_at m c) _ (fun _ _ => rfl) _ _ _ _
def res_kwin (c : Dev nD) : FVec Ideal S2x2x16384x128 .bf16 := fun i => (args m c).kwin (i 0) (i 1) (i 2) (i 3)
theorem result_kwin (c : Dev nD) : r_kwin (proj m c) (m ((c.tc : Thread nD τ).loc main_arg4)) = res_kwin m c := by
  funext i
  idx_vars i
  exact kwin_at _ (args m c) (proj_at m c) _ (fun _ _ => rfl) _ _ _ _
def res_vslc (c : Dev nD) : FVec Ideal S2x2x128x80x128 .bf16 := fun i => (args m c).vals 896 (by omega) (i 0) (i 1) (i 2) (i 3) (i 4)
theorem result_vslc (c : Dev nD) : r_vslc (proj m c) = res_vslc m c := by
  funext i
  idx_vars i
  exact vslc_at _ (args m c) (proj_at m c) _ _ _ _ _
def res_vwin (c : Dev nD) : FVec Ideal S2x2x128x80x128 .bf16 := fun i => (args m c).vals 1152 (by omega) (i 0) (i 1) (i 2) (i 3) (i 4)
theorem result_vwin (c : Dev nD) : r_vwin (proj m c) = res_vwin m c := by
  funext i
  idx_vars i
  exact vwin_at _ (args m c) (proj_at m c) _ _ _ _ _
def res_lru (c : Dev nD) : FVec Ideal S32768x512 .f32 := fun i => (args m c).lru (i 0) (i 1)
theorem result_lru (c : Dev nD) : r_lru (proj m c) = res_lru m c := by
  funext i
  idx_vars i
  exact lru_at _ (args m c) (proj_at m c) _ _
def res_cv (c : Dev nD) : FVec Ideal S32768x512 .f32 := fun i => (args m c).cv (i 0) (i 1)
theorem result_cv (c : Dev nD) : r_cv (proj m c) = res_cv m c := by
  funext i
  idx_vars i
  exact cv_at _ (args m c) (proj_at m c) _ _
def res_gates (c : Dev nD) : FVec Ideal S2x32x16384 .f32 := fun i => (args m c).gates (i 0) (i 1) (i 2)
theorem result_gates (c : Dev nD) : r_gates (proj m c) = res_gates m c := by
  funext i
  idx_vars i
  exact gates_at _ (args m c) (proj_at m c) _ _ _

/-- The reference's run, its results named. -/
theorem run_res (ρ : Dev nD → PrngReg) :
    θ_run defs (onTc (τ := τ) (main (F := Ideal))) ⟨m, fun _ => 0, ρ⟩ fun r => ∀ c : Dev nD,
      r.2.mem ((c.tc : Thread nD τ).loc main_v107) = res_q m c
      ∧ r.2.mem ((c.tc : Thread nD τ).loc main_v108) = res_cmp m c
      ∧ r.2.mem ((c.tc : Thread nD τ).loc main_v109) = res_kslc m c
      ∧ r.2.mem ((c.tc : Thread nD τ).loc main_v110) = res_kwin m c
      ∧ r.2.mem ((c.tc : Thread nD τ).loc main_v111) = res_vslc m c
      ∧ r.2.mem ((c.tc : Thread nD τ).loc main_v112) = res_vwin m c
      ∧ r.2.mem ((c.tc : Thread nD τ).loc main_v114) = res_lru m c
      ∧ r.2.mem ((c.tc : Thread nD τ).loc main_v116) = res_cv m c
      ∧ r.2.mem ((c.tc : Thread nD τ).loc main_v89) = res_gates m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Cert.Reference3Ideal.Value.run m ρ) fun r h c => by
    obtain ⟨hq, hcmp, hkslc, hkwin, hvslc, hvwin, hlru, hcv, hgates, kept⟩ := h c
    exact ⟨hq.trans (result_q m c), hcmp.trans (result_cmp m c), hkslc.trans (result_kslc m c), hkwin.trans (result_kwin m c), hvslc.trans (result_vslc m c), hvwin.trans (result_vwin m c), hlru.trans (result_lru m c), hcv.trans (result_cv m c), hgates.trans (result_gates m c), kept⟩

end Cert.Reference3Ideal.ValueProof
end
-- ==== Proof.InPre.lean ====
/- What the input projection's precondition says of its arguments: every entry of the residual stream, the norm's gain and the
   weights is a real number. -/
module

public import proofs.«01_k».proof.Defs
public import proofs.«01_k».proof.Proof.InBlocks
public import proofs.«01_k».proof.Proof.InRef

@[expose] public section

set_option maxRecDepth 16384

noncomputable section

namespace Cert.InProj

open Idealize.ShloMosaic Idealize.SL.Sem Cert

theorem preFacts : Cert.Pre_finite.Facts where
  bcast_S_S2x16384x1024 := by decide
  bcast_S_S1024 := by decide
  bcast_S_S1024x2328 := by decide

/-- A value whose absolute value is below infinity is a real number. -/
theorem fin_of_lt (x : EReal) (h : Ideal.cmp .olt (max x (-x)) (Ideal.ofBits .f32 0x7F800000#32) = 1#1) : Fin? x := by
  have top : Ideal.ofBits .f32 0x7F800000#32 = ⊤ := by simp [Ideal.ofBits, Ideal.ieee]
  rw [top] at h
  induction x with
  | bot => simp [Ideal.cmp] at h
  | top => simp [Ideal.cmp] at h
  | coe r => exact ⟨r, rfl⟩

theorem finite_of_pre (m : (ℓ : Loc Cert.Kernel3Ideal.nD Cert.Kernel3Ideal.τ Cert.Kernel3Ideal.sig) → Buf (Elt Ideal) ℓ)
    (h : Pre_Kernel3Ideal_finite (hPre_finite := preFacts) m) (c : Dev Cert.Kernel3Ideal.nD) : (Cert.Kernel3Ideal.ValueProof.args m c).Finite := by
  obtain ⟨hx, hg, hw⟩ := h c
  exact ⟨fun n k => fin_of_lt _ (congrFun hx (ix3 ⟨n / 16384, by omega⟩ ⟨n % 16384, by omega⟩ k)), fun k => fin_of_lt _ (congrFun hg (ix1 k)),
    fun k j => fin_of_lt _ (congrFun hw (ix2 k j))⟩

/-- The two programs' arguments are the same arrays. -/
theorem args_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.ValueProof.args m' c = Cert.Kernel3Ideal.ValueProof.args m c := by
  obtain ⟨h0, h1, h2, h3, h4⟩ := h
  unfold Cert.Reference3Ideal.ValueProof.args
  simp only [h0, h1, h2, h3, h4]
  rfl

end Cert.InProj

end
-- ==== Proof.CmpSpec.lean ====
/- The compression of 32 tokens' keys and values into one, in plain mathematics over the extended reals. -/
module

public import proofs.«01_k».proof.Proof.Spec
public import proofs.«01_k».proof.Proof.InSpec

@[expose] public section

set_option maxRecDepth 16384

noncomputable section

namespace Cert.Cmp
open Idealize.ShloMosaic Cert.InProj
open Cert.Mix (gelu)

theorem Fin?.add {x y : EReal} (hx : Fin? x) (hy : Fin? y) : Fin? (x + y) := by
  obtain ⟨a, rfl⟩ := hx
  obtain ⟨b, rfl⟩ := hy
  exact ⟨a + b, (EReal.coe_add a b).symm⟩
/-- Products with a real distribute over sums of reals. -/
theorem Fin?.add_mul {x y z : EReal} (hx : Fin? x) (hy : Fin? y) (hz : Fin? z) : (x + y) * z = x * z + y * z := by
  obtain ⟨a, rfl⟩ := hx
  obtain ⟨b, rfl⟩ := hy
  obtain ⟨c, rfl⟩ := hz
  rw [← EReal.coe_add, ← EReal.coe_mul, ← EReal.coe_mul, ← EReal.coe_mul, ← EReal.coe_add, _root_.add_mul]
theorem half_fin : Fin? (Ideal.ofBits .f32 1056964608#32) :=
  ⟨_, show Ideal.ofBits .f32 1056964608#32 = ((_ : ℝ) : EReal) from by simp [Ideal.ofBits, Ideal.ieee, -EReal.coe_mul]; rfl⟩
theorem root_fin : Fin? (Ideal.ofBits .f32 1061962282#32) :=
  ⟨_, show Ideal.ofBits .f32 1061962282#32 = ((_ : ℝ) : EReal) from by simp [Ideal.ofBits, Ideal.ieee, -EReal.coe_mul]; rfl⟩
theorem cubic_fin : Fin? (Ideal.ofBits .f32 1027024659#32) :=
  ⟨_, show Ideal.ofBits .f32 1027024659#32 = ((_ : ℝ) : EReal) from by simp [Ideal.ofBits, Ideal.ieee, -EReal.coe_mul]; rfl⟩
theorem Fin?.tanh {x : EReal} (hx : Fin? x) : Fin? (Ideal.tanh x) := by
  obtain ⟨a, rfl⟩ := hx
  exact ⟨_, rfl⟩
/-- The tanh form of GELU of a real is a real. -/
theorem gelu_fin {x : EReal} (hx : Fin? x) : Fin? (gelu x) :=
  hx.mul (half_fin.mul (Fin?.add ⟨1, rfl⟩ (Fin?.tanh (root_fin.mul (Fin?.add hx (cubic_fin.mul ((hx.mul hx).mul hx)))))))

/-- The mean over a head's 64 channels, taken as the contraction of a row of 128 with the block diagonal of 1/64, in two parts of which the second is nothing. -/
theorem head_mean (s : Fin 128 → EReal) (hs : ∀ k, Fin? (s k)) (b : Fin 128 → EReal) (c : Fin 128)
    (hb : ∀ k, b k = if k.val / 64 = c.val / 64 then ((1 / 64 : ℝ) : EReal) else 0) :
    (∑ k, s k * b k) + (∑ k, (s k - s k) * b k) = Ideal.div (∑ x : Fin 64, s ⟨64 * (c / 64) + x, by omega⟩) (Ideal.ofBits .f32 0x42800000#32) := by
  choose r hr using hs
  have h2 : (∑ k, (s k - s k) * b k) = 0 := Finset.sum_eq_zero fun k _ => by
    rw [hr k, ← EReal.coe_sub, sub_self, EReal.coe_zero, zero_mul]
  have h1 : (∑ k, s k * b k) = ((∑ k, r k * (if k.val / 64 = c.val / 64 then 1 / 64 else 0) : ℝ) : EReal) := by
    rw [coe_sum]
    refine Finset.sum_congr rfl fun k _ => ?_
    rw [hb k, hr k]
    split
    · rw [EReal.coe_mul]
    · rw [EReal.coe_mul, EReal.coe_zero]
  have h3 : (∑ x : Fin 64, s ⟨64 * (c / 64) + x, by omega⟩) = ((∑ x : Fin 64, r ⟨64 * (c / 64) + x, by omega⟩ : ℝ) : EReal) := by
    rw [coe_sum]
    exact Finset.sum_congr rfl fun x _ => hr _
  rw [h2, add_zero, h1, h3, d64, Ideal.div_coe (by norm_num), ← EReal.coe_mul]
  congr 1
  have e := Fin.sum_univ_tiles 2 64 rfl fun k : Fin 128 => r k * (if k.val / 64 = c.val / 64 then (1 / 64 : ℝ) else 0)
  rw [e, Finset.sum_eq_single (⟨c / 64, by omega⟩ : Fin 2), Finset.sum_mul]
  · refine Finset.sum_congr rfl fun x _ => ?_
    have hx : (c.val / 64 * 64 + x.val) / 64 = c.val / 64 := by omega
    simp only [hx, if_true]
    congr 2
    exact Fin.ext (by simp only; omega)
  · intro a _ ha
    refine Finset.sum_eq_zero fun x _ => ?_
    have hx : ¬ (a.val * 64 + x.val) / 64 = c.val / 64 := fun h => ha (Fin.ext (by simp only; omega))
    simp only [hx, if_false, mul_zero]
  · exact fun h => absurd (Finset.mem_univ _) h

/-! ## Contractions with weights that are 0 off one slot -/

/-- Rows of 16 times 4 slots times 64: a contraction with weights that are 0 but in slot `t` runs over the 16 times 64 rows of that slot. -/
theorem sum_slot (f : Fin 4096 → EReal) (g : Fin 4096 → EReal) (G : Fin 1024 → EReal) (t : Fin 4)
    (hg : ∀ k : Fin 4096, g k = if k.val / 64 % 4 = t.val then G ⟨64 * (k / 256) + k % 64, by omega⟩ else 0) :
    (∑ k, f k * g k) = ∑ r : Fin 1024, f ⟨256 * (r / 64) + 64 * t + r % 64, by omega⟩ * G r := by
  rw [Fin.sum_univ_tiles 16 256 rfl fun k => f k * g k, Fin.sum_univ_tiles 16 64 rfl]
  refine Finset.sum_congr rfl fun p _ => ?_
  rw [Fin.sum_univ_tiles 4 64 rfl, Finset.sum_eq_single t]
  · refine Finset.sum_congr rfl fun x _ => ?_
    rw [hg]
    refine (congrArg _ (if_pos (by simp only; omega))).trans (congrArg₂ (fun a b => f a * G b) (Fin.ext (by simp only; omega)) (Fin.ext (by simp only; omega)))
  · intro s _ hs
    refine Finset.sum_eq_zero fun x _ => ?_
    rw [hg]
    exact (congrArg _ (if_neg fun h => hs (Fin.ext (by simp only at h; omega)))).trans (mul_zero _)
  · exact fun h => absurd (Finset.mem_univ _) h
/-- The same over 4 slots of 128. -/
theorem sum_slot' (f : Fin 512 → EReal) (g : Fin 512 → EReal) (G : Fin 128 → EReal) (t : Fin 4)
    (hg : ∀ k : Fin 512, g k = if k.val / 128 = t.val then G ⟨k % 128, by omega⟩ else 0) :
    (∑ k, f k * g k) = ∑ e : Fin 128, f ⟨128 * t + e, by omega⟩ * G e := by
  rw [Fin.sum_univ_tiles 4 128 rfl fun k => f k * g k, Finset.sum_eq_single t]
  · refine Finset.sum_congr rfl fun x _ => ?_
    rw [hg]
    refine (congrArg _ (if_pos (by simp only; omega))).trans (congrArg₂ (fun a b => f a * G b) (Fin.ext (by simp only; omega)) (Fin.ext (by simp only; omega)))
  · intro s _ hs
    refine Finset.sum_eq_zero fun x _ => ?_
    rw [hg]
    exact (congrArg _ (if_neg fun h => hs (Fin.ext (by simp only at h; omega)))).trans (mul_zero _)
  · exact fun h => absurd (Finset.mem_univ _) h
theorem sum_halves (f : Fin 2048 → EReal) : (∑ r, f r) = (∑ r : Fin 1024, f ⟨r, by omega⟩) + ∑ r : Fin 1024, f ⟨1024 + r, by omega⟩ :=
  Fin.sum_univ_add (a := 1024) (b := 1024) f

/-! ## The compression -/

/-- The keys (0) and values (1) to be compressed, and the compression's weights. -/
structure Args where
  kv : Fin 2 → Fin 16384 → Fin 2 → Fin 2 → Fin 64 → EReal
  kn : Fin 64 → EReal
  pos : Fin 2 → Fin 32 → Fin 64 → EReal
  w1 : Fin 2 → Fin 2048 → Fin 128 → EReal
  w2 : Fin 2 → Fin 128 → Fin 64 → EReal

namespace Args
variable (P : Args)
/-- Entry `r` of the 32 tokens from token `16 i` on, laid end to end; the token after the last is the first. -/
def x (t b : Fin 2) (i : Fin 1024) (h : Fin 2) (r : Fin 2048) : EReal := P.kv b ⟨(16 * i + r / 64) % 16384, by omega⟩ t h ⟨r % 64, by omega⟩
/-- Entry `r` of the 32 positions' embeddings. -/
def p (t : Fin 2) (r : Fin 2048) : EReal := P.pos t ⟨r / 64, by omega⟩ ⟨r % 64, by omega⟩
/-- The hidden channel `e`, before and after its nonlinearity. -/
def pre (t b : Fin 2) (i : Fin 1024) (h : Fin 2) (e : Fin 128) : EReal := ∑ r, (P.x t b i h r + P.p t r) * P.w1 t r e
def hid (t b : Fin 2) (i : Fin 1024) (h : Fin 2) (e : Fin 128) : EReal := gelu (P.pre t b i h e)
/-- The compressed key or value. -/
def out (t b : Fin 2) (i : Fin 1024) (h : Fin 2) (d : Fin 64) : EReal := ∑ e, P.hid t b i h e * P.w2 t e d
/-- The compressed keys, normalised, each followed by 0. -/
def kc (b h : Fin 2) (i : Fin 1024) (l : Fin 128) : EReal :=
  if hl : l.val < 64 then P.out 0 b i h ⟨l, hl⟩ * Ideal.rsqrt (Ideal.div (∑ d, P.out 0 b i h d * P.out 0 b i h d) (Ideal.ofBits .f32 0x42800000#32) + Ideal.ofBits .f32 897988541#32) * P.kn ⟨l, hl⟩
  else 0
/-- The compressed values. -/
def vc (b h : Fin 2) (d : Fin 64) (i : Fin 1024) : EReal := P.out 1 b i h d

/-- What is compressed, the positions, the first weights and the second weights of the keys are real numbers. -/
def Finite : Prop := (∀ b s t h d, Fin? (P.kv b s t h d)) ∧ (∀ t u d, Fin? (P.pos t u d)) ∧ (∀ t r e, Fin? (P.w1 t r e)) ∧ ∀ e d, Fin? (P.w2 0 e d)
variable {P}
theorem out_fin (hf : P.Finite) (b : Fin 2) (i : Fin 1024) (h : Fin 2) (d : Fin 64) : Fin? (P.out 0 b i h d) :=
  Fin?.sum fun _ => (gelu_fin (Fin?.sum fun _ => (Fin?.add (hf.1 _ _ _ _ _) (hf.2.1 _ _ _)).mul (hf.2.2.1 _ _ _))).mul (hf.2.2.2 _ _)
/-- The hidden channel as the sum of its four parts: the first 16 tokens', the next 16 tokens', and the positions' two halves. -/
theorem pre_parts (hf : P.Finite) (t b : Fin 2) (i : Fin 1024) (h : Fin 2) (e : Fin 128) :
    P.pre t b i h e = (∑ r : Fin 1024, P.x t b i h ⟨r, by omega⟩ * P.w1 t ⟨r, by omega⟩ e) + (∑ r : Fin 1024, P.x t b i h ⟨1024 + r, by omega⟩ * P.w1 t ⟨1024 + r, by omega⟩ e)
      + ((∑ r : Fin 1024, P.p t ⟨r, by omega⟩ * P.w1 t ⟨r, by omega⟩ e) + ∑ r : Fin 1024, P.p t ⟨1024 + r, by omega⟩ * P.w1 t ⟨1024 + r, by omega⟩ e) := by
  unfold pre
  rw [← sum_halves fun r => P.x t b i h r * P.w1 t r e, ← sum_halves fun r => P.p t r * P.w1 t r e, ← Finset.sum_add_distrib]
  exact Finset.sum_congr rfl fun r _ => Fin?.add_mul (hf.1 _ _ _ _ _) (hf.2.1 _ _ _) (hf.2.2.1 _ _ _)
end Args
end Cert.Cmp
end
-- ==== Proof.CmpPay.lean ====
/- The compression's kernel: the stages of its body at coordinates. -/
module

public import proofs.«01_k».proof.Proof.Gen.Kernel4Ideal.Value
public import proofs.«01_k».proof.Proof.CmpSpec

@[expose] public section

set_option maxRecDepth 16384

noncomputable section

namespace Cert.Kernel4Ideal.ValueProof
open Idealize.ShloMosaic.StableHlo Cert.Kernel4Ideal Cert.Kernel4Ideal.Gen Cert.Kernel4Ideal.Value Idealize.ShloMosaic Idealize.ShloMosaic.TcCoe Idealize.SL.Sem Cert.InProj
open Cert.Mix (gelu)

/-- The hidden row `i` at column `k`, before its nonlinearity: this row's first half, the next row's second half, and the positions' two halves. -/
def hrow (x : Vec Ideal S1x1024x4096 .bf16) (w : Vec Ideal S4096x1024 .bf16) (p : Vec Ideal S8x4096 .bf16) (i : Fin 1024) (k : Fin 512) : EReal :=
  (∑ q : Fin 4096, x (ix3 0 i q) * w (ix2 q ⟨k, by omega⟩)) + (∑ q : Fin 4096, x (ix3 0 ⟨(i + 1) % 1024, by omega⟩ q) * w (ix2 q ⟨512 + k, by omega⟩))
    + ((∑ q : Fin 4096, p (ix2 0 q) * w (ix2 q ⟨k, by omega⟩)) + ∑ q : Fin 4096, p (ix2 1 q) * w (ix2 q ⟨512 + k, by omega⟩))
theorem gelu_eq (z : EReal) : Ideal.ofBits .f32 1056964608#32 * z * (1 + Ideal.tanh (Ideal.ofBits .f32 1061962282#32 * (z + Ideal.ofBits .f32 1027024659#32 * (z * z * z)))) = gelu z := by
  unfold gelu
  rw [mul_comm (Ideal.ofBits .f32 1056964608#32) z, mul_assoc]
theorem pay3_at (x : Vec Ideal S1x1024x4096 .bf16) (w : Vec Ideal S4096x1024 .bf16) (p : Vec Ideal S8x4096 .bf16) (w2 : Vec Ideal S512x256 .bf16) (i : Fin 1024) (j : Fin 256) :
    (k0_pay3 x w p w w2 (ix2 i j) : EReal) = ∑ k : Fin 512, gelu (hrow x w p i k) * w2 (ix2 k j) := by
  pointwise [k0_pay3]
  refine Finset.sum_congr rfl fun k _ => congrArg₂ _ ((?_ : _ = _).trans (gelu_eq _)) rfl
  have e : (⟨(i.val + 1024 - 1023) % 1024, by omega⟩ : Fin 1024) = ⟨(i + 1) % 1024, by omega⟩ := Fin.ext (by simp only; omega)
  unfold hrow
  rw [← e]
theorem lane_lt : ∀ d : Fin 128, IntOp.cmpi CmpIPredicate.slt (BitVec.ofNat 32 ↑d) 64#32 = if d.val < 64 then 1#1 else 0#1 := by decide +kernel
theorem select_one (c : BitVec 1) (p : Prop) [Decidable p] (hc : c = if p then 1#1 else 0#1) (a b : EReal) : Scalar.select c a b = if p then a else b := by
  subst hc
  split <;> rfl
/-- A column's head scale over a row of 128. -/
def scale (z : Fin 128 → EReal) (b : Fin 128 → EReal) : EReal :=
  Ideal.rsqrt ((∑ k, z k * z k * b k) + (∑ k, (z k * z k - z k * z k) * b k) + Ideal.ofBits .f32 897988541#32)
theorem pay5_at (z : FVec Ideal S1024x128 .f32) (bd : Vec Ideal S128x128 .bf16) (v : Vec Ideal S1x128 .f32) (i : Fin 1024) (j : Fin 128) :
    (k0_pay5 z bd v (ix2 i j) : EReal) = z (ix2 i j) * scale (fun k => z (ix2 i k)) (fun k => bd (ix2 k j)) * v (ix2 0 j) := by
  pointwise [k0_pay5]
  rfl
theorem pay7_at (z : FVec Ideal S1024x128 .f32) (bd : Vec Ideal S128x128 .bf16) (v : Vec Ideal S1x128 .f32) (i : Fin 1024) (l : Fin 128) :
    (k0_pay7 z bd v (ix4 0 0 i l) : EReal) = if l.val < 64 then k0_pay5 z bd v (ix2 i l) else 0 := by
  pointwise [k0_pay7, k0_pay6]
  exact select_one _ _ (lane_lt l) _ _
theorem pay8_at (z : FVec Ideal S1024x128 .f32) (bd : Vec Ideal S128x128 .bf16) (v : Vec Ideal S1x128 .f32) (i : Fin 1024) (l : Fin 128) :
    (k0_pay8 z bd v (ix4 0 0 i l) : EReal) = if l.val < 64 then k0_pay5 z bd v (ix2 i ⟨(l + 128 - 64) % 128, by omega⟩) else 0 := by
  pointwise [k0_pay8, k0_pay6]
  exact select_one _ _ (lane_lt l) _ _
theorem pay4_at (x : Vec Ideal S1x1024x4096 .bf16) (w : Vec Ideal S4096x1024 .bf16) (p : Vec Ideal S8x4096 .bf16) (w2 : Vec Ideal S512x256 .bf16) (i : Fin 1024) (j : Fin 128) :
    (k0_pay4 x w p w w2 (ix2 i j) : EReal) = k0_pay3 x w p w w2 (ix2 i ⟨j, by omega⟩) := by
  pointwise [k0_pay4]
theorem pay1_at (z : FVec Ideal S1024x256 .f32) (d : Fin 64) (i : Fin 1024) :
    (k0_pay1 (k0_pay10 z) (ix4 0 0 d i) : EReal) = z (ix2 i ⟨128 + d, by omega⟩) := by
  pointwise [k0_pay1, k0_pay10, k0_pay9]
theorem pay2_at (z : FVec Ideal S1024x256 .f32) (d : Fin 64) (i : Fin 1024) :
    (k0_pay2 (k0_pay9 z) (ix4 0 0 d i) : EReal) = z (ix2 i ⟨128 + (64 + d), by omega⟩) := by
  pointwise [k0_pay2, k0_pay9]
end Cert.Kernel4Ideal.ValueProof
end
-- ==== Proof.CmpBlocks.lean ====
/- The compression's kernel: the arrays its call is given, over the arguments, and the blocks its grid points read. -/
module

public import proofs.«01_k».proof.Proof.CmpPay

@[expose] public section

set_option maxRecDepth 16384

noncomputable section

namespace Cert.Kernel4Ideal.ValueProof
open Idealize.ShloMosaic.StableHlo Cert.Kernel4Ideal Cert.Kernel4Ideal.Gen Cert.Kernel4Ideal.Value Idealize.ShloMosaic Idealize.ShloMosaic.TcCoe Idealize.SL.Sem Cert.Cmp

variable (m : (ℓ : Loc nD τ sig) → Buf (Elt Ideal) ℓ)

theorem idx : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![t.val, 0, 0, 0] ∧ win0_7.index t = ![t.val, 0, 0, 0] :=
  (by decide +kernel : ∀ t : Fin grid0.N, _)
theorem t_lt (t : Fin cfg0.N) : t.val < 2 := (by decide +kernel : ∀ t : Fin grid0.N, t.val < 2) t

/-- The arguments. -/
def args (c : Dev nD) : Args where
  kv b s t h d := (show FVec Ideal S2x16384x2x2x64 .f32 from m ((c : Thread nD τ).loc main_arg0)) (ix5 b s t h d)
  kn d := (show FVec Ideal S3x64 .f32 from m ((c : Thread nD τ).loc main_arg1)) (ix2 0 d)
  pos t u d := (show FVec Ideal S2x32x64 .f32 from m ((c : Thread nD τ).loc main_arg2)) (ix3 t u d)
  w1 t r e := (show FVec Ideal S2x2048x128 .f32 from m ((c : Thread nD τ).loc main_arg3)) (ix3 t r e)
  w2 t e d := (show FVec Ideal S2x128x64 .f32 from m ((c : Thread nD τ).loc main_arg4)) (ix3 t e d)

/-! ## The arrays the call is given -/

theorem uitofp_1 : (FloatOps.uitofp (F := Ideal) FTy.f32 1#1 : EReal) = 1 := by
  show (((1#1 : BitVec 1).toNat : ℝ) : EReal) = 1
  simp
theorem uitofp_0 : (FloatOps.uitofp (F := Ideal) FTy.f32 0#1 : EReal) = 0 := by
  show (((0#1 : BitVec 1).toNat : ℝ) : EReal) = 0
  simp
theorem quot : ∀ k : Fin 128, IntOp.divsi ArithUnit.host (BitVec.ofNat 32 ↑k) 64#32 = BitVec.ofNat 32 (k / 64) := by decide +kernel
theorem same : ∀ a b : Fin 4, IntOp.cmpi CmpIPredicate.eq (BitVec.ofNat 32 a) (BitVec.ofNat 32 b) = if a.val = b.val then 1#1 else 0#1 := by decide +kernel
theorem same0 : ∀ a b : Fin 4, IntOp.cmpi CmpIPredicate.eq (IntOp.addi (BitVec.ofNat 32 a) 0#32) (BitVec.ofNat 32 b) = if a.val = b.val then 1#1 else 0#1 := by decide +kernel
theorem V_94 (c : Dev nD) (b : Fin 2) (i : Fin 1024) (q : Fin 4096) : ((show FVec Ideal S2x1024x4096 .bf16 from V m c main_v94) (ix3 b i q) : EReal) =
    (args m c).kv b ⟨16 * i + q / 256, by omega⟩ ⟨q / 128 % 2, by omega⟩ ⟨q / 64 % 2, by omega⟩ ⟨q % 64, by omega⟩ := by
  unfold V
  simp only [List.flatten_cons, List.flatten_nil, List.append_nil, List.cons_append, List.nil_append]
  after_results
  pointwise [args]
  exact congrArg (fun s => (show FVec Ideal S2x16384x2x2x64 .f32 from m ((c : Thread nD τ).loc main_arg0)) (ix5 b s ⟨q / 128 % 2, by omega⟩ ⟨q / 64 % 2, by omega⟩ ⟨q % 64, by omega⟩)) (Fin.ext (by simp only; omega))
theorem V_106 (c : Dev nD) (k j : Fin 128) : ((show FVec Ideal S128x128 .bf16 from V m c main_v106) (ix2 k j) : EReal) = if k.val / 64 = j.val / 64 then ((1 / 64 : ℝ) : EReal) else 0 := by
  unfold V
  simp only [List.flatten_cons, List.flatten_nil, List.append_nil, List.cons_append, List.nil_append]
  after_results
  pointwise []
  rw [quot k, quot j, same ⟨k / 64, by omega⟩ ⟨j / 64, by omega⟩, show Ideal.ofBits .f32 1115684864#32 = ((64 : ℝ) : EReal) from Cert.InProj.d64, Ideal.div_coe (by norm_num)]
  simp only
  split
  · exact (congrArg (fun q : EReal => q * ((1 / 64 : ℝ) : EReal)) uitofp_1).trans (one_mul _)
  · exact (congrArg (fun q : EReal => q * ((1 / 64 : ℝ) : EReal)) uitofp_0).trans (zero_mul _)
theorem V_112 (c : Dev nD) (j : Fin 128) : ((show FVec Ideal S1x128 .f32 from V m c main_v112) (ix2 0 j) : EReal) = (args m c).kn ⟨j % 64, by omega⟩ := by
  unfold V
  simp only [List.flatten_cons, List.flatten_nil, List.append_nil, List.cons_append, List.nil_append]
  after_results
  pointwise [args]

/-! ### The first weights, a block of rows for each slot -/

/-- One block of 128 columns: the weights `X` at the rows of slot `s`, 0 at the others'. -/
def wpart (s : BitVec 32) (X : FVec Ideal S1x1x16x64x128 .f32) : FVec Ideal S4096x128 .f32 :=
  shapeCast S4096x128 (select (broadcastInDim S16x4x64x128 ![0, 1, 2, 3] bcast_S1x4x1x1_S16x4x64x128_0_1_2_3 (cmpi .eq (shapeCast S1x4x1x1 (iotaInDim S4 32 0) shapeCasts_S4_S1x4x1x1) (broadcastInDim S1x4x1x1 ![] bcast_S_S1x4x1x1 (constantI S_ 32 s))))
    (broadcastInDim S16x4x64x128 ![0, 1, 2, 3] bcast_S16x1x64x128_S16x4x64x128_0_1_2_3 (broadcastInDim S16x1x64x128 ![0, 2, 3] bcast_S16x64x128_S16x1x64x128_0_2_3 (shapeCast S16x64x128 X shapeCasts_S1x1x16x64x128_S16x64x128)))
    (broadcastInDim S16x4x64x128 ![] bcast_S_S16x4x64x128 (show FVec Ideal S_ .f32 from id (constant S_ .f32 0x00000000#32)))) shapeCasts_S16x4x64x128_S4096x128
theorem wpart_at (s : Fin 4) (X : FVec Ideal S1x1x16x64x128 .f32) (k : Fin 4096) (e : Fin 128) :
    (wpart (BitVec.ofNat 32 s) X (ix2 k e) : EReal) = if k.val / 64 % 4 = s.val then X (ix5 0 0 ⟨k / 256, by omega⟩ ⟨k % 64, by omega⟩ e) else 0 := by
  pointwise [wpart]
  refine (select_one _ (k.val / 64 % 4 = s.val) (same ⟨k / 64 % 4, by omega⟩ s) _ _).trans (if_congr Iff.rfl rfl ?_)
  show (constant (F := Ideal) S_ .f32 0x00000000#32 ix0 : EReal) = 0
  pointwise []
/-- The first weights. -/
def wbig (W : FVec Ideal S2x2048x128 .f32) : FVec Ideal S4096x1024 .bf16 :=
  truncf .bf16 (show FVec Ideal S4096x1024 .f32 from (concatenate S4096x1024 1 [⟨S4096x128, (wpart 0#32 (extractStridedSlice S1x1x16x64x128 ![0, 0, 0, 0, 0] (shapeCast S2x2x16x64x128 W shapeCasts_S2x2048x128_S2x2x16x64x128) slices_S2x2x16x64x128_S1x1x16x64x128_0_0_0_0_0) : (⟨S4096x128, .f32⟩ : BufTy).Contents (Elt Ideal))⟩, ⟨S4096x128, (wpart 1#32 (extractStridedSlice S1x1x16x64x128 ![0, 0, 0, 0, 0] (shapeCast S2x2x16x64x128 W shapeCasts_S2x2048x128_S2x2x16x64x128) slices_S2x2x16x64x128_S1x1x16x64x128_0_0_0_0_0) : (⟨S4096x128, .f32⟩ : BufTy).Contents (Elt Ideal))⟩, ⟨S4096x128, (wpart 2#32 (extractStridedSlice S1x1x16x64x128 ![1, 0, 0, 0, 0] (shapeCast S2x2x16x64x128 W shapeCasts_S2x2048x128_S2x2x16x64x128) slices_S2x2x16x64x128_S1x1x16x64x128_1_0_0_0_0) : (⟨S4096x128, .f32⟩ : BufTy).Contents (Elt Ideal))⟩, ⟨S4096x128, (wpart 3#32 (extractStridedSlice S1x1x16x64x128 ![1, 0, 0, 0, 0] (shapeCast S2x2x16x64x128 W shapeCasts_S2x2048x128_S2x2x16x64x128) slices_S2x2x16x64x128_S1x1x16x64x128_1_0_0_0_0) : (⟨S4096x128, .f32⟩ : BufTy).Contents (Elt Ideal))⟩, ⟨S4096x128, (wpart 0#32 (extractStridedSlice S1x1x16x64x128 ![0, 1, 0, 0, 0] (shapeCast S2x2x16x64x128 W shapeCasts_S2x2048x128_S2x2x16x64x128) slices_S2x2x16x64x128_S1x1x16x64x128_0_1_0_0_0) : (⟨S4096x128, .f32⟩ : BufTy).Contents (Elt Ideal))⟩, ⟨S4096x128, (wpart 1#32 (extractStridedSlice S1x1x16x64x128 ![0, 1, 0, 0, 0] (shapeCast S2x2x16x64x128 W shapeCasts_S2x2048x128_S2x2x16x64x128) slices_S2x2x16x64x128_S1x1x16x64x128_0_1_0_0_0) : (⟨S4096x128, .f32⟩ : BufTy).Contents (Elt Ideal))⟩, ⟨S4096x128, (wpart 2#32 (extractStridedSlice S1x1x16x64x128 ![1, 1, 0, 0, 0] (shapeCast S2x2x16x64x128 W shapeCasts_S2x2048x128_S2x2x16x64x128) slices_S2x2x16x64x128_S1x1x16x64x128_1_1_0_0_0) : (⟨S4096x128, .f32⟩ : BufTy).Contents (Elt Ideal))⟩, ⟨S4096x128, (wpart 3#32 (extractStridedSlice S1x1x16x64x128 ![1, 1, 0, 0, 0] (shapeCast S2x2x16x64x128 W shapeCasts_S2x2048x128_S2x2x16x64x128) slices_S2x2x16x64x128_S1x1x16x64x128_1_1_0_0_0) : (⟨S4096x128, .f32⟩ : BufTy).Contents (Elt Ideal))⟩] concatenates_S4096x128_S4096x128_S4096x128_S4096x128_S4096x128_S4096x128_S4096x128_S4096x128_S4096x1024_d1 : (⟨S4096x1024, .f32⟩ : BufTy).Contents (Elt Ideal))) bitsLt_bf16_f32
theorem wbig_0 (W : FVec Ideal S2x2048x128 .f32) (k : Fin 4096) (j : Fin 1024) (h : j.val / 128 = 0) : (wbig W (ix2 k j) : EReal) =
    if k.val / 64 % 4 = 0 then W (ix3 0 ⟨0 + (64 * (k / 256) + k % 64), by omega⟩ ⟨j % 128, by omega⟩) else 0 := by
  unfold wbig
  pointwise []
  refine (dif_pos (by omega)).trans ?_
  refine (wpart_at 0 _ k _).trans ?_
  refine if_congr Iff.rfl ?_ rfl
  pointwise []
  refine congrArg₂ (fun p q => W (ix3 0 p q)) (Fin.ext ?_) (Fin.ext ?_)
  all_goals
    simp only
    omega
theorem wbig_1 (W : FVec Ideal S2x2048x128 .f32) (k : Fin 4096) (j : Fin 1024) (h : j.val / 128 = 1) : (wbig W (ix2 k j) : EReal) =
    if k.val / 64 % 4 = 1 then W (ix3 0 ⟨0 + (64 * (k / 256) + k % 64), by omega⟩ ⟨j % 128, by omega⟩) else 0 := by
  unfold wbig
  pointwise []
  refine (dif_neg (by omega)).trans ?_
  refine (dif_pos (by omega)).trans ?_
  refine (wpart_at 1 _ k _).trans ?_
  refine if_congr Iff.rfl ?_ rfl
  pointwise []
  refine congrArg₂ (fun p q => W (ix3 0 p q)) (Fin.ext ?_) (Fin.ext ?_)
  all_goals
    simp only
    omega
theorem wbig_2 (W : FVec Ideal S2x2048x128 .f32) (k : Fin 4096) (j : Fin 1024) (h : j.val / 128 = 2) : (wbig W (ix2 k j) : EReal) =
    if k.val / 64 % 4 = 2 then W (ix3 1 ⟨0 + (64 * (k / 256) + k % 64), by omega⟩ ⟨j % 128, by omega⟩) else 0 := by
  unfold wbig
  pointwise []
  refine (dif_neg (by omega)).trans ?_
  refine (dif_neg (by omega)).trans ?_
  refine (dif_pos (by omega)).trans ?_
  refine (wpart_at 2 _ k _).trans ?_
  refine if_congr Iff.rfl ?_ rfl
  pointwise []
  refine congrArg₂ (fun p q => W (ix3 1 p q)) (Fin.ext ?_) (Fin.ext ?_)
  all_goals
    simp only
    omega
theorem wbig_3 (W : FVec Ideal S2x2048x128 .f32) (k : Fin 4096) (j : Fin 1024) (h : j.val / 128 = 3) : (wbig W (ix2 k j) : EReal) =
    if k.val / 64 % 4 = 3 then W (ix3 1 ⟨0 + (64 * (k / 256) + k % 64), by omega⟩ ⟨j % 128, by omega⟩) else 0 := by
  unfold wbig
  pointwise []
  refine (dif_neg (by omega)).trans ?_
  refine (dif_neg (by omega)).trans ?_
  refine (dif_neg (by omega)).trans ?_
  refine (dif_pos (by omega)).trans ?_
  refine (wpart_at 3 _ k _).trans ?_
  refine if_congr Iff.rfl ?_ rfl
  pointwise []
  refine congrArg₂ (fun p q => W (ix3 1 p q)) (Fin.ext ?_) (Fin.ext ?_)
  all_goals
    simp only
    omega
theorem wbig_4 (W : FVec Ideal S2x2048x128 .f32) (k : Fin 4096) (j : Fin 1024) (h : j.val / 128 = 4) : (wbig W (ix2 k j) : EReal) =
    if k.val / 64 % 4 = 0 then W (ix3 0 ⟨1024 + (64 * (k / 256) + k % 64), by omega⟩ ⟨j % 128, by omega⟩) else 0 := by
  unfold wbig
  pointwise []
  refine (dif_neg (by omega)).trans ?_
  refine (dif_neg (by omega)).trans ?_
  refine (dif_neg (by omega)).trans ?_
  refine (dif_neg (by omega)).trans ?_
  refine (dif_pos (by omega)).trans ?_
  refine (wpart_at 0 _ k _).trans ?_
  refine if_congr Iff.rfl ?_ rfl
  pointwise []
  refine congrArg₂ (fun p q => W (ix3 0 p q)) (Fin.ext ?_) (Fin.ext ?_)
  all_goals
    simp only
    omega
theorem wbig_5 (W : FVec Ideal S2x2048x128 .f32) (k : Fin 4096) (j : Fin 1024) (h : j.val / 128 = 5) : (wbig W (ix2 k j) : EReal) =
    if k.val / 64 % 4 = 1 then W (ix3 0 ⟨1024 + (64 * (k / 256) + k % 64), by omega⟩ ⟨j % 128, by omega⟩) else 0 := by
  unfold wbig
  pointwise []
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  refine (wpart_at 1 _ k _).trans ?_
  refine if_congr Iff.rfl ?_ rfl
  pointwise []
  refine congrArg₂ (fun p q => W (ix3 0 p q)) (Fin.ext ?_) (Fin.ext ?_)
  all_goals
    simp only
    omega
theorem wbig_6 (W : FVec Ideal S2x2048x128 .f32) (k : Fin 4096) (j : Fin 1024) (h : j.val / 128 = 6) : (wbig W (ix2 k j) : EReal) =
    if k.val / 64 % 4 = 2 then W (ix3 1 ⟨1024 + (64 * (k / 256) + k % 64), by omega⟩ ⟨j % 128, by omega⟩) else 0 := by
  unfold wbig
  pointwise []
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  refine (wpart_at 2 _ k _).trans ?_
  refine if_congr Iff.rfl ?_ rfl
  pointwise []
  refine congrArg₂ (fun p q => W (ix3 1 p q)) (Fin.ext ?_) (Fin.ext ?_)
  all_goals
    simp only
    omega
theorem wbig_7 (W : FVec Ideal S2x2048x128 .f32) (k : Fin 4096) (j : Fin 1024) (h : j.val / 128 = 7) : (wbig W (ix2 k j) : EReal) =
    if k.val / 64 % 4 = 3 then W (ix3 1 ⟨1024 + (64 * (k / 256) + k % 64), by omega⟩ ⟨j % 128, by omega⟩) else 0 := by
  unfold wbig
  pointwise []
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (wpart_at 3 _ k _).trans ?_
  refine if_congr Iff.rfl ?_ rfl
  pointwise []
  refine congrArg₂ (fun p q => W (ix3 1 p q)) (Fin.ext ?_) (Fin.ext ?_)
  all_goals
    simp only
    omega
theorem wbig_at (W : FVec Ideal S2x2048x128 .f32) (k : Fin 4096) (j : Fin 1024) : (wbig W (ix2 k j) : EReal) =
    if k.val / 64 % 4 = j.val / 128 % 4 then W (ix3 ⟨j / 256 % 2, by omega⟩ ⟨1024 * (j / 512) + (64 * (k / 256) + k % 64), by omega⟩ ⟨j % 128, by omega⟩) else 0 := by
  have w : ∀ (p p' : Fin 2) (a a' : Fin 2048), p = p' → a = a' → W (ix3 p a ⟨j % 128, by omega⟩) = W (ix3 p' a' ⟨j % 128, by omega⟩) := fun p p' a a' h h' => congrArg₂ (fun p a => W (ix3 p a ⟨j % 128, by omega⟩)) h h'
  have hj : j.val / 128 < 8 := by omega
  obtain h | h | h | h | h | h | h | h : j.val / 128 = 0 ∨ j.val / 128 = 1 ∨ j.val / 128 = 2 ∨ j.val / 128 = 3 ∨ j.val / 128 = 4 ∨ j.val / 128 = 5 ∨ j.val / 128 = 6 ∨ j.val / 128 = 7 := by omega
  · exact (wbig_0 W k j h).trans (if_congr (by omega) (w 0 _ _ _ (Fin.ext (show 0 = j.val / 256 % 2 by omega)) (Fin.ext (show 0 + (64 * (k.val / 256) + k.val % 64) = 1024 * (j.val / 512) + (64 * (k.val / 256) + k.val % 64) by omega))) rfl)
  · exact (wbig_1 W k j h).trans (if_congr (by omega) (w 0 _ _ _ (Fin.ext (show 0 = j.val / 256 % 2 by omega)) (Fin.ext (show 0 + (64 * (k.val / 256) + k.val % 64) = 1024 * (j.val / 512) + (64 * (k.val / 256) + k.val % 64) by omega))) rfl)
  · exact (wbig_2 W k j h).trans (if_congr (by omega) (w 1 _ _ _ (Fin.ext (show 1 = j.val / 256 % 2 by omega)) (Fin.ext (show 0 + (64 * (k.val / 256) + k.val % 64) = 1024 * (j.val / 512) + (64 * (k.val / 256) + k.val % 64) by omega))) rfl)
  · exact (wbig_3 W k j h).trans (if_congr (by omega) (w 1 _ _ _ (Fin.ext (show 1 = j.val / 256 % 2 by omega)) (Fin.ext (show 0 + (64 * (k.val / 256) + k.val % 64) = 1024 * (j.val / 512) + (64 * (k.val / 256) + k.val % 64) by omega))) rfl)
  · exact (wbig_4 W k j h).trans (if_congr (by omega) (w 0 _ _ _ (Fin.ext (show 0 = j.val / 256 % 2 by omega)) (Fin.ext (show 1024 + (64 * (k.val / 256) + k.val % 64) = 1024 * (j.val / 512) + (64 * (k.val / 256) + k.val % 64) by omega))) rfl)
  · exact (wbig_5 W k j h).trans (if_congr (by omega) (w 0 _ _ _ (Fin.ext (show 0 = j.val / 256 % 2 by omega)) (Fin.ext (show 1024 + (64 * (k.val / 256) + k.val % 64) = 1024 * (j.val / 512) + (64 * (k.val / 256) + k.val % 64) by omega))) rfl)
  · exact (wbig_6 W k j h).trans (if_congr (by omega) (w 1 _ _ _ (Fin.ext (show 1 = j.val / 256 % 2 by omega)) (Fin.ext (show 1024 + (64 * (k.val / 256) + k.val % 64) = 1024 * (j.val / 512) + (64 * (k.val / 256) + k.val % 64) by omega))) rfl)
  · exact (wbig_7 W k j h).trans (if_congr (by omega) (w 1 _ _ _ (Fin.ext (show 1 = j.val / 256 % 2 by omega)) (Fin.ext (show 1024 + (64 * (k.val / 256) + k.val % 64) = 1024 * (j.val / 512) + (64 * (k.val / 256) + k.val % 64) by omega))) rfl)
theorem V_91 (c : Dev nD) : (show FVec Ideal S4096x1024 .bf16 from V m c main_v91) = wbig (m ((c : Thread nD τ).loc main_arg3)) := by
  unfold V
  simp only [List.flatten_cons, List.flatten_nil, List.append_nil, List.cons_append, List.nil_append]
  after_results
  rfl

/-! ### The positions and the second weights, a row for each slot -/

/-- The slots' own keys (0) or values (1): slot `s` is `s / 2`'s. -/
def slots : IVec S4x1 32 :=
  broadcastInDim S4x1 ![0] bcast_S4_S4x1_0 (select (cmpi .slt (fun i => lit0 (S4.rowMajor i) : IVec S4 32) (broadcastInDim S4 ![] bcast_S_S4 (constantI S_ 32 0#32))) (addi (fun i => lit0 (S4.rowMajor i) : IVec S4 32) (broadcastInDim S4 ![] bcast_S_S4 (constantI S_ 32 2#32))) (fun i => lit0 (S4.rowMajor i) : IVec S4 32))
theorem slots_at : ∀ s : Fin 4, min (slots (ix2 s 0)).toInt.toNat 1 = s / 2 := by decide +kernel
theorem gather_pos (X : FVec Ideal S2x2x16x64 .f32) (s : Fin 4) (h : Fin 2) (q : Fin 16) (d : Fin 64) :
    Host.gather gather_S2x2x16x64_S4x1_S4x2x16x64_123_0_n_n_0_1_121664 X slots (ix4 s h q d) = X (ix4 ⟨s / 2, by omega⟩ h q d) := by
  unfold Host.gather
  congr 1
  have s0 : (gather_S2x2x16x64_S4x1_S4x2x16x64_123_0_n_n_0_1_121664).start (ix4 s h q d) slots (0 : Fin 4) = s / 2 := by
    unfold GatherDims.start
    refine (dif_pos (show (0 : Fin 4) ∈ [(0 : Fin 4)] by decide)).trans ?_
    refine Eq.trans ?_ (slots_at s)
    rfl
  have s1 : ∀ a : Fin 4, a ≠ 0 → (gather_S2x2x16x64_S4x1_S4x2x16x64_123_0_n_n_0_1_121664).start (ix4 s h q d) slots a = 0 := by
    intro a ha
    unfold GatherDims.start
    exact dif_neg fun h => ha (List.mem_singleton.mp h)
  have o0 : (gather_S2x2x16x64_S4x1_S4x2x16x64_123_0_n_n_0_1_121664).offCoord (ix4 s h q d) (0 : Fin 4) = 0 :=
    GatherDims.offCoord_eq_zero _ _ _ fun h => ((GatherDims.mem_sKept _ _).mp h).1 (show (0 : Fin 4) ∈ [(0 : Fin 4)] by decide)
  have o1 : (gather_S2x2x16x64_S4x1_S4x2x16x64_123_0_n_n_0_1_121664).offCoord (ix4 s h q d) (1 : Fin 4) = h := by
    unfold GatherDims.offCoord
    exact (dif_pos ((GatherDims.mem_sKept _ _).mpr ⟨show ¬(1 : Fin 4) ∈ [(0 : Fin 4)] by decide, List.not_mem_nil⟩)).trans rfl
  have o2 : (gather_S2x2x16x64_S4x1_S4x2x16x64_123_0_n_n_0_1_121664).offCoord (ix4 s h q d) (2 : Fin 4) = q := by
    unfold GatherDims.offCoord
    exact (dif_pos ((GatherDims.mem_sKept _ _).mpr ⟨show ¬(2 : Fin 4) ∈ [(0 : Fin 4)] by decide, List.not_mem_nil⟩)).trans rfl
  have o3 : (gather_S2x2x16x64_S4x1_S4x2x16x64_123_0_n_n_0_1_121664).offCoord (ix4 s h q d) (3 : Fin 4) = d := by
    unfold GatherDims.offCoord
    exact (dif_pos ((GatherDims.mem_sKept _ _).mpr ⟨show ¬(3 : Fin 4) ∈ [(0 : Fin 4)] by decide, List.not_mem_nil⟩)).trans rfl
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ => exact (congrArg₂ (fun p q => p + 0 + q) s0 o0).trans rfl
  | ⟨1, _⟩ => exact (congrArg₂ (fun p q => p + 0 + q) (s1 1 (by decide)) o1).trans (Nat.zero_add _)
  | ⟨2, _⟩ => exact (congrArg₂ (fun p q => p + 0 + q) (s1 2 (by decide)) o2).trans (Nat.zero_add _)
  | ⟨3, _⟩ => exact (congrArg₂ (fun p q => p + 0 + q) (s1 3 (by decide)) o3).trans (Nat.zero_add _)
theorem gather_w2 (X : FVec Ideal S2x128x64 .f32) (s : Fin 4) (e : Fin 128) (d : Fin 64) :
    Host.gather gather_S2x128x64_S4x1_S4x128x64_12_0_n_n_0_1_112864 X slots (ix3 s e d) = X (ix3 ⟨s / 2, by omega⟩ e d) := by
  unfold Host.gather
  congr 1
  have s0 : (gather_S2x128x64_S4x1_S4x128x64_12_0_n_n_0_1_112864).start (ix3 s e d) slots (0 : Fin 3) = s / 2 := by
    unfold GatherDims.start
    refine (dif_pos (show (0 : Fin 3) ∈ [(0 : Fin 3)] by decide)).trans ?_
    refine Eq.trans ?_ (slots_at s)
    rfl
  have s1 : ∀ a : Fin 3, a ≠ 0 → (gather_S2x128x64_S4x1_S4x128x64_12_0_n_n_0_1_112864).start (ix3 s e d) slots a = 0 := by
    intro a ha
    unfold GatherDims.start
    exact dif_neg fun h => ha (List.mem_singleton.mp h)
  have o0 : (gather_S2x128x64_S4x1_S4x128x64_12_0_n_n_0_1_112864).offCoord (ix3 s e d) (0 : Fin 3) = 0 :=
    GatherDims.offCoord_eq_zero _ _ _ fun h => ((GatherDims.mem_sKept _ _).mp h).1 (show (0 : Fin 3) ∈ [(0 : Fin 3)] by decide)
  have o1 : (gather_S2x128x64_S4x1_S4x128x64_12_0_n_n_0_1_112864).offCoord (ix3 s e d) (1 : Fin 3) = e := by
    unfold GatherDims.offCoord
    exact (dif_pos ((GatherDims.mem_sKept _ _).mpr ⟨show ¬(1 : Fin 3) ∈ [(0 : Fin 3)] by decide, List.not_mem_nil⟩)).trans rfl
  have o2 : (gather_S2x128x64_S4x1_S4x128x64_12_0_n_n_0_1_112864).offCoord (ix3 s e d) (2 : Fin 3) = d := by
    unfold GatherDims.offCoord
    exact (dif_pos ((GatherDims.mem_sKept _ _).mpr ⟨show ¬(2 : Fin 3) ∈ [(0 : Fin 3)] by decide, List.not_mem_nil⟩)).trans rfl
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ => exact (congrArg₂ (fun p q => p + 0 + q) s0 o0).trans rfl
  | ⟨1, _⟩ => exact (congrArg₂ (fun p q => p + 0 + q) (s1 1 (by decide)) o1).trans (Nat.zero_add _)
  | ⟨2, _⟩ => exact (congrArg₂ (fun p q => p + 0 + q) (s1 2 (by decide)) o2).trans (Nat.zero_add _)
/-- The positions: the first half's row, the second half's, then rows of 0. -/
def pos2 (E : FVec Ideal S2x32x64 .f32) : FVec Ideal S8x4096 .bf16 :=
  truncf .bf16 (show FVec Ideal S8x4096 .f32 from pad S8x4096 ![0, 0] ![6, 0] ![0, 0] (show FVec Ideal S2x4096 .f32 from shapeCast S2x4096 (transpose S2x16x4x64 [1, 2, 0, 3] (Host.gather gather_S2x2x16x64_S4x1_S4x2x16x64_123_0_n_n_0_1_121664 (shapeCast S2x2x16x64 E shapeCasts_S2x32x64_S2x2x16x64) slots) transposes_S4x2x16x64_S2x16x4x64_1_2_0_3) shapeCasts_S2x16x4x64_S2x4096) (show FVec Ideal S_ .f32 from sitofp .f32 (constantI S_ 32 0#32)) pads_S2x4096_S8x4096_060_000 h_S_) bitsLt_bf16_f32
theorem pos2_at (E : FVec Ideal S2x32x64 .f32) (h : Fin 2) (q : Fin 4096) : (pos2 E (ix2 ⟨h, by omega⟩ q) : EReal) =
    E (ix3 ⟨q / 128 % 2, by omega⟩ ⟨16 * h + q / 256, by omega⟩ ⟨q % 64, by omega⟩) := by
  unfold pos2
  pointwise []
  refine (gather_pos _ ⟨q / 64 % 4, by omega⟩ h ⟨q / 256, by omega⟩ ⟨q % 64, by omega⟩).trans ?_
  pointwise []
  refine congrArg₂ (fun p u => E (ix3 p u ⟨q % 64, by omega⟩)) (Fin.ext ?_) (Fin.ext ?_)
  all_goals
    simp only
    omega
theorem V_90 (c : Dev nD) : (show FVec Ideal S8x4096 .bf16 from V m c main_v90) = pos2 (m ((c : Thread nD τ).loc main_arg2)) := by
  unfold V
  simp only [List.flatten_cons, List.flatten_nil, List.append_nil, List.cons_append, List.nil_append]
  after_results
  rfl
/-- The second weights: the slots' own, down the diagonal. -/
def w2big (W : FVec Ideal S2x128x64 .f32) : FVec Ideal S512x256 .bf16 :=
  truncf .bf16 (show FVec Ideal S512x256 .f32 from shapeCast S512x256 (mulf (broadcastInDim S4x128x4x64 ![0, 1, 2, 3] bcast_S4x128x1x64_S4x128x4x64_0_1_2_3 (broadcastInDim S4x128x1x64 ![0, 1, 3] bcast_S4x128x64_S4x128x1x64_0_1_3 (Host.gather gather_S2x128x64_S4x1_S4x128x64_12_0_n_n_0_1_112864 W slots)))
    (broadcastInDim S4x128x4x64 ![0, 1, 2, 3] bcast_S4x1x4x1_S4x128x4x64_0_1_2_3 (broadcastInDim S4x1x4x1 ![0, 2] bcast_S4x4_S4x1x4x1_0_2 (uitofp .f32 (cmpi .eq (addi (iotaInDim S4x4 32 0) (broadcastInDim S4x4 ![] bcast_S_S4x4 (constantI S_ 32 0#32))) (iotaInDim S4x4 32 1)))))) shapeCasts_S4x128x4x64_S512x256) bitsLt_bf16_f32
theorem w2big_at (W : FVec Ideal S2x128x64 .f32) (k : Fin 512) (j : Fin 256) : (w2big W (ix2 k j) : EReal) =
    if k.val / 128 = j.val / 64 then W (ix3 ⟨j / 128, by omega⟩ ⟨k % 128, by omega⟩ ⟨j % 64, by omega⟩) else 0 := by
  unfold w2big
  pointwise []
  refine (congrArg₂ (fun x y : EReal => x * y) (gather_w2 W ⟨k / 128, by omega⟩ ⟨k % 128, by omega⟩ ⟨j % 64, by omega⟩) rfl).trans ?_
  rw [same0 ⟨k / 128, by omega⟩ ⟨j / 64, by omega⟩]
  simp only
  split
  · next h =>
    refine (congrArg _ uitofp_1).trans ((mul_one _).trans ?_)
    exact congrArg (fun p => W (ix3 p ⟨k % 128, by omega⟩ ⟨j % 64, by omega⟩)) (Fin.ext (by simp only; omega))
  · exact (congrArg _ uitofp_0).trans (mul_zero _)
theorem V_92 (c : Dev nD) : (show FVec Ideal S512x256 .bf16 from V m c main_v92) = w2big (m ((c : Thread nD τ).loc main_arg4)) := by
  unfold V
  simp only [List.flatten_cons, List.flatten_nil, List.append_nil, List.cons_append, List.nil_append]
  after_results
  rfl

/-! ## Their blocks -/

theorem blk0 (c : Dev nD) (t : Fin cfg0.N) (i : Fin 1024) (q : Fin 4096) : ((show FVec Ideal S1x1024x4096 .bf16 from iblk m c 0 t) (ix3 0 i q) : EReal) =
    (args m c).kv ⟨t, t_lt t⟩ ⟨16 * i + q / 256, by omega⟩ ⟨q / 128 % 2, by omega⟩ ⟨q / 64 % 2, by omega⟩ ⟨q % 64, by omega⟩ := by
  have := t_lt t
  refine Eq.trans ?_ (V_94 m c ⟨t, t_lt t⟩ i q)
  blk_point [iblk, idx t]
theorem blk1 (c : Dev nD) (t : Fin cfg0.N) (k : Fin 8) (j : Fin 4096) :
    ((show FVec Ideal S8x4096 .bf16 from iblk m c 1 t) (ix2 k j) : EReal) = pos2 (m ((c : Thread nD τ).loc main_arg2)) (ix2 k j) := by
  refine Eq.trans ?_ (congrFun (V_90 m c) (ix2 k j))
  blk_point [iblk, idx t]
theorem blk2 (c : Dev nD) (t : Fin cfg0.N) (k : Fin 4096) (j : Fin 1024) :
    ((show FVec Ideal S4096x1024 .bf16 from iblk m c 2 t) (ix2 k j) : EReal) = wbig (m ((c : Thread nD τ).loc main_arg3)) (ix2 k j) := by
  refine Eq.trans ?_ (congrFun (V_91 m c) (ix2 k j))
  blk_point [iblk, idx t]
theorem blk3 (c : Dev nD) (t : Fin cfg0.N) (k : Fin 512) (j : Fin 256) :
    ((show FVec Ideal S512x256 .bf16 from iblk m c 3 t) (ix2 k j) : EReal) = w2big (m ((c : Thread nD τ).loc main_arg4)) (ix2 k j) := by
  refine Eq.trans ?_ (congrFun (V_92 m c) (ix2 k j))
  blk_point [iblk, idx t]
theorem blk4 (c : Dev nD) (t : Fin cfg0.N) (k j : Fin 128) :
    ((show FVec Ideal S128x128 .bf16 from iblk m c 4 t) (ix2 k j) : EReal) = if k.val / 64 = j.val / 64 then ((1 / 64 : ℝ) : EReal) else 0 := by
  refine Eq.trans ?_ (V_106 m c k j)
  blk_point [iblk, idx t]
theorem blk5 (c : Dev nD) (t : Fin cfg0.N) (j : Fin 128) :
    ((show FVec Ideal S1x128 .f32 from iblk m c 5 t) (ix2 0 j) : EReal) = (args m c).kn ⟨j % 64, by omega⟩ := by
  refine Eq.trans ?_ (V_112 m c j)
  blk_point [iblk, idx t]
end Cert.Kernel4Ideal.ValueProof
end
-- ==== Proof.CmpFinal.lean ====
/- The compression's kernel: its tiles and its two result arrays. -/
module

public import proofs.«01_k».proof.Proof.CmpBlocks

@[expose] public section

set_option maxRecDepth 16384

noncomputable section

namespace Cert.Kernel4Ideal.ValueProof
open Idealize.ShloMosaic.StableHlo Cert.Kernel4Ideal Cert.Kernel4Ideal.Gen Cert.Kernel4Ideal.Value Idealize.ShloMosaic Idealize.ShloMosaic.TcCoe Idealize.SL.Sem Cert.Cmp
open Cert.Mix (gelu)

variable (m : (ℓ : Loc nD τ sig) → Buf (Elt Ideal) ℓ)

theorem w1_ext (c : Dev nD) {a a' : Fin 2} {r r' : Fin 2048} {e e' : Fin 128} (h : a.val = a'.val) (h' : r.val = r'.val) (h'' : e.val = e'.val) : (args m c).w1 a r e = (args m c).w1 a' r' e' := by
  rw [Fin.ext h, Fin.ext h', Fin.ext h'']
theorem w2_ext (c : Dev nD) {a a' : Fin 2} {r r' : Fin 128} {e e' : Fin 64} (h : a.val = a'.val) (h' : r.val = r'.val) (h'' : e.val = e'.val) : (args m c).w2 a r e = (args m c).w2 a' r' e' := by
  rw [Fin.ext h, Fin.ext h', Fin.ext h'']
/-- The weights' column `e` of slot `s`, in each half. -/
theorem w_lo (c : Dev nD) (t : Fin cfg0.N) (s : Fin 4) (e : Fin 128) (q : Fin 4096) :
    ((show FVec Ideal S4096x1024 .bf16 from iblk m c 2 t) (ix2 q ⟨128 * s + e, by omega⟩) : EReal) =
      if q.val / 64 % 4 = s.val then (args m c).w1 ⟨s / 2, by omega⟩ ⟨64 * (q / 256) + q % 64, by omega⟩ e else 0 := by
  refine (blk2 m c t _ _).trans ((wbig_at _ _ _).trans (if_congr ?_ ?_ rfl))
  · simp only; omega
  · exact w1_ext m c (by simp only; omega) (by simp only; omega) (by simp only; omega)
theorem w_hi (c : Dev nD) (t : Fin cfg0.N) (s : Fin 4) (e : Fin 128) (q : Fin 4096) :
    ((show FVec Ideal S4096x1024 .bf16 from iblk m c 2 t) (ix2 q ⟨512 + (128 * s + e), by omega⟩) : EReal) =
      if q.val / 64 % 4 = s.val then (args m c).w1 ⟨s / 2, by omega⟩ ⟨1024 + (64 * (q / 256) + q % 64), by omega⟩ e else 0 := by
  refine (blk2 m c t _ _).trans ((wbig_at _ _ _).trans (if_congr ?_ ?_ rfl))
  · simp only; omega
  · exact w1_ext m c (by simp only; omega) (by simp only; omega) (by simp only; omega)
/-- The hidden row's column `e` of slot `s`: the keys' (slots 0, 1) or the values' (2, 3) hidden channel. -/
theorem hrow_at (c : Dev nD) (fin : (args m c).Finite) (t : Fin cfg0.N) (i : Fin 1024) (s : Fin 4) (e : Fin 128) :
    hrow (iblk m c 0 t) (iblk m c 2 t) (iblk m c 1 t) i ⟨128 * s + e, by omega⟩ = (args m c).pre ⟨s / 2, by omega⟩ ⟨t, t_lt t⟩ i ⟨s % 2, by omega⟩ e := by
  rw [Args.pre_parts fin]
  unfold hrow
  have kv : ∀ (n n' : Fin 16384) (a a' h h' : Fin 2) (d d' : Fin 64), n.val = n'.val → a.val = a'.val → h.val = h'.val → d.val = d'.val → (args m c).kv ⟨t, t_lt t⟩ n a h d = (args m c).kv ⟨t, t_lt t⟩ n' a' h' d' := by
    intro n n' a a' h h' d d' e1 e2 e3 e4
    rw [Fin.ext e1, Fin.ext e2, Fin.ext e3, Fin.ext e4]
  have ps : ∀ (a a' : Fin 2) (u u' : Fin 32) (d d' : Fin 64), a.val = a'.val → u.val = u'.val → d.val = d'.val → (args m c).pos a u d = (args m c).pos a' u' d' := by
    intro a a' u u' d d' e1 e2 e3
    rw [Fin.ext e1, Fin.ext e2, Fin.ext e3]
  refine congrArg₂ (· + ·) (congrArg₂ (· + ·) ?_ ?_) (congrArg₂ (· + ·) ?_ ?_)
  · refine (sum_slot _ _ (fun r => (args m c).w1 ⟨s / 2, by omega⟩ ⟨r, by omega⟩ e) s (w_lo m c t s e)).trans (Finset.sum_congr rfl fun r _ => congrArg₂ _ ?_ rfl)
    refine (blk0 m c t i _).trans ?_
    exact kv _ _ _ _ _ _ _ _ (by simp only; omega) (by simp only; omega) (by simp only; omega) (by simp only; omega)
  · refine (sum_slot _ _ (fun r => (args m c).w1 ⟨s / 2, by omega⟩ ⟨1024 + r, by omega⟩ e) s (w_hi m c t s e)).trans (Finset.sum_congr rfl fun r _ => congrArg₂ _ ?_ rfl)
    refine (blk0 m c t _ _).trans ?_
    exact kv _ _ _ _ _ _ _ _ (by simp only; omega) (by simp only; omega) (by simp only; omega) (by simp only; omega)
  · refine (sum_slot _ _ (fun r => (args m c).w1 ⟨s / 2, by omega⟩ ⟨r, by omega⟩ e) s (w_lo m c t s e)).trans (Finset.sum_congr rfl fun r _ => congrArg₂ _ ?_ rfl)
    refine (blk1 m c t 0 _).trans ((pos2_at _ 0 _).trans ?_)
    exact ps _ _ _ _ _ _ (by simp only; omega) (by simp only [Fin.val_zero]; omega) (by simp only; omega)
  · refine (sum_slot _ _ (fun r => (args m c).w1 ⟨s / 2, by omega⟩ ⟨1024 + r, by omega⟩ e) s (w_hi m c t s e)).trans (Finset.sum_congr rfl fun r _ => congrArg₂ _ ?_ rfl)
    refine (blk1 m c t 1 _).trans ((pos2_at _ 1 _).trans ?_)
    exact ps _ _ _ _ _ _ (by simp only; omega) (by simp only [Fin.val_one]; omega) (by simp only; omega)
/-- The compressed row's column `d` of slot `s`. -/
theorem out_at (c : Dev nD) (fin : (args m c).Finite) (t : Fin cfg0.N) (i : Fin 1024) (s : Fin 4) (d : Fin 64) :
    (k0_pay3 (iblk m c 0 t) (iblk m c 2 t) (iblk m c 1 t) (iblk m c 2 t) (iblk m c 3 t) (ix2 i ⟨64 * s + d, by omega⟩) : EReal) = (args m c).out ⟨s / 2, by omega⟩ ⟨t, t_lt t⟩ i ⟨s % 2, by omega⟩ d := by
  refine (pay3_at _ _ _ _ i _).trans ?_
  refine (sum_slot' _ _ (fun e => (args m c).w2 ⟨s / 2, by omega⟩ e d) s fun k => ?_).trans (Finset.sum_congr rfl fun e _ => congrArg₂ _ (congrArg gelu (hrow_at m c fin t i s e)) rfl)
  refine (blk3 m c t _ _).trans ((w2big_at _ _ _).trans (if_congr ?_ ?_ rfl))
  · simp only; omega
  · exact w2_ext m c (by simp only; omega) rfl (by simp only; omega)
/-- The compressed keys' two heads. -/
abbrev keys (c : Dev nD) (t : Fin cfg0.N) : FVec Ideal S1024x128 .f32 := k0_pay4 (iblk m c 0 t) (iblk m c 2 t) (iblk m c 1 t) (iblk m c 2 t) (iblk m c 3 t)
theorem keys_at (c : Dev nD) (fin : (args m c).Finite) (t : Fin cfg0.N) (i : Fin 1024) (h : Fin 2) (d : Fin 64) (j : Fin 128) (hj : j.val = 64 * h + d) :
    (keys m c t (ix2 i j) : EReal) = (args m c).out 0 ⟨t, t_lt t⟩ i h d := by
  refine (pay4_at _ _ _ _ i j).trans ?_
  refine Eq.trans (congrArg (fun j => k0_pay3 (iblk m c 0 t) (iblk m c 2 t) (iblk m c 1 t) (iblk m c 2 t) (iblk m c 3 t) (ix2 i j)) (Fin.ext hj)) ((out_at m c fin t i ⟨h, by omega⟩ d).trans ?_)
  exact congrArg₂ (fun a h => (args m c).out a ⟨t, t_lt t⟩ i h d) (Fin.ext (by simp only [Fin.val_zero]; omega)) (Fin.ext (by simp only; omega))
/-- A head's scale, where its entries are real numbers: one over the root of the mean of their squares. -/
theorem scale_at (z : Fin 128 → EReal) (o : Fin 64 → EReal) (b : Fin 128 → EReal) (c : Fin 128) (hz : ∀ k, Cert.InProj.Fin? (z k))
    (hb : ∀ k, b k = if k.val / 64 = c.val / 64 then ((1 / 64 : ℝ) : EReal) else 0) (ho : ∀ x : Fin 64, z ⟨64 * (c / 64) + x, by omega⟩ = o x) :
    scale z b = Ideal.rsqrt (Ideal.div (∑ d, o d * o d) (Ideal.ofBits .f32 0x42800000#32) + Ideal.ofBits .f32 897988541#32) := by
  unfold scale
  rw [head_mean (fun k => z k * z k) (fun k => (hz k).mul (hz k)) b c hb]
  simp only [ho]
/-- Normalised. -/
theorem normed_at (c : Dev nD) (fin : (args m c).Finite) (t : Fin cfg0.N) (i : Fin 1024) (h : Fin 2) (d : Fin 64) (j : Fin 128) (hj : j.val = 64 * h + d) :
    (k0_pay5 (keys m c t) (iblk m c 4 t) (iblk m c 5 t) (ix2 i j) : EReal) = (args m c).out 0 ⟨t, t_lt t⟩ i h d * Ideal.rsqrt (Ideal.div (∑ d, (args m c).out 0 ⟨t, t_lt t⟩ i h d * (args m c).out 0 ⟨t, t_lt t⟩ i h d) (Ideal.ofBits .f32 0x42800000#32) + Ideal.ofBits .f32 897988541#32) * (args m c).kn d := by
  refine (pay5_at _ _ _ i j).trans ?_
  refine congrArg₂ (· * ·) (congrArg₂ (· * ·) (keys_at m c fin t i h d j hj) ?_) ((blk5 m c t j).trans (congrArg (args m c).kn (Fin.ext (by simp only; omega))))
  refine scale_at (fun k => keys m c t (ix2 i k)) (fun d => (args m c).out 0 ⟨t, t_lt t⟩ i h d) _ j (fun k => ?_) (fun k => blk4 m c t k j) (fun x => keys_at m c fin t i h x _ (by simp only; omega))
  have e := keys_at m c fin t i ⟨k / 64, by omega⟩ ⟨k % 64, by omega⟩ k (by simp only; omega)
  exact e ▸ (Args.out_fin fin ⟨t, t_lt t⟩ i ⟨k / 64, by omega⟩ ⟨k % 64, by omega⟩)

theorem tile_kc (c : Dev nD) (fin : (args m c).Finite) (t : Fin cfg0.N) (h : Fin 2) (i : Fin 1024) (l : Fin 128) :
    (out0_6 (iblk m c 0 t) (iblk m c 1 t) (iblk m c 2 t) (iblk m c 3 t) (iblk m c 4 t) (iblk m c 5 t) (ix4 0 h i l) : EReal) = (args m c).kc ⟨t, t_lt t⟩ h i l := by
  unfold_out out0_6
  simp (disch := decide) only [View.ld_unit_lit']
  canon_tiles x h
  all_goals
    idx_vars x
    obtain rfl : x0 = 0 := Subsingleton.elim _ _
    obtain rfl : x1 = 0 := Subsingleton.elim _ _
    obtain rfl : x2 = i := Fin.ext h2.symm
    obtain rfl : x3 = l := Fin.ext h3.symm
    have hl : x3.val < 128 := x3.isLt
    unfold Args.kc
  · obtain rfl : h = 1 := Fin.ext h1
    refine (pay8_at _ _ _ x2 x3).trans ?_
    by_cases hd : x3.val < 64
    · rw [if_pos hd, dif_pos hd]
      exact normed_at m c fin t x2 1 ⟨x3, hd⟩ ⟨(x3.val + 128 - 64) % 128, by omega⟩ (show (x3.val + 128 - 64) % 128 = 64 * 1 + x3.val by omega)
    · rw [if_neg hd, dif_neg hd]
  · obtain rfl : h = 0 := Fin.ext h1
    refine (pay7_at _ _ _ x2 x3).trans ?_
    by_cases hd : x3.val < 64
    · rw [if_pos hd, dif_pos hd]
      exact normed_at m c fin t x2 0 ⟨x3, hd⟩ x3 (show x3.val = 64 * 0 + x3.val by omega)
    · rw [if_neg hd, dif_neg hd]
theorem tile_vc (c : Dev nD) (fin : (args m c).Finite) (t : Fin cfg0.N) (h : Fin 2) (d : Fin 64) (i : Fin 1024) :
    (out0_7 (iblk m c 0 t) (iblk m c 1 t) (iblk m c 2 t) (iblk m c 3 t) (iblk m c 4 t) (iblk m c 5 t) (ix4 0 h d i) : EReal) = (args m c).vc ⟨t, t_lt t⟩ h d i := by
  unfold_out out0_7
  simp (disch := decide) only [View.ld_unit_lit']
  canon_tiles x h
  all_goals
    idx_vars x
    obtain rfl : x0 = 0 := Subsingleton.elim _ _
    obtain rfl : x1 = 0 := Subsingleton.elim _ _
    obtain rfl : x2 = d := Fin.ext h2.symm
    obtain rfl : x3 = i := Fin.ext h3.symm
    unfold Args.vc
  · obtain rfl : h = 1 := Fin.ext h1
    refine (pay2_at _ x2 x3).trans ?_
    have e : (⟨128 + (64 + x2.val), by have := x2.isLt; omega⟩ : Fin 256) = ⟨64 * (3 : Fin 4).val + x2.val, by have := x2.isLt; show 64 * 3 + x2.val < 256; omega⟩ := Fin.ext (show 128 + (64 + x2.val) = 64 * 3 + x2.val by omega)
    rw [e]
    exact out_at m c fin t x3 3 x2
  · obtain rfl : h = 0 := Fin.ext h1
    refine (pay1_at _ x2 x3).trans ?_
    have e : (⟨128 + x2.val, by have := x2.isLt; omega⟩ : Fin 256) = ⟨64 * (2 : Fin 4).val + x2.val, by have := x2.isLt; show 64 * 2 + x2.val < 256; omega⟩ := Fin.ext (show 128 + x2.val = 64 * 2 + x2.val by omega)
    rw [e]
    exact out_at m c fin t x3 2 x2

/-! ## The two result arrays -/

def res_kc (c : Dev nD) : FVec Ideal S2x2x1024x128 .bf16 := fun i => (args m c).kc (i 0) (i 1) (i 2) (i 3)
theorem final_kc (c : Dev nD) (fin : (args m c).Finite) : (dats m 0 c).arrAt 6 cfg0.N = res_kc m c := by
  refine (dats m 0 c).arrAt_eq_of_covers 6 (res_kc m c) (by decide +kernel) fun t _ y => ?_
  idx_vars y
  obtain rfl : y0 = 0 := Subsingleton.elim _ _
  have hi := (idx t).2.2.2.2.2.2.1
  have ht := t_lt t
  rw [after0_6]
  blk_simp
  have e : (win0_6.blk t).view.emb (ix4 0 y1 y2 y3) = (ix4 ⟨t.val, by omega⟩ y1 y2 y3 : S2x2x1024x128.Idx) := by blk_ext [hi]
  rw [e]
  exact tile_kc m c fin t y1 y2 y3
def res_vc (c : Dev nD) : FVec Ideal S2x2x64x1024 .bf16 := fun i => (args m c).vc (i 0) (i 1) (i 2) (i 3)
theorem final_vc (c : Dev nD) (fin : (args m c).Finite) : (dats m 0 c).arrAt 7 cfg0.N = res_vc m c := by
  refine (dats m 0 c).arrAt_eq_of_covers 7 (res_vc m c) (by decide +kernel) fun t _ y => ?_
  idx_vars y
  obtain rfl : y0 = 0 := Subsingleton.elim _ _
  have hi := (idx t).2.2.2.2.2.2.2
  have ht := t_lt t
  rw [after0_7]
  blk_simp
  have e : (win0_7.blk t).view.emb (ix4 0 y1 y2 y3) = (ix4 ⟨t.val, by omega⟩ y1 y2 y3 : S2x2x64x1024.Idx) := by blk_ext [hi]
  rw [e]
  exact tile_vc m c fin t y1 y2 y3
end Cert.Kernel4Ideal.ValueProof
end
-- ==== Proof.CmpRef.lean ====
/- The compression, as the reference writes it: its two results, entry by entry. -/
module

public import proofs.«01_k».proof.Proof.Gen.Reference4Ideal.Run
public import proofs.«01_k».proof.Proof.CmpSpec

@[expose] public section

set_option maxRecDepth 16384

noncomputable section

namespace Cert.Reference4Ideal.ValueProof
open Idealize.ShloMosaic.StableHlo Cert.Reference4Ideal Cert.Reference4Ideal.Gen Cert.Reference4Ideal.Value Idealize.ShloMosaic Idealize.ShloMosaic.TcCoe Idealize.SL.Sem Cert.Cmp
open Cert.Mix (gelu)

/-! ## The reference's stages -/

/-- The keys, 16 tokens to a row. -/
def rC0 (A0 : FVec Ideal S2x16384x2x2x64 .f32) : FVec Ideal S2x1024x16x2x64 .f32 :=
  shapeCast _ (shapeCast _ (extractStridedSlice S2x16384x1x2x64 ![0, 0, 0, 0, 0] A0 slices_S2x16384x2x2x64_S2x16384x1x2x64_0_0_0_0_0) shapeCasts_S2x16384x1x2x64_S2x16384x2x64) shapeCasts_S2x16384x2x64_S2x1024x16x2x64
def rP0 (A2 : FVec Ideal S2x32x64 .f32) : FVec Ideal S32x64 .f32 := shapeCast _ (extractStridedSlice S1x32x64 ![0, 0, 0] A2 slices_S2x32x64_S1x32x64_0_0_0) shapeCasts_S1x32x64_S32x64
def rW0 (A3 : FVec Ideal S2x2048x128 .f32) : FVec Ideal S2048x128 .f32 := shapeCast _ (extractStridedSlice S1x2048x128 ![0, 0, 0] A3 slices_S2x2048x128_S1x2048x128_0_0_0) shapeCasts_S1x2048x128_S2048x128
def rV0 (A4 : FVec Ideal S2x128x64 .f32) : FVec Ideal S128x64 .f32 := shapeCast _ (extractStridedSlice S1x128x64 ![0, 0, 0] A4 slices_S2x128x64_S1x128x64_0_0_0) shapeCasts_S1x128x64_S128x64
/-- The values, 16 tokens to a row. -/
def rC1 (A0 : FVec Ideal S2x16384x2x2x64 .f32) : FVec Ideal S2x1024x16x2x64 .f32 :=
  shapeCast _ (shapeCast _ (extractStridedSlice S2x16384x1x2x64 ![0, 0, 1, 0, 0] A0 slices_S2x16384x2x2x64_S2x16384x1x2x64_0_0_1_0_0) shapeCasts_S2x16384x1x2x64_S2x16384x2x64) shapeCasts_S2x16384x2x64_S2x1024x16x2x64
def rP1 (A2 : FVec Ideal S2x32x64 .f32) : FVec Ideal S32x64 .f32 := shapeCast _ (extractStridedSlice S1x32x64 ![1, 0, 0] A2 slices_S2x32x64_S1x32x64_1_0_0) shapeCasts_S1x32x64_S32x64
def rW1 (A3 : FVec Ideal S2x2048x128 .f32) : FVec Ideal S2048x128 .f32 := shapeCast _ (extractStridedSlice S1x2048x128 ![1, 0, 0] A3 slices_S2x2048x128_S1x2048x128_1_0_0) shapeCasts_S1x2048x128_S2048x128
def rV1 (A4 : FVec Ideal S2x128x64 .f32) : FVec Ideal S128x64 .f32 := shapeCast _ (extractStridedSlice S1x128x64 ![1, 0, 0] A4 slices_S2x128x64_S1x128x64_1_0_0) shapeCasts_S1x128x64_S128x64
/-- The rows of 32 tokens, with their positions. -/
def rX (C : FVec Ideal S2x1024x16x2x64 .f32) (E : FVec Ideal S32x64 .f32) : FVec Ideal S2x1024x2x2048 .f32 :=
  shapeCast _ (transpose S2x1024x2x32x64 [0, 1, 3, 2, 4] (addf (concatenate S2x1024x32x2x64 2 [⟨S2x1024x16x2x64, C⟩, ⟨S2x1024x16x2x64, (concatenate S2x1024x16x2x64 1 [⟨S2x1023x16x2x64, (extractStridedSlice S2x1023x16x2x64 ![0, 1, 0, 0, 0] C slices_S2x1024x16x2x64_S2x1023x16x2x64_0_1_0_0_0)⟩, ⟨S2x1x16x2x64, (extractStridedSlice S2x1x16x2x64 ![0, 0, 0, 0, 0] C slices_S2x1024x16x2x64_S2x1x16x2x64_0_0_0_0_0)⟩] concatenates_S2x1023x16x2x64_S2x1x16x2x64_S2x1024x16x2x64_d1)⟩] concatenates_S2x1024x16x2x64_S2x1024x16x2x64_S2x1024x32x2x64_d2) (broadcastInDim S2x1024x32x2x64 ![0, 1, 2, 3, 4] bcast_S1x1x32x1x64_S2x1024x32x2x64_0_1_2_3_4 (broadcastInDim S1x1x32x1x64 ![2, 4] bcast_S32x64_S1x1x32x1x64_2_4 E))) transposes_S2x1024x32x2x64_S2x1024x2x32x64_0_1_3_2_4) shapeCasts_S2x1024x2x32x64_S2x1024x2x2048
/-- The hidden channels before their nonlinearity. -/
def rZ (X : FVec Ideal S2x1024x2x2048 .f32) (W : FVec Ideal S2048x128 .f32) : FVec Ideal S2x1024x2x128 .f32 :=
  Host.dotGeneral dot_S2x1024x2x2048_S2048x128_S2x1024x2x128_3_0_012_1_n_n none X W
/-- The compressed rows. -/
def rO (Z : FVec Ideal S2x1024x2x128 .f32) (V : FVec Ideal S128x64 .f32) : FVec Ideal S2x1024x2x64 .f32 :=
  Host.dotGeneral dot_S2x1024x2x128_S128x64_S2x1024x2x64_3_0_012_1_n_n none (mulf Z (mulf (broadcastInDim S2x1024x2x128 ![] bcast_S_S2x1024x2x128 (constant S_ .f32 0x3F000000#32)) (addf (broadcastInDim S2x1024x2x128 ![] bcast_S_S2x1024x2x128 (constant S_ .f32 0x3F800000#32)) (Host.tanh (mulf (broadcastInDim S2x1024x2x128 ![] bcast_S_S2x1024x2x128 (constant S_ .f32 0x3F4C422A#32)) (addf Z (mulf (broadcastInDim S2x1024x2x128 ![] bcast_S_S2x1024x2x128 (constant S_ .f32 0x3D372713#32)) (mulf (mulf Z Z) Z)))))))) V
/-- The keys. -/
def r_kc (O : FVec Ideal S2x1024x2x64 .f32) (A1 : FVec Ideal S3x64 .f32) : FVec Ideal S2x2x1024x128 .bf16 :=
  truncf .bf16 (concatenate S2x2x1024x128 3 [⟨S2x2x1024x64, (transpose S2x2x1024x64 [0, 2, 1, 3] (mulf (mulf O (broadcastInDim S2x1024x2x64 ![0, 1, 2, 3] bcast_S2x1024x2x1_S2x1024x2x64_0_1_2_3 (Host.rsqrt (addf (Host.divf (broadcastInDim S2x1024x2x1 ![0, 1, 2] bcast_S2x1024x2_S2x1024x2x1_0_1_2 (Host.reduceAdd (mulf O O) (constant S_ .f32 0x00000000#32) reducesTo_S2x1024x2x64_S2x1024x2_d3 h_S_)) (broadcastInDim S2x1024x2x1 ![] bcast_S_S2x1024x2x1 (constant S_ .f32 0x42800000#32))) (broadcastInDim S2x1024x2x1 ![] bcast_S_S2x1024x2x1 (constant S_ .f32 0x358637BD#32)))))) (broadcastInDim S2x1024x2x64 ![0, 1, 2, 3] bcast_S1x1x1x64_S2x1024x2x64_0_1_2_3 (broadcastInDim S1x1x1x64 ![3] bcast_S64_S1x1x1x64_3 (shapeCast _ (extractStridedSlice S1x64 ![0, 0] A1 slices_S3x64_S1x64_0_0) shapeCasts_S1x64_S64)))) transposes_S2x1024x2x64_S2x2x1024x64_0_2_1_3)⟩, ⟨S2x2x1024x64, (broadcastInDim S2x2x1024x64 ![] bcast_S_S2x2x1024x64 (constant S_ .f32 0x00000000#32))⟩] concatenates_S2x2x1024x64_S2x2x1024x64_S2x2x1024x128_d3) bitsLt_bf16_f32
/-- The values. -/
def r_vc (O : FVec Ideal S2x1024x2x64 .f32) : FVec Ideal S2x2x64x1024 .bf16 :=
  truncf .bf16 (transpose S2x2x64x1024 [0, 2, 3, 1] O transposes_S2x1024x2x64_S2x2x64x1024_0_2_3_1) bitsLt_bf16_f32

theorem x_at (C : FVec Ideal S2x1024x16x2x64 .f32) (E : FVec Ideal S32x64 .f32) (P : Args) (t : Fin 2) (hC : ∀ (b : Fin 2) (i : Fin 1024) (u : Fin 16) (h : Fin 2) (d : Fin 64), (C (ix5 b i u h d) : EReal) = P.kv b ⟨16 * i + u, by omega⟩ t h d)
    (hE : ∀ (u : Fin 32) (d : Fin 64), (E (ix2 u d) : EReal) = P.pos t u d) (b : Fin 2) (i : Fin 1024) (h : Fin 2) (r : Fin 2048) : (rX C E (ix4 b i h r) : EReal) = P.x t b i h r + P.p t r := by
  pointwise [rX]
  simp only [hC, hE]
  unfold Args.x Args.p
  have e : ∀ s s' : Fin 16384, s.val = s'.val → P.kv b s t h ⟨r % 64, by omega⟩ = P.kv b s' t h ⟨r % 64, by omega⟩ := fun s s' q => congrArg (fun s => P.kv b s t h ⟨r % 64, by omega⟩) (Fin.ext q)
  refine congrArg₂ _ ?_ rfl
  split_ifs
  all_goals exact e _ _ (by simp only; omega)
theorem z_at (X : FVec Ideal S2x1024x2x2048 .f32) (W : FVec Ideal S2048x128 .f32) (b : Fin 2) (i : Fin 1024) (h : Fin 2) (e : Fin 128) :
    (rZ X W (ix4 b i h e) : EReal) = ∑ r : Fin 2048, X (ix4 b i h r) * W (ix2 r e) := by
  pointwise [rZ]
theorem o_at (Z : FVec Ideal S2x1024x2x128 .f32) (V : FVec Ideal S128x64 .f32) (b : Fin 2) (i : Fin 1024) (h : Fin 2) (d : Fin 64) :
    (rO Z V (ix4 b i h d) : EReal) = ∑ e : Fin 128, gelu (Z (ix4 b i h e)) * V (ix2 e d) := by
  pointwise [rO]
  rfl
theorem kc_at (O : FVec Ideal S2x1024x2x64 .f32) (A1 : FVec Ideal S3x64 .f32) (P : Args) (hO : ∀ (b : Fin 2) (i : Fin 1024) (h : Fin 2) (d : Fin 64), (O (ix4 b i h d) : EReal) = P.out 0 b i h d)
    (hk : ∀ d : Fin 64, (A1 (ix2 0 d) : EReal) = P.kn d) (b h : Fin 2) (i : Fin 1024) (l : Fin 128) : (r_kc O A1 (ix4 b h i l) : EReal) = P.kc b h i l := by
  pointwise [r_kc]
  unfold Args.kc
  by_cases hl : l.val < 64
  · simp only [dif_pos hl, hO, hk]
  · simp only [dif_neg hl]
theorem vc_at (O : FVec Ideal S2x1024x2x64 .f32) (b h : Fin 2) (d : Fin 64) (i : Fin 1024) : (r_vc O (ix4 b h d i) : EReal) = O (ix4 b i h d) := by
  pointwise [r_vc]

variable (m : (ℓ : Loc nD τ sig) → Buf (Elt Ideal) ℓ)

/-- The arguments. -/
def args (c : Dev nD) : Args where
  kv b s t h d := (show FVec Ideal S2x16384x2x2x64 .f32 from m ((c.tc : Thread nD τ).loc main_arg0)) (ix5 b s t h d)
  kn d := (show FVec Ideal S3x64 .f32 from m ((c.tc : Thread nD τ).loc main_arg1)) (ix2 0 d)
  pos t u d := (show FVec Ideal S2x32x64 .f32 from m ((c.tc : Thread nD τ).loc main_arg2)) (ix3 t u d)
  w1 t r e := (show FVec Ideal S2x2048x128 .f32 from m ((c.tc : Thread nD τ).loc main_arg3)) (ix3 t r e)
  w2 t e d := (show FVec Ideal S2x128x64 .f32 from m ((c.tc : Thread nD τ).loc main_arg4)) (ix3 t e d)
/-- The compressed keys, before what follows. -/
def out0 (c : Dev nD) : FVec Ideal S2x1024x2x64 .f32 :=
  rO (rZ (rX (rC0 (m ((c.tc : Thread nD τ).loc main_arg0))) (rP0 (m ((c.tc : Thread nD τ).loc main_arg2)))) (rW0 (m ((c.tc : Thread nD τ).loc main_arg3)))) (rV0 (m ((c.tc : Thread nD τ).loc main_arg4)))
theorem C0_at (c : Dev nD) (b : Fin 2) (i : Fin 1024) (u : Fin 16) (h : Fin 2) (d : Fin 64) : (rC0 (m ((c.tc : Thread nD τ).loc main_arg0)) (ix5 b i u h d) : EReal) = (args m c).kv b ⟨16 * i + u, by omega⟩ 0 h d := by
  pointwise [rC0, args]
  exact congrArg (fun s => (show FVec Ideal S2x16384x2x2x64 .f32 from m ((c.tc : Thread nD τ).loc main_arg0)) (ix5 b s 0 h d)) (Fin.ext (by simp only; omega))
theorem P0_at (c : Dev nD) (u : Fin 32) (d : Fin 64) : (rP0 (m ((c.tc : Thread nD τ).loc main_arg2)) (ix2 u d) : EReal) = (args m c).pos 0 u d := by
  pointwise [rP0, args]
theorem W0_at (c : Dev nD) (r : Fin 2048) (e : Fin 128) : (rW0 (m ((c.tc : Thread nD τ).loc main_arg3)) (ix2 r e) : EReal) = (args m c).w1 0 r e := by
  pointwise [rW0, args]
theorem V0_at (c : Dev nD) (e : Fin 128) (d : Fin 64) : (rV0 (m ((c.tc : Thread nD τ).loc main_arg4)) (ix2 e d) : EReal) = (args m c).w2 0 e d := by
  pointwise [rV0, args]
theorem out0_at (c : Dev nD) (b : Fin 2) (i : Fin 1024) (h : Fin 2) (d : Fin 64) : (out0 m c (ix4 b i h d) : EReal) = (args m c).out 0 b i h d := by
  refine (o_at _ _ b i h d).trans (Finset.sum_congr rfl fun e _ => congrArg₂ _ (congrArg gelu ?_) (V0_at m c e d))
  exact (z_at _ _ b i h e).trans (Finset.sum_congr rfl fun r _ => congrArg₂ _ (x_at _ _ (args m c) 0 (C0_at m c) (P0_at m c) b i h r) (W0_at m c r e))
/-- The compressed values, before what follows. -/
def out1 (c : Dev nD) : FVec Ideal S2x1024x2x64 .f32 :=
  rO (rZ (rX (rC1 (m ((c.tc : Thread nD τ).loc main_arg0))) (rP1 (m ((c.tc : Thread nD τ).loc main_arg2)))) (rW1 (m ((c.tc : Thread nD τ).loc main_arg3)))) (rV1 (m ((c.tc : Thread nD τ).loc main_arg4)))
theorem C1_at (c : Dev nD) (b : Fin 2) (i : Fin 1024) (u : Fin 16) (h : Fin 2) (d : Fin 64) : (rC1 (m ((c.tc : Thread nD τ).loc main_arg0)) (ix5 b i u h d) : EReal) = (args m c).kv b ⟨16 * i + u, by omega⟩ 1 h d := by
  pointwise [rC1, args]
  exact congrArg (fun s => (show FVec Ideal S2x16384x2x2x64 .f32 from m ((c.tc : Thread nD τ).loc main_arg0)) (ix5 b s 1 h d)) (Fin.ext (by simp only; omega))
theorem P1_at (c : Dev nD) (u : Fin 32) (d : Fin 64) : (rP1 (m ((c.tc : Thread nD τ).loc main_arg2)) (ix2 u d) : EReal) = (args m c).pos 1 u d := by
  pointwise [rP1, args]
theorem W1_at (c : Dev nD) (r : Fin 2048) (e : Fin 128) : (rW1 (m ((c.tc : Thread nD τ).loc main_arg3)) (ix2 r e) : EReal) = (args m c).w1 1 r e := by
  pointwise [rW1, args]
theorem V1_at (c : Dev nD) (e : Fin 128) (d : Fin 64) : (rV1 (m ((c.tc : Thread nD τ).loc main_arg4)) (ix2 e d) : EReal) = (args m c).w2 1 e d := by
  pointwise [rV1, args]
theorem out1_at (c : Dev nD) (b : Fin 2) (i : Fin 1024) (h : Fin 2) (d : Fin 64) : (out1 m c (ix4 b i h d) : EReal) = (args m c).out 1 b i h d := by
  refine (o_at _ _ b i h d).trans (Finset.sum_congr rfl fun e _ => congrArg₂ _ (congrArg gelu ?_) (V1_at m c e d))
  exact (z_at _ _ b i h e).trans (Finset.sum_congr rfl fun r _ => congrArg₂ _ (x_at _ _ (args m c) 1 (C1_at m c) (P1_at m c) b i h r) (W1_at m c r e))
def res_kc (c : Dev nD) : FVec Ideal S2x2x1024x128 .bf16 := fun i => (args m c).kc (i 0) (i 1) (i 2) (i 3)
theorem result_kc (c : Dev nD) : r_kc (out0 m c) (m ((c.tc : Thread nD τ).loc main_arg1)) = res_kc m c := by
  funext i
  idx_vars i
  exact kc_at _ _ (args m c) (out0_at m c) (fun _ => rfl) _ _ _ _
def res_vc (c : Dev nD) : FVec Ideal S2x2x64x1024 .bf16 := fun i => (args m c).vc (i 0) (i 1) (i 2) (i 3)
theorem result_vc (c : Dev nD) : r_vc (out1 m c) = res_vc m c := by
  funext i
  idx_vars i
  exact (vc_at _ _ _ _ _).trans (out1_at m c _ _ _ _)

/-- The reference's run, its results named. -/
theorem run_res (ρ : Dev nD → PrngReg) :
    θ_run defs (onTc (τ := τ) (main (F := Ideal))) ⟨m, fun _ => 0, ρ⟩ fun r => ∀ c : Dev nD,
      r.2.mem ((c.tc : Thread nD τ).loc main_v85) = res_kc m c
      ∧ r.2.mem ((c.tc : Thread nD τ).loc main_v86) = res_vc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Cert.Reference4Ideal.Value.run m ρ) fun r h c => by
    obtain ⟨hk, hv, kept⟩ := h c
    exact ⟨hk.trans (result_kc m c), hv.trans (result_vc m c), kept⟩

end Cert.Reference4Ideal.ValueProof
end
-- ==== Proof.CmpPre.lean ====
/- What the compression's precondition says of its arguments: every entry of the columns to compress, the positions and the
   weights is a real number. -/
module

public import proofs.«01_k».proof.Defs
public import proofs.«01_k».proof.Proof.CmpBlocks
public import proofs.«01_k».proof.Proof.CmpRef
public import proofs.«01_k».proof.Proof.InPre

@[expose] public section

set_option maxRecDepth 16384

noncomputable section

namespace Cert.Cmp

open Idealize.ShloMosaic Idealize.SL.Sem Cert
open Cert.InProj (fin_of_lt)

theorem preFacts : Cert.Pre_finite_cmp.Facts where
  bcast_S_S2x16384x2x2x64 := by decide
  bcast_S_S2x32x64 := by decide
  bcast_S_S2x2048x128 := by decide
  slices_S2x128x64_S1x128x64_0_0_0 := by decide
  shapeCasts_S1x128x64_S128x64 := by decide
  bcast_S_S128x64 := by decide

theorem finite_of_pre (m : (ℓ : Loc Cert.Kernel4Ideal.nD Cert.Kernel4Ideal.τ Cert.Kernel4Ideal.sig) → Buf (Elt Ideal) ℓ)
    (h : Pre_Kernel4Ideal_finite_cmp (hPre_finite_cmp := preFacts) m) (c : Dev Cert.Kernel4Ideal.nD) : (Cert.Kernel4Ideal.ValueProof.args m c).Finite := by
  obtain ⟨hx, hp, hw, hv⟩ := h c
  refine ⟨fun b s t h d => fin_of_lt _ (congrFun hx (ix5 b s t h d)), fun t u d => fin_of_lt _ (congrFun hp (ix3 t u d)),
    fun t r e => fin_of_lt _ (congrFun hw (ix3 t r e)), fun e d => ?_⟩
  have hf := fin_of_lt _ (congrFun hv (ix2 e d))
  refine (congrArg Cert.InProj.Fin? ?_).mp hf
  pointwise []
  rfl

/-- The two programs' arguments are the same arrays. -/
theorem args_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) :
    Cert.Reference4Ideal.ValueProof.args m' c = Cert.Kernel4Ideal.ValueProof.args m c := by
  obtain ⟨h0, h1, h2, h3, h4⟩ := h
  unfold Cert.Reference4Ideal.ValueProof.args
  simp only [h0, h1, h2, h3, h4]
  rfl

end Cert.Cmp

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.KernelRuns
public import proofs.«01_k».proof.Proof.RefValue
public import proofs.«01_k».proof.Proof.MlpKernel
public import proofs.«01_k».proof.Proof.MlpRef
public import proofs.«01_k».proof.Proof.InFinal
public import proofs.«01_k».proof.Proof.InRef
public import proofs.«01_k».proof.Proof.InPre
public import proofs.«01_k».proof.Proof.CmpFinal
public import proofs.«01_k».proof.Proof.CmpRef
public import proofs.«01_k».proof.Proof.CmpPre
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem Cert.Kernel

theorem frame_Kernel : Cert.quiescent_Kernel (hKernel := Cert.Kernel.Gen.facts) := by
  intro m g _
  exact Cert.Kernel.Gen.frame m g
theorem frame_KernelIdeal : Cert.quiescent_KernelIdeal (hKernelIdeal := Cert.KernelIdeal.Gen.facts) := by
  intro m g _
  exact Cert.KernelIdeal.Gen.frame m g
theorem frame_ReferenceIdeal : Cert.quiescent_ReferenceIdeal (hReferenceIdeal := Cert.ReferenceIdeal.Gen.facts) := by
  intro m g _
  exact θ_run_mono (Cert.ReferenceIdeal.ValueProof.run_res m g) fun r h => ⟨fun c => (h c).2.2, sem_eq_zero_of_no_sems rfl _⟩
theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from Cert.ReferenceIdeal.ValueProof.run_res m' g'
    · rw [Cert.KernelIdeal.ValueProof.final15]
      unfold Cert.ReferenceIdeal.ValueProof.resL Cert.ReferenceIdeal.ValueProof.lru Cert.ReferenceIdeal.ValueProof.nrm
      obtain ⟨h0, h1, h2, h3, h4, h5, h6, h7, h8, h9, h10, h11, h12, h13⟩ := hagree c
      simp only [h0, h2, h3, h4, h5, h6, h7, h8, h13]
      rfl
    · rw [Cert.KernelIdeal.ValueProof.final16]
      unfold Cert.ReferenceIdeal.ValueProof.resC Cert.ReferenceIdeal.ValueProof.cvm Cert.ReferenceIdeal.ValueProof.nrm
      obtain ⟨h0, h1, h2, h3, h4, h5, h6, h7, h8, h9, h10, h11, h12, h13⟩ := hagree c
      simp only [h1, h9, h10, h11, h12, h13]
      rfl

theorem frame_Kernel2 : Cert.quiescent_Kernel2 (hKernel2 := Cert.Kernel2.Gen.facts) := by
  intro m g _
  exact Cert.Kernel2.Gen.frame m g
theorem frame_Kernel2Ideal : Cert.quiescent_Kernel2Ideal (hKernel2Ideal := Cert.Kernel2Ideal.Gen.facts) := by
  intro m g _
  exact Cert.Kernel2Ideal.Gen.frame m g
theorem frame_Reference2Ideal : Cert.quiescent_Reference2Ideal (hReference2Ideal := Cert.Reference2Ideal.Gen.facts) := by
  intro m g _
  exact θ_run_mono (Cert.Reference2Ideal.Value.run m g) fun r h => ⟨fun c => (h c).2, sem_eq_zero_of_no_sems rfl _⟩
theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    rw [Cert.Kernel2Ideal.ValueProof.final, Cert.Reference2Ideal.ValueProof.result]
    unfold Cert.Reference2Ideal.ValueProof.res Cert.Reference2Ideal.ValueProof.tok
    obtain ⟨h0, h1, h2, h3, h4, h5, h6, h7, h8⟩ := hagree c
    simp only [h0, h1, h2, h3, h4, h5, h6, h7, h8]
    rfl

theorem frame_Kernel3 : Cert.quiescent_Kernel3 (hKernel3 := Cert.Kernel3.Gen.facts) := by
  intro m g _
  exact Cert.Kernel3.Gen.frame m g
theorem frame_Kernel3Ideal : Cert.quiescent_Kernel3Ideal (hKernel3Ideal := Cert.Kernel3Ideal.Gen.facts) := by
  intro m g _
  exact Cert.Kernel3Ideal.Gen.frame m g
theorem frame_Kernel3Ideal_pre : Cert.quiescent_Kernel3Ideal_pre_finite (hKernel3Ideal := Cert.Kernel3Ideal.Gen.facts) (hPre_finite := Cert.InProj.preFacts) := by
  intro m g _
  exact Cert.Kernel3Ideal.Gen.frame m g
theorem frame_Reference3Ideal : Cert.quiescent_Reference3Ideal (hReference3Ideal := Cert.Reference3Ideal.Gen.facts) := by
  intro m g _
  exact θ_run_mono (Cert.Reference3Ideal.ValueProof.run_res m g) fun r h => ⟨fun c => (h c).2.2.2.2.2.2.2.2.2, sem_eq_zero_of_no_sems rfl _⟩
theorem frame_Reference3Ideal_pre : Cert.quiescent_Reference3Ideal_pre_finite (hReference3Ideal := Cert.Reference3Ideal.Gen.facts) (hPre_finite := Cert.InProj.preFacts) := by
  intro m g _
  exact frame_Reference3Ideal m g trivial
theorem algebraic3 : Cert.algebraic_Kernel3Ideal_Reference3Ideal_pre_finite (hKernel3Ideal := Cert.Kernel3Ideal.Gen.facts) (hReference3Ideal := Cert.Reference3Ideal.Gen.facts)
    (hPre_finite := Cert.InProj.preFacts) := by
  pair_intro
  · run_from Cert.Kernel3Ideal.Value.run_blocks m g
  · run_from Cert.Reference3Ideal.ValueProof.run_res m' g'
    · rw [Cert.Kernel3Ideal.ValueProof.final_q m c (Cert.InProj.finite_of_pre m hpre c)]
      unfold Cert.Reference3Ideal.ValueProof.res_q
      rw [Cert.InProj.args_eq m m' c (hagree c)]
      rfl
    · rw [Cert.Kernel3Ideal.ValueProof.final_cmp m c]
      unfold Cert.Reference3Ideal.ValueProof.res_cmp
      rw [Cert.InProj.args_eq m m' c (hagree c)]
      rfl
    · rw [Cert.Kernel3Ideal.ValueProof.final_kslc m c (Cert.InProj.finite_of_pre m hpre c)]
      unfold Cert.Reference3Ideal.ValueProof.res_kslc
      rw [Cert.InProj.args_eq m m' c (hagree c)]
      rfl
    · rw [Cert.Kernel3Ideal.ValueProof.final_kwin m c (Cert.InProj.finite_of_pre m hpre c)]
      unfold Cert.Reference3Ideal.ValueProof.res_kwin
      rw [Cert.InProj.args_eq m m' c (hagree c)]
      rfl
    · rw [Cert.Kernel3Ideal.ValueProof.final_vslc m c]
      unfold Cert.Reference3Ideal.ValueProof.res_vslc
      rw [Cert.InProj.args_eq m m' c (hagree c)]
      rfl
    · rw [Cert.Kernel3Ideal.ValueProof.final_vwin m c]
      unfold Cert.Reference3Ideal.ValueProof.res_vwin
      rw [Cert.InProj.args_eq m m' c (hagree c)]
      rfl
    · rw [Cert.Kernel3Ideal.ValueProof.final_lru m c]
      unfold Cert.Reference3Ideal.ValueProof.res_lru
      rw [Cert.InProj.args_eq m m' c (hagree c)]
      rfl
    · rw [Cert.Kernel3Ideal.ValueProof.final_cv m c]
      unfold Cert.Reference3Ideal.ValueProof.res_cv
      rw [Cert.InProj.args_eq m m' c (hagree c)]
      rfl
    · rw [Cert.Kernel3Ideal.ValueProof.final_gates m c]
      unfold Cert.Reference3Ideal.ValueProof.res_gates
      rw [Cert.InProj.args_eq m m' c (hagree c)]
      rfl

theorem frame_Kernel4 : Cert.quiescent_Kernel4 (hKernel4 := Cert.Kernel4.Gen.facts) := by
  intro m g _
  exact Cert.Kernel4.Gen.frame m g
theorem frame_Kernel4Ideal : Cert.quiescent_Kernel4Ideal (hKernel4Ideal := Cert.Kernel4Ideal.Gen.facts) := by
  intro m g _
  exact Cert.Kernel4Ideal.Gen.frame m g
theorem frame_Kernel4Ideal_pre : Cert.quiescent_Kernel4Ideal_pre_finite_cmp (hKernel4Ideal := Cert.Kernel4Ideal.Gen.facts) (hPre_finite_cmp := Cert.Cmp.preFacts) := by
  intro m g _
  exact Cert.Kernel4Ideal.Gen.frame m g
theorem frame_Reference4Ideal : Cert.quiescent_Reference4Ideal (hReference4Ideal := Cert.Reference4Ideal.Gen.facts) := by
  intro m g _
  exact θ_run_mono (Cert.Reference4Ideal.ValueProof.run_res m g) fun r h => ⟨fun c => (h c).2.2, sem_eq_zero_of_no_sems rfl _⟩
theorem frame_Reference4Ideal_pre : Cert.quiescent_Reference4Ideal_pre_finite_cmp (hReference4Ideal := Cert.Reference4Ideal.Gen.facts) (hPre_finite_cmp := Cert.Cmp.preFacts) := by
  intro m g _
  exact frame_Reference4Ideal m g trivial
theorem algebraic4 : Cert.algebraic_Kernel4Ideal_Reference4Ideal_pre_finite_cmp (hKernel4Ideal := Cert.Kernel4Ideal.Gen.facts) (hReference4Ideal := Cert.Reference4Ideal.Gen.facts)
    (hPre_finite_cmp := Cert.Cmp.preFacts) := by
  pair_intro
  · run_from Cert.Kernel4Ideal.Value.run_blocks m g
  · run_from Cert.Reference4Ideal.ValueProof.run_res m' g'
    · rw [Cert.Kernel4Ideal.ValueProof.final_kc m c (Cert.Cmp.finite_of_pre m hpre c)]
      unfold Cert.Reference4Ideal.ValueProof.res_kc
      rw [Cert.Cmp.args_eq m m' c (hagree c)]
      rfl
    · rw [Cert.Kernel4Ideal.ValueProof.final_vc m c (Cert.Cmp.finite_of_pre m hpre c)]
      unfold Cert.Reference4Ideal.ValueProof.res_vc
      rw [Cert.Cmp.args_eq m m' c (hagree c)]
      rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.InProj.preFacts, Cert.Cmp.preFacts,
  frame_Kernel, frame_KernelIdeal, frame_ReferenceIdeal, frame_Kernel2, frame_Kernel2Ideal, frame_Reference2Ideal,
  frame_Kernel3, frame_Kernel3Ideal, frame_Kernel3Ideal_pre, frame_Reference3Ideal, frame_Reference3Ideal_pre,
  frame_Kernel4, frame_Kernel4Ideal, frame_Kernel4Ideal_pre, frame_Reference4Ideal, frame_Reference4Ideal_pre,
  trivial, algebraic, trivial, algebraic2, trivial, algebraic3, trivial, algebraic4⟩

end Cert.Proof

end
